-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S500000x4 : Shape := ⟨2, ![500000, 4]⟩
abbrev S499968x4 : Shape := ⟨2, ![499968, 4]⟩
abbrev S3906x128x4 : Shape := ⟨3, ![3906, 128, 4]⟩
abbrev S3906x4x128 : Shape := ⟨3, ![3906, 4, 128]⟩
abbrev S32x4 : Shape := ⟨2, ![32, 4]⟩
abbrev S31250x4x128 : Shape := ⟨3, ![31250, 4, 128]⟩
abbrev S8x4x128 : Shape := ⟨3, ![8, 4, 128]⟩
abbrev S64x4x128 : Shape := ⟨3, ![64, 4, 128]⟩
abbrev S16 : Shape := ⟨1, ![16]⟩
abbrev S_ : Shape := ⟨0, ![]⟩
abbrev S1x1x16 : Shape := ⟨3, ![1, 1, 16]⟩
abbrev S2x4x128 : Shape := ⟨3, ![2, 4, 128]⟩
abbrev S18x4x128 : Shape := ⟨3, ![18, 4, 128]⟩
abbrev S31250x128x4 : Shape := ⟨3, ![31250, 128, 4]⟩
abbrev S4000000x4 : Shape := ⟨2, ![4000000, 4]⟩

abbrev nBuf : Table → Nat
  | .hbm => 8
  | .local .scVector .vmem => 3
  | _ => 0

abbrev bufTy : (tb : Table) → Fin (nBuf tb) → BufTy
  | .hbm, ⟨0, _⟩ => ⟨S500000x4, .i32⟩
  | .hbm, ⟨1, _⟩ => ⟨S499968x4, .i32⟩
  | .hbm, ⟨2, _⟩ => ⟨S3906x128x4, .i32⟩
  | .hbm, ⟨3, _⟩ => ⟨S3906x4x128, .i32⟩
  | .hbm, ⟨4, _⟩ => ⟨S32x4, .i32⟩
  | .hbm, ⟨5, _⟩ => ⟨S31250x4x128, .i32⟩
  | .hbm, ⟨6, _⟩ => ⟨S31250x128x4, .i32⟩
  | .hbm, ⟨7, _⟩ => ⟨S4000000x4, .i32⟩
  | .local .scVector .vmem, ⟨0, _⟩ => ⟨S8x4x128, .i32⟩
  | .local .scVector .vmem, ⟨1, _⟩ => ⟨S32x4, .i32⟩
  | .local .scVector .vmem, ⟨2, _⟩ => ⟨S64x4x128, .i32⟩
  | _, _ => ⟨S500000x4, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v2_scv : Ref sig .scVector := ⟨.hbm, 3, rfl⟩
abbrev main_v3_scv : Ref sig .scVector := ⟨.hbm, 4, rfl⟩
abbrev main_v4_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_19 : BitVec 32 := 0#32
  let c15_i32 : BitVec 32 := 15#32
  let v63 : BitVec 32 := Scalar.addi c0_i32_19 c15_i32
  let c1_i32_20 : BitVec 32 := 1#32
  ⟨c0_i32_19, v63, c1_i32_20⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_19 : BitVec 32 := 0#32
  let c1_i32_20 : BitVec 32 := 1#32
  let arg8 : BitVec 32 := Scf.iv c0_i32_19 c1_i32_20 k0_t1
  let v70 : BitVec 32 := Scalar.muli c32_i32 arg8
  let v71 : BitVec 32 := Scalar.addi v1 v70
  let c8_i32_26 : BitVec 32 := 8#32
  let v72 : BitVec 32 := Scalar.muli v71 c8_i32_26
  let c0_i32_32_r0 : BitVec 32 := 0#32
  let c0_i32_33_r0 : BitVec 32 := 0#32
  ![v72.toNat, 0, 0]
@[reducible] def k0_t2_loop : Scf.Loop 32 :=
  let c0_i32_28 : BitVec 32 := 0#32
  let c64_i32 : BitVec 32 := 64#32
  let v73 : BitVec 32 := Scalar.addi c0_i32_28 c64_i32
  let c1_i32_29 : BitVec 32 := 1#32
  ⟨c0_i32_28, v73, c1_i32_29⟩
def k0_off2 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v87 : Index := Scalar.indexCast arg9
  let c0_i32_34 : BitVec 32 := 0#32
  let v88 : Index := Scalar.indexCast c0_i32_34
  let c0 : Index := 0#32
  ![v87.toNat, 0, 0]
def k0_off3 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v94 : Index := Scalar.indexCast arg9
  let c1_i32_36 : BitVec 32 := 1#32
  let v95 : Index := Scalar.indexCast c1_i32_36
  let c0_37 : Index := 0#32
  ![v94.toNat, 1, 0]
def k0_off4 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v101 : Index := Scalar.indexCast arg9
  let c2_i32_39 : BitVec 32 := 2#32
  let v102 : Index := Scalar.indexCast c2_i32_39
  let c0_40 : Index := 0#32
  ![v101.toNat, 2, 0]

def k0_chk1 (v59 : IVec S16 32) (v60 : IVec S16 32) (v61 : IVec S16 32) (v62 : IVec S16 32) (v80 : IVec S16 32) (v82 : IVec S16 32) : Prop :=
  (∀ a x, ((![v80, v59, v82] : Fin 3 → IVec S16 32) a x).toNat < S8x4x128.size a) ∧
  (∀ a x, ((![v80, v60, v82] : Fin 3 → IVec S16 32) a x).toNat < S8x4x128.size a) ∧
  (∀ a x, ((![v80, v61, v82] : Fin 3 → IVec S16 32) a x).toNat < S8x4x128.size a) ∧
  (∀ a x, ((![v80, v62, v82] : Fin 3 → IVec S16 32) a x).toNat < S8x4x128.size a)
theorem k0_idx1_inb : ∀ (v59 : IVec S16 32) (v60 : IVec S16 32) (v61 : IVec S16 32) (v62 : IVec S16 32) (v80 : IVec S16 32) (v82 : IVec S16 32) (k0_hw1 : k0_chk1 v59 v60 v61 v62 v80 v82), ∀ a x, ((![v80, v59, v82] : Fin 3 → IVec S16 32) a x).toNat < S8x4x128.size a := fun v59 v60 v61 v62 v80 v82 k0_hw1 => k0_hw1.1
theorem k0_idx2_inb : ∀ (v59 : IVec S16 32) (v60 : IVec S16 32) (v61 : IVec S16 32) (v62 : IVec S16 32) (v80 : IVec S16 32) (v82 : IVec S16 32) (k0_hw1 : k0_chk1 v59 v60 v61 v62 v80 v82), ∀ a x, ((![v80, v60, v82] : Fin 3 → IVec S16 32) a x).toNat < S8x4x128.size a := fun v59 v60 v61 v62 v80 v82 k0_hw1 => k0_hw1.2.1
theorem k0_idx3_inb : ∀ (v59 : IVec S16 32) (v60 : IVec S16 32) (v61 : IVec S16 32) (v62 : IVec S16 32) (v80 : IVec S16 32) (v82 : IVec S16 32) (k0_hw1 : k0_chk1 v59 v60 v61 v62 v80 v82), ∀ a x, ((![v80, v61, v82] : Fin 3 → IVec S16 32) a x).toNat < S8x4x128.size a := fun v59 v60 v61 v62 v80 v82 k0_hw1 => k0_hw1.2.2.1
theorem k0_idx4_inb : ∀ (v59 : IVec S16 32) (v60 : IVec S16 32) (v61 : IVec S16 32) (v62 : IVec S16 32) (v80 : IVec S16 32) (v82 : IVec S16 32) (k0_hw1 : k0_chk1 v59 v60 v61 v62 v80 v82), ∀ a x, ((![v80, v62, v82] : Fin 3 → IVec S16 32) a x).toNat < S8x4x128.size a := fun v59 v60 v61 v62 v80 v82 k0_hw1 => k0_hw1.2.2.2
def k0_off5 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v108 : Index := Scalar.indexCast arg9
  let c3_i32_42 : BitVec 32 := 3#32
  let v109 : Index := Scalar.indexCast c3_i32_42
  let c0_43 : Index := 0#32
  ![v108.toNat, 3, 0]
def k0_off6 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v122 : Index := Scalar.indexCast arg9
  let c0_i32_48 : BitVec 32 := 0#32
  let v123 : Index := Scalar.indexCast c0_i32_48
  let c16 : Index := 16#32
  ![v122.toNat, 0, 16]
def k0_off7 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v129 : Index := Scalar.indexCast arg9
  let c1_i32_50 : BitVec 32 := 1#32
  let v130 : Index := Scalar.indexCast c1_i32_50
  let c16_51 : Index := 16#32
  ![v129.toNat, 1, 16]
def k0_off8 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v136 : Index := Scalar.indexCast arg9
  let c2_i32_53 : BitVec 32 := 2#32
  let v137 : Index := Scalar.indexCast c2_i32_53
  let c16_54 : Index := 16#32
  ![v136.toNat, 2, 16]

def k0_chk2 (v59 : IVec S16 32) (v60 : IVec S16 32) (v61 : IVec S16 32) (v62 : IVec S16 32) (v115 : IVec S16 32) (v117 : IVec S16 32) : Prop :=
  (∀ a x, ((![v115, v59, v117] : Fin 3 → IVec S16 32) a x).toNat < S8x4x128.size a) ∧
  (∀ a x, ((![v115, v60, v117] : Fin 3 → IVec S16 32) a x).toNat < S8x4x128.size a) ∧
  (∀ a x, ((![v115, v61, v117] : Fin 3 → IVec S16 32) a x).toNat < S8x4x128.size a) ∧
  (∀ a x, ((![v115, v62, v117] : Fin 3 → IVec S16 32) a x).toNat < S8x4x128.size a)
theorem k0_idx5_inb : ∀ (v59 : IVec S16 32) (v60 : IVec S16 32) (v61 : IVec S16 32) (v62 : IVec S16 32) (v115 : IVec S16 32) (v117 : IVec S16 32) (k0_hw2 : k0_chk2 v59 v60 v61 v62 v115 v117), ∀ a x, ((![v115, v59, v117] : Fin 3 → IVec S16 32) a x).toNat < S8x4x128.size a := fun v59 v60 v61 v62 v115 v117 k0_hw2 => k0_hw2.1
theorem k0_idx6_inb : ∀ (v59 : IVec S16 32) (v60 : IVec S16 32) (v61 : IVec S16 32) (v62 : IVec S16 32) (v115 : IVec S16 32) (v117 : IVec S16 32) (k0_hw2 : k0_chk2 v59 v60 v61 v62 v115 v117), ∀ a x, ((![v115, v60, v117] : Fin 3 → IVec S16 32) a x).toNat < S8x4x128.size a := fun v59 v60 v61 v62 v115 v117 k0_hw2 => k0_hw2.2.1
theorem k0_idx7_inb : ∀ (v59 : IVec S16 32) (v60 : IVec S16 32) (v61 : IVec S16 32) (v62 : IVec S16 32) (v115 : IVec S16 32) (v117 : IVec S16 32) (k0_hw2 : k0_chk2 v59 v60 v61 v62 v115 v117), ∀ a x, ((![v115, v61, v117] : Fin 3 → IVec S16 32) a x).toNat < S8x4x128.size a := fun v59 v60 v61 v62 v115 v117 k0_hw2 => k0_hw2.2.2.1
theorem k0_idx8_inb : ∀ (v59 : IVec S16 32) (v60 : IVec S16 32) (v61 : IVec S16 32) (v62 : IVec S16 32) (v115 : IVec S16 32) (v117 : IVec S16 32) (k0_hw2 : k0_chk2 v59 v60 v61 v62 v115 v117), ∀ a x, ((![v115, v62, v117] : Fin 3 → IVec S16 32) a x).toNat < S8x4x128.size a := fun v59 v60 v61 v62 v115 v117 k0_hw2 => k0_hw2.2.2.2
def k0_off9 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v143 : Index := Scalar.indexCast arg9
  let c3_i32_56 : BitVec 32 := 3#32
  let v144 : Index := Scalar.indexCast c3_i32_56
  let c16_57 : Index := 16#32
  ![v143.toNat, 3, 16]
def k0_off10 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v157 : Index := Scalar.indexCast arg9
  let c0_i32_61 : BitVec 32 := 0#32
  let v158 : Index := Scalar.indexCast c0_i32_61
  let c32 : Index := 32#32
  ![v157.toNat, 0, 32]
def k0_off11 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v164 : Index := Scalar.indexCast arg9
  let c1_i32_63 : BitVec 32 := 1#32
  let v165 : Index := Scalar.indexCast c1_i32_63
  let c32_64 : Index := 32#32
  ![v164.toNat, 1, 32]
def k0_off12 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v171 : Index := Scalar.indexCast arg9
  let c2_i32_66 : BitVec 32 := 2#32
  let v172 : Index := Scalar.indexCast c2_i32_66
  let c32_67 : Index := 32#32
  ![v171.toNat, 2, 32]

def k0_chk3 (v59 : IVec S16 32) (v60 : IVec S16 32) (v61 : IVec S16 32) (v62 : IVec S16 32) (v150 : IVec S16 32) (v152 : IVec S16 32) : Prop :=
  (∀ a x, ((![v150, v59, v152] : Fin 3 → IVec S16 32) a x).toNat < S8x4x128.size a) ∧
  (∀ a x, ((![v150, v60, v152] : Fin 3 → IVec S16 32) a x).toNat < S8x4x128.size a) ∧
  (∀ a x, ((![v150, v61, v152] : Fin 3 → IVec S16 32) a x).toNat < S8x4x128.size a) ∧
  (∀ a x, ((![v150, v62, v152] : Fin 3 → IVec S16 32) a x).toNat < S8x4x128.size a)
theorem k0_idx9_inb : ∀ (v59 : IVec S16 32) (v60 : IVec S16 32) (v61 : IVec S16 32) (v62 : IVec S16 32) (v150 : IVec S16 32) (v152 : IVec S16 32) (k0_hw3 : k0_chk3 v59 v60 v61 v62 v150 v152), ∀ a x, ((![v150, v59, v152] : Fin 3 → IVec S16 32) a x).toNat < S8x4x128.size a := fun v59 v60 v61 v62 v150 v152 k0_hw3 => k0_hw3.1
theorem k0_idx10_inb : ∀ (v59 : IVec S16 32) (v60 : IVec S16 32) (v61 : IVec S16 32) (v62 : IVec S16 32) (v150 : IVec S16 32) (v152 : IVec S16 32) (k0_hw3 : k0_chk3 v59 v60 v61 v62 v150 v152), ∀ a x, ((![v150, v60, v152] : Fin 3 → IVec S16 32) a x).toNat < S8x4x128.size a := fun v59 v60 v61 v62 v150 v152 k0_hw3 => k0_hw3.2.1
theorem k0_idx11_inb : ∀ (v59 : IVec S16 32) (v60 : IVec S16 32) (v61 : IVec S16 32) (v62 : IVec S16 32) (v150 : IVec S16 32) (v152 : IVec S16 32) (k0_hw3 : k0_chk3 v59 v60 v61 v62 v150 v152), ∀ a x, ((![v150, v61, v152] : Fin 3 → IVec S16 32) a x).toNat < S8x4x128.size a := fun v59 v60 v61 v62 v150 v152 k0_hw3 => k0_hw3.2.2.1
theorem k0_idx12_inb : ∀ (v59 : IVec S16 32) (v60 : IVec S16 32) (v61 : IVec S16 32) (v62 : IVec S16 32) (v150 : IVec S16 32) (v152 : IVec S16 32) (k0_hw3 : k0_chk3 v59 v60 v61 v62 v150 v152), ∀ a x, ((![v150, v62, v152] : Fin 3 → IVec S16 32) a x).toNat < S8x4x128.size a := fun v59 v60 v61 v62 v150 v152 k0_hw3 => k0_hw3.2.2.2
def k0_off13 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v178 : Index := Scalar.indexCast arg9
  let c3_i32_69 : BitVec 32 := 3#32
  let v179 : Index := Scalar.indexCast c3_i32_69
  let c32_70 : Index := 32#32
  ![v178.toNat, 3, 32]
def k0_off14 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v192 : Index := Scalar.indexCast arg9
  let c0_i32_74 : BitVec 32 := 0#32
  let v193 : Index := Scalar.indexCast c0_i32_74
  let c48 : Index := 48#32
  ![v192.toNat, 0, 48]
def k0_off15 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v199 : Index := Scalar.indexCast arg9
  let c1_i32_76 : BitVec 32 := 1#32
  let v200 : Index := Scalar.indexCast c1_i32_76
  let c48_77 : Index := 48#32
  ![v199.toNat, 1, 48]
def k0_off16 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v206 : Index := Scalar.indexCast arg9
  let c2_i32_79 : BitVec 32 := 2#32
  let v207 : Index := Scalar.indexCast c2_i32_79
  let c48_80 : Index := 48#32
  ![v206.toNat, 2, 48]

def k0_chk4 (v59 : IVec S16 32) (v60 : IVec S16 32) (v61 : IVec S16 32) (v62 : IVec S16 32) (v185 : IVec S16 32) (v187 : IVec S16 32) : Prop :=
  (∀ a x, ((![v185, v59, v187] : Fin 3 → IVec S16 32) a x).toNat < S8x4x128.size a) ∧
  (∀ a x, ((![v185, v60, v187] : Fin 3 → IVec S16 32) a x).toNat < S8x4x128.size a) ∧
  (∀ a x, ((![v185, v61, v187] : Fin 3 → IVec S16 32) a x).toNat < S8x4x128.size a) ∧
  (∀ a x, ((![v185, v62, v187] : Fin 3 → IVec S16 32) a x).toNat < S8x4x128.size a)
theorem k0_idx13_inb : ∀ (v59 : IVec S16 32) (v60 : IVec S16 32) (v61 : IVec S16 32) (v62 : IVec S16 32) (v185 : IVec S16 32) (v187 : IVec S16 32) (k0_hw4 : k0_chk4 v59 v60 v61 v62 v185 v187), ∀ a x, ((![v185, v59, v187] : Fin 3 → IVec S16 32) a x).toNat < S8x4x128.size a := fun v59 v60 v61 v62 v185 v187 k0_hw4 => k0_hw4.1
theorem k0_idx14_inb : ∀ (v59 : IVec S16 32) (v60 : IVec S16 32) (v61 : IVec S16 32) (v62 : IVec S16 32) (v185 : IVec S16 32) (v187 : IVec S16 32) (k0_hw4 : k0_chk4 v59 v60 v61 v62 v185 v187), ∀ a x, ((![v185, v60, v187] : Fin 3 → IVec S16 32) a x).toNat < S8x4x128.size a := fun v59 v60 v61 v62 v185 v187 k0_hw4 => k0_hw4.2.1
theorem k0_idx15_inb : ∀ (v59 : IVec S16 32) (v60 : IVec S16 32) (v61 : IVec S16 32) (v62 : IVec S16 32) (v185 : IVec S16 32) (v187 : IVec S16 32) (k0_hw4 : k0_chk4 v59 v60 v61 v62 v185 v187), ∀ a x, ((![v185, v61, v187] : Fin 3 → IVec S16 32) a x).toNat < S8x4x128.size a := fun v59 v60 v61 v62 v185 v187 k0_hw4 => k0_hw4.2.2.1
theorem k0_idx16_inb : ∀ (v59 : IVec S16 32) (v60 : IVec S16 32) (v61 : IVec S16 32) (v62 : IVec S16 32) (v185 : IVec S16 32) (v187 : IVec S16 32) (k0_hw4 : k0_chk4 v59 v60 v61 v62 v185 v187), ∀ a x, ((![v185, v62, v187] : Fin 3 → IVec S16 32) a x).toNat < S8x4x128.size a := fun v59 v60 v61 v62 v185 v187 k0_hw4 => k0_hw4.2.2.2
def k0_off17 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v213 : Index := Scalar.indexCast arg9
  let c3_i32_82 : BitVec 32 := 3#32
  let v214 : Index := Scalar.indexCast c3_i32_82
  let c48_83 : Index := 48#32
  ![v213.toNat, 3, 48]
def k0_off18 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v227 : Index := Scalar.indexCast arg9
  let c0_i32_88 : BitVec 32 := 0#32
  let v228 : Index := Scalar.indexCast c0_i32_88
  let c64 : Index := 64#32
  ![v227.toNat, 0, 64]
def k0_off19 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v234 : Index := Scalar.indexCast arg9
  let c1_i32_90 : BitVec 32 := 1#32
  let v235 : Index := Scalar.indexCast c1_i32_90
  let c64_91 : Index := 64#32
  ![v234.toNat, 1, 64]
def k0_off20 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v241 : Index := Scalar.indexCast arg9
  let c2_i32_93 : BitVec 32 := 2#32
  let v242 : Index := Scalar.indexCast c2_i32_93
  let c64_94 : Index := 64#32
  ![v241.toNat, 2, 64]

def k0_chk5 (v59 : IVec S16 32) (v60 : IVec S16 32) (v61 : IVec S16 32) (v62 : IVec S16 32) (v220 : IVec S16 32) (v222 : IVec S16 32) : Prop :=
  (∀ a x, ((![v220, v59, v222] : Fin 3 → IVec S16 32) a x).toNat < S8x4x128.size a) ∧
  (∀ a x, ((![v220, v60, v222] : Fin 3 → IVec S16 32) a x).toNat < S8x4x128.size a) ∧
  (∀ a x, ((![v220, v61, v222] : Fin 3 → IVec S16 32) a x).toNat < S8x4x128.size a) ∧
  (∀ a x, ((![v220, v62, v222] : Fin 3 → IVec S16 32) a x).toNat < S8x4x128.size a)
theorem k0_idx17_inb : ∀ (v59 : IVec S16 32) (v60 : IVec S16 32) (v61 : IVec S16 32) (v62 : IVec S16 32) (v220 : IVec S16 32) (v222 : IVec S16 32) (k0_hw5 : k0_chk5 v59 v60 v61 v62 v220 v222), ∀ a x, ((![v220, v59, v222] : Fin 3 → IVec S16 32) a x).toNat < S8x4x128.size a := fun v59 v60 v61 v62 v220 v222 k0_hw5 => k0_hw5.1
theorem k0_idx18_inb : ∀ (v59 : IVec S16 32) (v60 : IVec S16 32) (v61 : IVec S16 32) (v62 : IVec S16 32) (v220 : IVec S16 32) (v222 : IVec S16 32) (k0_hw5 : k0_chk5 v59 v60 v61 v62 v220 v222), ∀ a x, ((![v220, v60, v222] : Fin 3 → IVec S16 32) a x).toNat < S8x4x128.size a := fun v59 v60 v61 v62 v220 v222 k0_hw5 => k0_hw5.2.1
theorem k0_idx19_inb : ∀ (v59 : IVec S16 32) (v60 : IVec S16 32) (v61 : IVec S16 32) (v62 : IVec S16 32) (v220 : IVec S16 32) (v222 : IVec S16 32) (k0_hw5 : k0_chk5 v59 v60 v61 v62 v220 v222), ∀ a x, ((![v220, v61, v222] : Fin 3 → IVec S16 32) a x).toNat < S8x4x128.size a := fun v59 v60 v61 v62 v220 v222 k0_hw5 => k0_hw5.2.2.1
theorem k0_idx20_inb : ∀ (v59 : IVec S16 32) (v60 : IVec S16 32) (v61 : IVec S16 32) (v62 : IVec S16 32) (v220 : IVec S16 32) (v222 : IVec S16 32) (k0_hw5 : k0_chk5 v59 v60 v61 v62 v220 v222), ∀ a x, ((![v220, v62, v222] : Fin 3 → IVec S16 32) a x).toNat < S8x4x128.size a := fun v59 v60 v61 v62 v220 v222 k0_hw5 => k0_hw5.2.2.2
def k0_off21 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v248 : Index := Scalar.indexCast arg9
  let c3_i32_96 : BitVec 32 := 3#32
  let v249 : Index := Scalar.indexCast c3_i32_96
  let c64_97 : Index := 64#32
  ![v248.toNat, 3, 64]
def k0_off22 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v262 : Index := Scalar.indexCast arg9
  let c0_i32_101 : BitVec 32 := 0#32
  let v263 : Index := Scalar.indexCast c0_i32_101
  let c80 : Index := 80#32
  ![v262.toNat, 0, 80]
def k0_off23 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v269 : Index := Scalar.indexCast arg9
  let c1_i32_103 : BitVec 32 := 1#32
  let v270 : Index := Scalar.indexCast c1_i32_103
  let c80_104 : Index := 80#32
  ![v269.toNat, 1, 80]
def k0_off24 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v276 : Index := Scalar.indexCast arg9
  let c2_i32_106 : BitVec 32 := 2#32
  let v277 : Index := Scalar.indexCast c2_i32_106
  let c80_107 : Index := 80#32
  ![v276.toNat, 2, 80]

def k0_chk6 (v59 : IVec S16 32) (v60 : IVec S16 32) (v61 : IVec S16 32) (v62 : IVec S16 32) (v255 : IVec S16 32) (v257 : IVec S16 32) : Prop :=
  (∀ a x, ((![v255, v59, v257] : Fin 3 → IVec S16 32) a x).toNat < S8x4x128.size a) ∧
  (∀ a x, ((![v255, v60, v257] : Fin 3 → IVec S16 32) a x).toNat < S8x4x128.size a) ∧
  (∀ a x, ((![v255, v61, v257] : Fin 3 → IVec S16 32) a x).toNat < S8x4x128.size a) ∧
  (∀ a x, ((![v255, v62, v257] : Fin 3 → IVec S16 32) a x).toNat < S8x4x128.size a)
theorem k0_idx21_inb : ∀ (v59 : IVec S16 32) (v60 : IVec S16 32) (v61 : IVec S16 32) (v62 : IVec S16 32) (v255 : IVec S16 32) (v257 : IVec S16 32) (k0_hw6 : k0_chk6 v59 v60 v61 v62 v255 v257), ∀ a x, ((![v255, v59, v257] : Fin 3 → IVec S16 32) a x).toNat < S8x4x128.size a := fun v59 v60 v61 v62 v255 v257 k0_hw6 => k0_hw6.1
theorem k0_idx22_inb : ∀ (v59 : IVec S16 32) (v60 : IVec S16 32) (v61 : IVec S16 32) (v62 : IVec S16 32) (v255 : IVec S16 32) (v257 : IVec S16 32) (k0_hw6 : k0_chk6 v59 v60 v61 v62 v255 v257), ∀ a x, ((![v255, v60, v257] : Fin 3 → IVec S16 32) a x).toNat < S8x4x128.size a := fun v59 v60 v61 v62 v255 v257 k0_hw6 => k0_hw6.2.1
theorem k0_idx23_inb : ∀ (v59 : IVec S16 32) (v60 : IVec S16 32) (v61 : IVec S16 32) (v62 : IVec S16 32) (v255 : IVec S16 32) (v257 : IVec S16 32) (k0_hw6 : k0_chk6 v59 v60 v61 v62 v255 v257), ∀ a x, ((![v255, v61, v257] : Fin 3 → IVec S16 32) a x).toNat < S8x4x128.size a := fun v59 v60 v61 v62 v255 v257 k0_hw6 => k0_hw6.2.2.1
theorem k0_idx24_inb : ∀ (v59 : IVec S16 32) (v60 : IVec S16 32) (v61 : IVec S16 32) (v62 : IVec S16 32) (v255 : IVec S16 32) (v257 : IVec S16 32) (k0_hw6 : k0_chk6 v59 v60 v61 v62 v255 v257), ∀ a x, ((![v255, v62, v257] : Fin 3 → IVec S16 32) a x).toNat < S8x4x128.size a := fun v59 v60 v61 v62 v255 v257 k0_hw6 => k0_hw6.2.2.2
def k0_off25 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v283 : Index := Scalar.indexCast arg9
  let c3_i32_109 : BitVec 32 := 3#32
  let v284 : Index := Scalar.indexCast c3_i32_109
  let c80_110 : Index := 80#32
  ![v283.toNat, 3, 80]
def k0_off26 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v297 : Index := Scalar.indexCast arg9
  let c0_i32_114 : BitVec 32 := 0#32
  let v298 : Index := Scalar.indexCast c0_i32_114
  let c96 : Index := 96#32
  ![v297.toNat, 0, 96]
def k0_off27 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v304 : Index := Scalar.indexCast arg9
  let c1_i32_116 : BitVec 32 := 1#32
  let v305 : Index := Scalar.indexCast c1_i32_116
  let c96_117 : Index := 96#32
  ![v304.toNat, 1, 96]
def k0_off28 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v311 : Index := Scalar.indexCast arg9
  let c2_i32_119 : BitVec 32 := 2#32
  let v312 : Index := Scalar.indexCast c2_i32_119
  let c96_120 : Index := 96#32
  ![v311.toNat, 2, 96]

def k0_chk7 (v59 : IVec S16 32) (v60 : IVec S16 32) (v61 : IVec S16 32) (v62 : IVec S16 32) (v290 : IVec S16 32) (v292 : IVec S16 32) : Prop :=
  (∀ a x, ((![v290, v59, v292] : Fin 3 → IVec S16 32) a x).toNat < S8x4x128.size a) ∧
  (∀ a x, ((![v290, v60, v292] : Fin 3 → IVec S16 32) a x).toNat < S8x4x128.size a) ∧
  (∀ a x, ((![v290, v61, v292] : Fin 3 → IVec S16 32) a x).toNat < S8x4x128.size a) ∧
  (∀ a x, ((![v290, v62, v292] : Fin 3 → IVec S16 32) a x).toNat < S8x4x128.size a)
theorem k0_idx25_inb : ∀ (v59 : IVec S16 32) (v60 : IVec S16 32) (v61 : IVec S16 32) (v62 : IVec S16 32) (v290 : IVec S16 32) (v292 : IVec S16 32) (k0_hw7 : k0_chk7 v59 v60 v61 v62 v290 v292), ∀ a x, ((![v290, v59, v292] : Fin 3 → IVec S16 32) a x).toNat < S8x4x128.size a := fun v59 v60 v61 v62 v290 v292 k0_hw7 => k0_hw7.1
theorem k0_idx26_inb : ∀ (v59 : IVec S16 32) (v60 : IVec S16 32) (v61 : IVec S16 32) (v62 : IVec S16 32) (v290 : IVec S16 32) (v292 : IVec S16 32) (k0_hw7 : k0_chk7 v59 v60 v61 v62 v290 v292), ∀ a x, ((![v290, v60, v292] : Fin 3 → IVec S16 32) a x).toNat < S8x4x128.size a := fun v59 v60 v61 v62 v290 v292 k0_hw7 => k0_hw7.2.1
theorem k0_idx27_inb : ∀ (v59 : IVec S16 32) (v60 : IVec S16 32) (v61 : IVec S16 32) (v62 : IVec S16 32) (v290 : IVec S16 32) (v292 : IVec S16 32) (k0_hw7 : k0_chk7 v59 v60 v61 v62 v290 v292), ∀ a x, ((![v290, v61, v292] : Fin 3 → IVec S16 32) a x).toNat < S8x4x128.size a := fun v59 v60 v61 v62 v290 v292 k0_hw7 => k0_hw7.2.2.1
theorem k0_idx28_inb : ∀ (v59 : IVec S16 32) (v60 : IVec S16 32) (v61 : IVec S16 32) (v62 : IVec S16 32) (v290 : IVec S16 32) (v292 : IVec S16 32) (k0_hw7 : k0_chk7 v59 v60 v61 v62 v290 v292), ∀ a x, ((![v290, v62, v292] : Fin 3 → IVec S16 32) a x).toNat < S8x4x128.size a := fun v59 v60 v61 v62 v290 v292 k0_hw7 => k0_hw7.2.2.2
def k0_off29 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v318 : Index := Scalar.indexCast arg9
  let c3_i32_122 : BitVec 32 := 3#32
  let v319 : Index := Scalar.indexCast c3_i32_122
  let c96_123 : Index := 96#32
  ![v318.toNat, 3, 96]
def k0_off30 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v332 : Index := Scalar.indexCast arg9
  let c0_i32_127 : BitVec 32 := 0#32
  let v333 : Index := Scalar.indexCast c0_i32_127
  let c112 : Index := 112#32
  ![v332.toNat, 0, 112]
def k0_off31 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v339 : Index := Scalar.indexCast arg9
  let c1_i32_129 : BitVec 32 := 1#32
  let v340 : Index := Scalar.indexCast c1_i32_129
  let c112_130 : Index := 112#32
  ![v339.toNat, 1, 112]
def k0_off32 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v346 : Index := Scalar.indexCast arg9
  let c2_i32_132 : BitVec 32 := 2#32
  let v347 : Index := Scalar.indexCast c2_i32_132
  let c112_133 : Index := 112#32
  ![v346.toNat, 2, 112]

def k0_chk8 (v59 : IVec S16 32) (v60 : IVec S16 32) (v61 : IVec S16 32) (v62 : IVec S16 32) (v325 : IVec S16 32) (v327 : IVec S16 32) : Prop :=
  (∀ a x, ((![v325, v59, v327] : Fin 3 → IVec S16 32) a x).toNat < S8x4x128.size a) ∧
  (∀ a x, ((![v325, v60, v327] : Fin 3 → IVec S16 32) a x).toNat < S8x4x128.size a) ∧
  (∀ a x, ((![v325, v61, v327] : Fin 3 → IVec S16 32) a x).toNat < S8x4x128.size a) ∧
  (∀ a x, ((![v325, v62, v327] : Fin 3 → IVec S16 32) a x).toNat < S8x4x128.size a)
theorem k0_idx29_inb : ∀ (v59 : IVec S16 32) (v60 : IVec S16 32) (v61 : IVec S16 32) (v62 : IVec S16 32) (v325 : IVec S16 32) (v327 : IVec S16 32) (k0_hw8 : k0_chk8 v59 v60 v61 v62 v325 v327), ∀ a x, ((![v325, v59, v327] : Fin 3 → IVec S16 32) a x).toNat < S8x4x128.size a := fun v59 v60 v61 v62 v325 v327 k0_hw8 => k0_hw8.1
theorem k0_idx30_inb : ∀ (v59 : IVec S16 32) (v60 : IVec S16 32) (v61 : IVec S16 32) (v62 : IVec S16 32) (v325 : IVec S16 32) (v327 : IVec S16 32) (k0_hw8 : k0_chk8 v59 v60 v61 v62 v325 v327), ∀ a x, ((![v325, v60, v327] : Fin 3 → IVec S16 32) a x).toNat < S8x4x128.size a := fun v59 v60 v61 v62 v325 v327 k0_hw8 => k0_hw8.2.1
theorem k0_idx31_inb : ∀ (v59 : IVec S16 32) (v60 : IVec S16 32) (v61 : IVec S16 32) (v62 : IVec S16 32) (v325 : IVec S16 32) (v327 : IVec S16 32) (k0_hw8 : k0_chk8 v59 v60 v61 v62 v325 v327), ∀ a x, ((![v325, v61, v327] : Fin 3 → IVec S16 32) a x).toNat < S8x4x128.size a := fun v59 v60 v61 v62 v325 v327 k0_hw8 => k0_hw8.2.2.1
theorem k0_idx32_inb : ∀ (v59 : IVec S16 32) (v60 : IVec S16 32) (v61 : IVec S16 32) (v62 : IVec S16 32) (v325 : IVec S16 32) (v327 : IVec S16 32) (k0_hw8 : k0_chk8 v59 v60 v61 v62 v325 v327), ∀ a x, ((![v325, v62, v327] : Fin 3 → IVec S16 32) a x).toNat < S8x4x128.size a := fun v59 v60 v61 v62 v325 v327 k0_hw8 => k0_hw8.2.2.2
def k0_off33 (k0_t2 : Fin k0_t2_loop.trips) : Fin 3 → Nat :=
  let c0_i32_28 : BitVec 32 := 0#32
  let c1_i32_29 : BitVec 32 := 1#32
  let arg9 : BitVec 32 := Scf.iv c0_i32_28 c1_i32_29 k0_t2
  let v353 : Index := Scalar.indexCast arg9
  let c3_i32_135 : BitVec 32 := 3#32
  let v354 : Index := Scalar.indexCast c3_i32_135
  let c112_136 : Index := 112#32
  ![v353.toNat, 3, 112]
def k0_off34 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_19 : BitVec 32 := 0#32
  let c1_i32_20 : BitVec 32 := 1#32
  let arg8 : BitVec 32 := Scf.iv c0_i32_19 c1_i32_20 k0_t1
  let v70 : BitVec 32 := Scalar.muli c32_i32 arg8
  let v71 : BitVec 32 := Scalar.addi v1 v70
  let c64_i32_31 : BitVec 32 := 64#32
  let v74 : BitVec 32 := Scalar.muli v71 c64_i32_31
  let c0_i32_32_r1 : BitVec 32 := 0#32
  let c0_i32_33_r1 : BitVec 32 := 0#32
  ![v74.toNat, 0, 0]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_22 : BitVec 32 := 8#32
  let v64 : BitVec 1 := Scalar.cmpi .slt v1 c8_i32_22
  let v65 : BitVec 32 := Scalar.extui v64
  let c0_i32_23 : BitVec 32 := 0#32
  let v66 : BitVec 1 := Scalar.cmpi .ne v65 c0_i32_23
  v66

def k0_off35 (i : grid0.Coords) : Fin 3 → Nat :=
  let c480_i32 : BitVec 32 := 480#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v70 : BitVec 32 := Scalar.addi c480_i32 v1
  let c8_i32_26 : BitVec 32 := 8#32
  let v71 : BitVec 32 := Scalar.muli v70 c8_i32_26
  let c0_i32_32_r2 : BitVec 32 := 0#32
  let c0_i32_33_r2 : BitVec 32 := 0#32
  ![v71.toNat, 0, 0]
@[reducible] def k0_t3_loop : Scf.Loop 32 :=
  let c0_i32_28 : BitVec 32 := 0#32
  let c64_i32 : BitVec 32 := 64#32
  let v72 : BitVec 32 := Scalar.addi c0_i32_28 c64_i32
  let c1_i32_29 : BitVec 32 := 1#32
  ⟨c0_i32_28, v72, c1_i32_29⟩
def k0_off36 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v86 : Index := Scalar.indexCast arg8
  let c0_i32_34 : BitVec 32 := 0#32
  let v87 : Index := Scalar.indexCast c0_i32_34
  let c0 : Index := 0#32
  ![v86.toNat, 0, 0]
def k0_off37 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v93 : Index := Scalar.indexCast arg8
  let c1_i32_36 : BitVec 32 := 1#32
  let v94 : Index := Scalar.indexCast c1_i32_36
  let c0_37 : Index := 0#32
  ![v93.toNat, 1, 0]
def k0_off38 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v100 : Index := Scalar.indexCast arg8
  let c2_i32_39 : BitVec 32 := 2#32
  let v101 : Index := Scalar.indexCast c2_i32_39
  let c0_40 : Index := 0#32
  ![v100.toNat, 2, 0]

def k0_chk9 (i : grid0.Coords) (v59 : IVec S16 32) (v60 : IVec S16 32) (v61 : IVec S16 32) (v62 : IVec S16 32) (v79 : IVec S16 32) (v81 : IVec S16 32) : Prop :=
  (∀ (k0_h1 : k0_cond1 i = 1#1), ∀ a x, ((![v79, v59, v81] : Fin 3 → IVec S16 32) a x).toNat < S8x4x128.size a) ∧
  (∀ (k0_h1 : k0_cond1 i = 1#1), ∀ a x, ((![v79, v60, v81] : Fin 3 → IVec S16 32) a x).toNat < S8x4x128.size a) ∧
  (∀ (k0_h1 : k0_cond1 i = 1#1), ∀ a x, ((![v79, v61, v81] : Fin 3 → IVec S16 32) a x).toNat < S8x4x128.size a) ∧
  (∀ (k0_h1 : k0_cond1 i = 1#1), ∀ a x, ((![v79, v62, v81] : Fin 3 → IVec S16 32) a x).toNat < S8x4x128.size a)
theorem k0_idx33_inb : ∀ (i : grid0.Coords) (v59 : IVec S16 32) (v60 : IVec S16 32) (v61 : IVec S16 32) (v62 : IVec S16 32) (v79 : IVec S16 32) (v81 : IVec S16 32) (k0_hw9 : k0_chk9 i v59 v60 v61 v62 v79 v81), ∀ (k0_h1 : k0_cond1 i = 1#1), ∀ a x, ((![v79, v59, v81] : Fin 3 → IVec S16 32) a x).toNat < S8x4x128.size a := fun i v59 v60 v61 v62 v79 v81 k0_hw9 k0_h1 => k0_hw9.1 k0_h1
theorem k0_idx34_inb : ∀ (i : grid0.Coords) (v59 : IVec S16 32) (v60 : IVec S16 32) (v61 : IVec S16 32) (v62 : IVec S16 32) (v79 : IVec S16 32) (v81 : IVec S16 32) (k0_hw9 : k0_chk9 i v59 v60 v61 v62 v79 v81), ∀ (k0_h1 : k0_cond1 i = 1#1), ∀ a x, ((![v79, v60, v81] : Fin 3 → IVec S16 32) a x).toNat < S8x4x128.size a := fun i v59 v60 v61 v62 v79 v81 k0_hw9 k0_h1 => k0_hw9.2.1 k0_h1
theorem k0_idx35_inb : ∀ (i : grid0.Coords) (v59 : IVec S16 32) (v60 : IVec S16 32) (v61 : IVec S16 32) (v62 : IVec S16 32) (v79 : IVec S16 32) (v81 : IVec S16 32) (k0_hw9 : k0_chk9 i v59 v60 v61 v62 v79 v81), ∀ (k0_h1 : k0_cond1 i = 1#1), ∀ a x, ((![v79, v61, v81] : Fin 3 → IVec S16 32) a x).toNat < S8x4x128.size a := fun i v59 v60 v61 v62 v79 v81 k0_hw9 k0_h1 => k0_hw9.2.2.1 k0_h1
theorem k0_idx36_inb : ∀ (i : grid0.Coords) (v59 : IVec S16 32) (v60 : IVec S16 32) (v61 : IVec S16 32) (v62 : IVec S16 32) (v79 : IVec S16 32) (v81 : IVec S16 32) (k0_hw9 : k0_chk9 i v59 v60 v61 v62 v79 v81), ∀ (k0_h1 : k0_cond1 i = 1#1), ∀ a x, ((![v79, v62, v81] : Fin 3 → IVec S16 32) a x).toNat < S8x4x128.size a := fun i v59 v60 v61 v62 v79 v81 k0_hw9 k0_h1 => k0_hw9.2.2.2 k0_h1
def k0_off39 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v107 : Index := Scalar.indexCast arg8
  let c3_i32_42 : BitVec 32 := 3#32
  let v108 : Index := Scalar.indexCast c3_i32_42
  let c0_43 : Index := 0#32
  ![v107.toNat, 3, 0]
def k0_off40 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v121 : Index := Scalar.indexCast arg8
  let c0_i32_48 : BitVec 32 := 0#32
  let v122 : Index := Scalar.indexCast c0_i32_48
  let c16 : Index := 16#32
  ![v121.toNat, 0, 16]
def k0_off41 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v128 : Index := Scalar.indexCast arg8
  let c1_i32_50 : BitVec 32 := 1#32
  let v129 : Index := Scalar.indexCast c1_i32_50
  let c16_51 : Index := 16#32
  ![v128.toNat, 1, 16]
def k0_off42 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v135 : Index := Scalar.indexCast arg8
  let c2_i32_53 : BitVec 32 := 2#32
  let v136 : Index := Scalar.indexCast c2_i32_53
  let c16_54 : Index := 16#32
  ![v135.toNat, 2, 16]

def k0_chk10 (i : grid0.Coords) (v59 : IVec S16 32) (v60 : IVec S16 32) (v61 : IVec S16 32) (v62 : IVec S16 32) (v114 : IVec S16 32) (v116 : IVec S16 32) : Prop :=
  (∀ (k0_h1 : k0_cond1 i = 1#1), ∀ a x, ((![v114, v59, v116] : Fin 3 → IVec S16 32) a x).toNat < S8x4x128.size a) ∧
  (∀ (k0_h1 : k0_cond1 i = 1#1), ∀ a x, ((![v114, v60, v116] : Fin 3 → IVec S16 32) a x).toNat < S8x4x128.size a) ∧
  (∀ (k0_h1 : k0_cond1 i = 1#1), ∀ a x, ((![v114, v61, v116] : Fin 3 → IVec S16 32) a x).toNat < S8x4x128.size a) ∧
  (∀ (k0_h1 : k0_cond1 i = 1#1), ∀ a x, ((![v114, v62, v116] : Fin 3 → IVec S16 32) a x).toNat < S8x4x128.size a)
theorem k0_idx37_inb : ∀ (i : grid0.Coords) (v59 : IVec S16 32) (v60 : IVec S16 32) (v61 : IVec S16 32) (v62 : IVec S16 32) (v114 : IVec S16 32) (v116 : IVec S16 32) (k0_hw10 : k0_chk10 i v59 v60 v61 v62 v114 v116), ∀ (k0_h1 : k0_cond1 i = 1#1), ∀ a x, ((![v114, v59, v116] : Fin 3 → IVec S16 32) a x).toNat < S8x4x128.size a := fun i v59 v60 v61 v62 v114 v116 k0_hw10 k0_h1 => k0_hw10.1 k0_h1
theorem k0_idx38_inb : ∀ (i : grid0.Coords) (v59 : IVec S16 32) (v60 : IVec S16 32) (v61 : IVec S16 32) (v62 : IVec S16 32) (v114 : IVec S16 32) (v116 : IVec S16 32) (k0_hw10 : k0_chk10 i v59 v60 v61 v62 v114 v116), ∀ (k0_h1 : k0_cond1 i = 1#1), ∀ a x, ((![v114, v60, v116] : Fin 3 → IVec S16 32) a x).toNat < S8x4x128.size a := fun i v59 v60 v61 v62 v114 v116 k0_hw10 k0_h1 => k0_hw10.2.1 k0_h1
theorem k0_idx39_inb : ∀ (i : grid0.Coords) (v59 : IVec S16 32) (v60 : IVec S16 32) (v61 : IVec S16 32) (v62 : IVec S16 32) (v114 : IVec S16 32) (v116 : IVec S16 32) (k0_hw10 : k0_chk10 i v59 v60 v61 v62 v114 v116), ∀ (k0_h1 : k0_cond1 i = 1#1), ∀ a x, ((![v114, v61, v116] : Fin 3 → IVec S16 32) a x).toNat < S8x4x128.size a := fun i v59 v60 v61 v62 v114 v116 k0_hw10 k0_h1 => k0_hw10.2.2.1 k0_h1
theorem k0_idx40_inb : ∀ (i : grid0.Coords) (v59 : IVec S16 32) (v60 : IVec S16 32) (v61 : IVec S16 32) (v62 : IVec S16 32) (v114 : IVec S16 32) (v116 : IVec S16 32) (k0_hw10 : k0_chk10 i v59 v60 v61 v62 v114 v116), ∀ (k0_h1 : k0_cond1 i = 1#1), ∀ a x, ((![v114, v62, v116] : Fin 3 → IVec S16 32) a x).toNat < S8x4x128.size a := fun i v59 v60 v61 v62 v114 v116 k0_hw10 k0_h1 => k0_hw10.2.2.2 k0_h1
def k0_off43 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v142 : Index := Scalar.indexCast arg8
  let c3_i32_56 : BitVec 32 := 3#32
  let v143 : Index := Scalar.indexCast c3_i32_56
  let c16_57 : Index := 16#32
  ![v142.toNat, 3, 16]
def k0_off44 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v156 : Index := Scalar.indexCast arg8
  let c0_i32_61 : BitVec 32 := 0#32
  let v157 : Index := Scalar.indexCast c0_i32_61
  let c32 : Index := 32#32
  ![v156.toNat, 0, 32]
def k0_off45 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v163 : Index := Scalar.indexCast arg8
  let c1_i32_63 : BitVec 32 := 1#32
  let v164 : Index := Scalar.indexCast c1_i32_63
  let c32_64 : Index := 32#32
  ![v163.toNat, 1, 32]
def k0_off46 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v170 : Index := Scalar.indexCast arg8
  let c2_i32_66 : BitVec 32 := 2#32
  let v171 : Index := Scalar.indexCast c2_i32_66
  let c32_67 : Index := 32#32
  ![v170.toNat, 2, 32]

def k0_chk11 (i : grid0.Coords) (v59 : IVec S16 32) (v60 : IVec S16 32) (v61 : IVec S16 32) (v62 : IVec S16 32) (v149 : IVec S16 32) (v151 : IVec S16 32) : Prop :=
  (∀ (k0_h1 : k0_cond1 i = 1#1), ∀ a x, ((![v149, v59, v151] : Fin 3 → IVec S16 32) a x).toNat < S8x4x128.size a) ∧
  (∀ (k0_h1 : k0_cond1 i = 1#1), ∀ a x, ((![v149, v60, v151] : Fin 3 → IVec S16 32) a x).toNat < S8x4x128.size a) ∧
  (∀ (k0_h1 : k0_cond1 i = 1#1), ∀ a x, ((![v149, v61, v151] : Fin 3 → IVec S16 32) a x).toNat < S8x4x128.size a) ∧
  (∀ (k0_h1 : k0_cond1 i = 1#1), ∀ a x, ((![v149, v62, v151] : Fin 3 → IVec S16 32) a x).toNat < S8x4x128.size a)
theorem k0_idx41_inb : ∀ (i : grid0.Coords) (v59 : IVec S16 32) (v60 : IVec S16 32) (v61 : IVec S16 32) (v62 : IVec S16 32) (v149 : IVec S16 32) (v151 : IVec S16 32) (k0_hw11 : k0_chk11 i v59 v60 v61 v62 v149 v151), ∀ (k0_h1 : k0_cond1 i = 1#1), ∀ a x, ((![v149, v59, v151] : Fin 3 → IVec S16 32) a x).toNat < S8x4x128.size a := fun i v59 v60 v61 v62 v149 v151 k0_hw11 k0_h1 => k0_hw11.1 k0_h1
theorem k0_idx42_inb : ∀ (i : grid0.Coords) (v59 : IVec S16 32) (v60 : IVec S16 32) (v61 : IVec S16 32) (v62 : IVec S16 32) (v149 : IVec S16 32) (v151 : IVec S16 32) (k0_hw11 : k0_chk11 i v59 v60 v61 v62 v149 v151), ∀ (k0_h1 : k0_cond1 i = 1#1), ∀ a x, ((![v149, v60, v151] : Fin 3 → IVec S16 32) a x).toNat < S8x4x128.size a := fun i v59 v60 v61 v62 v149 v151 k0_hw11 k0_h1 => k0_hw11.2.1 k0_h1
theorem k0_idx43_inb : ∀ (i : grid0.Coords) (v59 : IVec S16 32) (v60 : IVec S16 32) (v61 : IVec S16 32) (v62 : IVec S16 32) (v149 : IVec S16 32) (v151 : IVec S16 32) (k0_hw11 : k0_chk11 i v59 v60 v61 v62 v149 v151), ∀ (k0_h1 : k0_cond1 i = 1#1), ∀ a x, ((![v149, v61, v151] : Fin 3 → IVec S16 32) a x).toNat < S8x4x128.size a := fun i v59 v60 v61 v62 v149 v151 k0_hw11 k0_h1 => k0_hw11.2.2.1 k0_h1
theorem k0_idx44_inb : ∀ (i : grid0.Coords) (v59 : IVec S16 32) (v60 : IVec S16 32) (v61 : IVec S16 32) (v62 : IVec S16 32) (v149 : IVec S16 32) (v151 : IVec S16 32) (k0_hw11 : k0_chk11 i v59 v60 v61 v62 v149 v151), ∀ (k0_h1 : k0_cond1 i = 1#1), ∀ a x, ((![v149, v62, v151] : Fin 3 → IVec S16 32) a x).toNat < S8x4x128.size a := fun i v59 v60 v61 v62 v149 v151 k0_hw11 k0_h1 => k0_hw11.2.2.2 k0_h1
def k0_off47 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v177 : Index := Scalar.indexCast arg8
  let c3_i32_69 : BitVec 32 := 3#32
  let v178 : Index := Scalar.indexCast c3_i32_69
  let c32_70 : Index := 32#32
  ![v177.toNat, 3, 32]
def k0_off48 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v191 : Index := Scalar.indexCast arg8
  let c0_i32_74 : BitVec 32 := 0#32
  let v192 : Index := Scalar.indexCast c0_i32_74
  let c48 : Index := 48#32
  ![v191.toNat, 0, 48]
def k0_off49 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v198 : Index := Scalar.indexCast arg8
  let c1_i32_76 : BitVec 32 := 1#32
  let v199 : Index := Scalar.indexCast c1_i32_76
  let c48_77 : Index := 48#32
  ![v198.toNat, 1, 48]
def k0_off50 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v205 : Index := Scalar.indexCast arg8
  let c2_i32_79 : BitVec 32 := 2#32
  let v206 : Index := Scalar.indexCast c2_i32_79
  let c48_80 : Index := 48#32
  ![v205.toNat, 2, 48]

def k0_chk12 (i : grid0.Coords) (v59 : IVec S16 32) (v60 : IVec S16 32) (v61 : IVec S16 32) (v62 : IVec S16 32) (v184 : IVec S16 32) (v186 : IVec S16 32) : Prop :=
  (∀ (k0_h1 : k0_cond1 i = 1#1), ∀ a x, ((![v184, v59, v186] : Fin 3 → IVec S16 32) a x).toNat < S8x4x128.size a) ∧
  (∀ (k0_h1 : k0_cond1 i = 1#1), ∀ a x, ((![v184, v60, v186] : Fin 3 → IVec S16 32) a x).toNat < S8x4x128.size a) ∧
  (∀ (k0_h1 : k0_cond1 i = 1#1), ∀ a x, ((![v184, v61, v186] : Fin 3 → IVec S16 32) a x).toNat < S8x4x128.size a) ∧
  (∀ (k0_h1 : k0_cond1 i = 1#1), ∀ a x, ((![v184, v62, v186] : Fin 3 → IVec S16 32) a x).toNat < S8x4x128.size a)
theorem k0_idx45_inb : ∀ (i : grid0.Coords) (v59 : IVec S16 32) (v60 : IVec S16 32) (v61 : IVec S16 32) (v62 : IVec S16 32) (v184 : IVec S16 32) (v186 : IVec S16 32) (k0_hw12 : k0_chk12 i v59 v60 v61 v62 v184 v186), ∀ (k0_h1 : k0_cond1 i = 1#1), ∀ a x, ((![v184, v59, v186] : Fin 3 → IVec S16 32) a x).toNat < S8x4x128.size a := fun i v59 v60 v61 v62 v184 v186 k0_hw12 k0_h1 => k0_hw12.1 k0_h1
theorem k0_idx46_inb : ∀ (i : grid0.Coords) (v59 : IVec S16 32) (v60 : IVec S16 32) (v61 : IVec S16 32) (v62 : IVec S16 32) (v184 : IVec S16 32) (v186 : IVec S16 32) (k0_hw12 : k0_chk12 i v59 v60 v61 v62 v184 v186), ∀ (k0_h1 : k0_cond1 i = 1#1), ∀ a x, ((![v184, v60, v186] : Fin 3 → IVec S16 32) a x).toNat < S8x4x128.size a := fun i v59 v60 v61 v62 v184 v186 k0_hw12 k0_h1 => k0_hw12.2.1 k0_h1
theorem k0_idx47_inb : ∀ (i : grid0.Coords) (v59 : IVec S16 32) (v60 : IVec S16 32) (v61 : IVec S16 32) (v62 : IVec S16 32) (v184 : IVec S16 32) (v186 : IVec S16 32) (k0_hw12 : k0_chk12 i v59 v60 v61 v62 v184 v186), ∀ (k0_h1 : k0_cond1 i = 1#1), ∀ a x, ((![v184, v61, v186] : Fin 3 → IVec S16 32) a x).toNat < S8x4x128.size a := fun i v59 v60 v61 v62 v184 v186 k0_hw12 k0_h1 => k0_hw12.2.2.1 k0_h1
theorem k0_idx48_inb : ∀ (i : grid0.Coords) (v59 : IVec S16 32) (v60 : IVec S16 32) (v61 : IVec S16 32) (v62 : IVec S16 32) (v184 : IVec S16 32) (v186 : IVec S16 32) (k0_hw12 : k0_chk12 i v59 v60 v61 v62 v184 v186), ∀ (k0_h1 : k0_cond1 i = 1#1), ∀ a x, ((![v184, v62, v186] : Fin 3 → IVec S16 32) a x).toNat < S8x4x128.size a := fun i v59 v60 v61 v62 v184 v186 k0_hw12 k0_h1 => k0_hw12.2.2.2 k0_h1
def k0_off51 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v212 : Index := Scalar.indexCast arg8
  let c3_i32_82 : BitVec 32 := 3#32
  let v213 : Index := Scalar.indexCast c3_i32_82
  let c48_83 : Index := 48#32
  ![v212.toNat, 3, 48]
def k0_off52 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v226 : Index := Scalar.indexCast arg8
  let c0_i32_88 : BitVec 32 := 0#32
  let v227 : Index := Scalar.indexCast c0_i32_88
  let c64 : Index := 64#32
  ![v226.toNat, 0, 64]
def k0_off53 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v233 : Index := Scalar.indexCast arg8
  let c1_i32_90 : BitVec 32 := 1#32
  let v234 : Index := Scalar.indexCast c1_i32_90
  let c64_91 : Index := 64#32
  ![v233.toNat, 1, 64]
def k0_off54 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v240 : Index := Scalar.indexCast arg8
  let c2_i32_93 : BitVec 32 := 2#32
  let v241 : Index := Scalar.indexCast c2_i32_93
  let c64_94 : Index := 64#32
  ![v240.toNat, 2, 64]

def k0_chk13 (i : grid0.Coords) (v59 : IVec S16 32) (v60 : IVec S16 32) (v61 : IVec S16 32) (v62 : IVec S16 32) (v219 : IVec S16 32) (v221 : IVec S16 32) : Prop :=
  (∀ (k0_h1 : k0_cond1 i = 1#1), ∀ a x, ((![v219, v59, v221] : Fin 3 → IVec S16 32) a x).toNat < S8x4x128.size a) ∧
  (∀ (k0_h1 : k0_cond1 i = 1#1), ∀ a x, ((![v219, v60, v221] : Fin 3 → IVec S16 32) a x).toNat < S8x4x128.size a) ∧
  (∀ (k0_h1 : k0_cond1 i = 1#1), ∀ a x, ((![v219, v61, v221] : Fin 3 → IVec S16 32) a x).toNat < S8x4x128.size a) ∧
  (∀ (k0_h1 : k0_cond1 i = 1#1), ∀ a x, ((![v219, v62, v221] : Fin 3 → IVec S16 32) a x).toNat < S8x4x128.size a)
theorem k0_idx49_inb : ∀ (i : grid0.Coords) (v59 : IVec S16 32) (v60 : IVec S16 32) (v61 : IVec S16 32) (v62 : IVec S16 32) (v219 : IVec S16 32) (v221 : IVec S16 32) (k0_hw13 : k0_chk13 i v59 v60 v61 v62 v219 v221), ∀ (k0_h1 : k0_cond1 i = 1#1), ∀ a x, ((![v219, v59, v221] : Fin 3 → IVec S16 32) a x).toNat < S8x4x128.size a := fun i v59 v60 v61 v62 v219 v221 k0_hw13 k0_h1 => k0_hw13.1 k0_h1
theorem k0_idx50_inb : ∀ (i : grid0.Coords) (v59 : IVec S16 32) (v60 : IVec S16 32) (v61 : IVec S16 32) (v62 : IVec S16 32) (v219 : IVec S16 32) (v221 : IVec S16 32) (k0_hw13 : k0_chk13 i v59 v60 v61 v62 v219 v221), ∀ (k0_h1 : k0_cond1 i = 1#1), ∀ a x, ((![v219, v60, v221] : Fin 3 → IVec S16 32) a x).toNat < S8x4x128.size a := fun i v59 v60 v61 v62 v219 v221 k0_hw13 k0_h1 => k0_hw13.2.1 k0_h1
theorem k0_idx51_inb : ∀ (i : grid0.Coords) (v59 : IVec S16 32) (v60 : IVec S16 32) (v61 : IVec S16 32) (v62 : IVec S16 32) (v219 : IVec S16 32) (v221 : IVec S16 32) (k0_hw13 : k0_chk13 i v59 v60 v61 v62 v219 v221), ∀ (k0_h1 : k0_cond1 i = 1#1), ∀ a x, ((![v219, v61, v221] : Fin 3 → IVec S16 32) a x).toNat < S8x4x128.size a := fun i v59 v60 v61 v62 v219 v221 k0_hw13 k0_h1 => k0_hw13.2.2.1 k0_h1
theorem k0_idx52_inb : ∀ (i : grid0.Coords) (v59 : IVec S16 32) (v60 : IVec S16 32) (v61 : IVec S16 32) (v62 : IVec S16 32) (v219 : IVec S16 32) (v221 : IVec S16 32) (k0_hw13 : k0_chk13 i v59 v60 v61 v62 v219 v221), ∀ (k0_h1 : k0_cond1 i = 1#1), ∀ a x, ((![v219, v62, v221] : Fin 3 → IVec S16 32) a x).toNat < S8x4x128.size a := fun i v59 v60 v61 v62 v219 v221 k0_hw13 k0_h1 => k0_hw13.2.2.2 k0_h1
def k0_off55 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v247 : Index := Scalar.indexCast arg8
  let c3_i32_96 : BitVec 32 := 3#32
  let v248 : Index := Scalar.indexCast c3_i32_96
  let c64_97 : Index := 64#32
  ![v247.toNat, 3, 64]
def k0_off56 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v261 : Index := Scalar.indexCast arg8
  let c0_i32_101 : BitVec 32 := 0#32
  let v262 : Index := Scalar.indexCast c0_i32_101
  let c80 : Index := 80#32
  ![v261.toNat, 0, 80]
def k0_off57 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v268 : Index := Scalar.indexCast arg8
  let c1_i32_103 : BitVec 32 := 1#32
  let v269 : Index := Scalar.indexCast c1_i32_103
  let c80_104 : Index := 80#32
  ![v268.toNat, 1, 80]
def k0_off58 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v275 : Index := Scalar.indexCast arg8
  let c2_i32_106 : BitVec 32 := 2#32
  let v276 : Index := Scalar.indexCast c2_i32_106
  let c80_107 : Index := 80#32
  ![v275.toNat, 2, 80]

def k0_chk14 (i : grid0.Coords) (v59 : IVec S16 32) (v60 : IVec S16 32) (v61 : IVec S16 32) (v62 : IVec S16 32) (v254 : IVec S16 32) (v256 : IVec S16 32) : Prop :=
  (∀ (k0_h1 : k0_cond1 i = 1#1), ∀ a x, ((![v254, v59, v256] : Fin 3 → IVec S16 32) a x).toNat < S8x4x128.size a) ∧
  (∀ (k0_h1 : k0_cond1 i = 1#1), ∀ a x, ((![v254, v60, v256] : Fin 3 → IVec S16 32) a x).toNat < S8x4x128.size a) ∧
  (∀ (k0_h1 : k0_cond1 i = 1#1), ∀ a x, ((![v254, v61, v256] : Fin 3 → IVec S16 32) a x).toNat < S8x4x128.size a) ∧
  (∀ (k0_h1 : k0_cond1 i = 1#1), ∀ a x, ((![v254, v62, v256] : Fin 3 → IVec S16 32) a x).toNat < S8x4x128.size a)
theorem k0_idx53_inb : ∀ (i : grid0.Coords) (v59 : IVec S16 32) (v60 : IVec S16 32) (v61 : IVec S16 32) (v62 : IVec S16 32) (v254 : IVec S16 32) (v256 : IVec S16 32) (k0_hw14 : k0_chk14 i v59 v60 v61 v62 v254 v256), ∀ (k0_h1 : k0_cond1 i = 1#1), ∀ a x, ((![v254, v59, v256] : Fin 3 → IVec S16 32) a x).toNat < S8x4x128.size a := fun i v59 v60 v61 v62 v254 v256 k0_hw14 k0_h1 => k0_hw14.1 k0_h1
theorem k0_idx54_inb : ∀ (i : grid0.Coords) (v59 : IVec S16 32) (v60 : IVec S16 32) (v61 : IVec S16 32) (v62 : IVec S16 32) (v254 : IVec S16 32) (v256 : IVec S16 32) (k0_hw14 : k0_chk14 i v59 v60 v61 v62 v254 v256), ∀ (k0_h1 : k0_cond1 i = 1#1), ∀ a x, ((![v254, v60, v256] : Fin 3 → IVec S16 32) a x).toNat < S8x4x128.size a := fun i v59 v60 v61 v62 v254 v256 k0_hw14 k0_h1 => k0_hw14.2.1 k0_h1
theorem k0_idx55_inb : ∀ (i : grid0.Coords) (v59 : IVec S16 32) (v60 : IVec S16 32) (v61 : IVec S16 32) (v62 : IVec S16 32) (v254 : IVec S16 32) (v256 : IVec S16 32) (k0_hw14 : k0_chk14 i v59 v60 v61 v62 v254 v256), ∀ (k0_h1 : k0_cond1 i = 1#1), ∀ a x, ((![v254, v61, v256] : Fin 3 → IVec S16 32) a x).toNat < S8x4x128.size a := fun i v59 v60 v61 v62 v254 v256 k0_hw14 k0_h1 => k0_hw14.2.2.1 k0_h1
theorem k0_idx56_inb : ∀ (i : grid0.Coords) (v59 : IVec S16 32) (v60 : IVec S16 32) (v61 : IVec S16 32) (v62 : IVec S16 32) (v254 : IVec S16 32) (v256 : IVec S16 32) (k0_hw14 : k0_chk14 i v59 v60 v61 v62 v254 v256), ∀ (k0_h1 : k0_cond1 i = 1#1), ∀ a x, ((![v254, v62, v256] : Fin 3 → IVec S16 32) a x).toNat < S8x4x128.size a := fun i v59 v60 v61 v62 v254 v256 k0_hw14 k0_h1 => k0_hw14.2.2.2 k0_h1
def k0_off59 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v282 : Index := Scalar.indexCast arg8
  let c3_i32_109 : BitVec 32 := 3#32
  let v283 : Index := Scalar.indexCast c3_i32_109
  let c80_110 : Index := 80#32
  ![v282.toNat, 3, 80]
def k0_off60 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v296 : Index := Scalar.indexCast arg8
  let c0_i32_114 : BitVec 32 := 0#32
  let v297 : Index := Scalar.indexCast c0_i32_114
  let c96 : Index := 96#32
  ![v296.toNat, 0, 96]
def k0_off61 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v303 : Index := Scalar.indexCast arg8
  let c1_i32_116 : BitVec 32 := 1#32
  let v304 : Index := Scalar.indexCast c1_i32_116
  let c96_117 : Index := 96#32
  ![v303.toNat, 1, 96]
def k0_off62 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v310 : Index := Scalar.indexCast arg8
  let c2_i32_119 : BitVec 32 := 2#32
  let v311 : Index := Scalar.indexCast c2_i32_119
  let c96_120 : Index := 96#32
  ![v310.toNat, 2, 96]

def k0_chk15 (i : grid0.Coords) (v59 : IVec S16 32) (v60 : IVec S16 32) (v61 : IVec S16 32) (v62 : IVec S16 32) (v289 : IVec S16 32) (v291 : IVec S16 32) : Prop :=
  (∀ (k0_h1 : k0_cond1 i = 1#1), ∀ a x, ((![v289, v59, v291] : Fin 3 → IVec S16 32) a x).toNat < S8x4x128.size a) ∧
  (∀ (k0_h1 : k0_cond1 i = 1#1), ∀ a x, ((![v289, v60, v291] : Fin 3 → IVec S16 32) a x).toNat < S8x4x128.size a) ∧
  (∀ (k0_h1 : k0_cond1 i = 1#1), ∀ a x, ((![v289, v61, v291] : Fin 3 → IVec S16 32) a x).toNat < S8x4x128.size a) ∧
  (∀ (k0_h1 : k0_cond1 i = 1#1), ∀ a x, ((![v289, v62, v291] : Fin 3 → IVec S16 32) a x).toNat < S8x4x128.size a)
theorem k0_idx57_inb : ∀ (i : grid0.Coords) (v59 : IVec S16 32) (v60 : IVec S16 32) (v61 : IVec S16 32) (v62 : IVec S16 32) (v289 : IVec S16 32) (v291 : IVec S16 32) (k0_hw15 : k0_chk15 i v59 v60 v61 v62 v289 v291), ∀ (k0_h1 : k0_cond1 i = 1#1), ∀ a x, ((![v289, v59, v291] : Fin 3 → IVec S16 32) a x).toNat < S8x4x128.size a := fun i v59 v60 v61 v62 v289 v291 k0_hw15 k0_h1 => k0_hw15.1 k0_h1
theorem k0_idx58_inb : ∀ (i : grid0.Coords) (v59 : IVec S16 32) (v60 : IVec S16 32) (v61 : IVec S16 32) (v62 : IVec S16 32) (v289 : IVec S16 32) (v291 : IVec S16 32) (k0_hw15 : k0_chk15 i v59 v60 v61 v62 v289 v291), ∀ (k0_h1 : k0_cond1 i = 1#1), ∀ a x, ((![v289, v60, v291] : Fin 3 → IVec S16 32) a x).toNat < S8x4x128.size a := fun i v59 v60 v61 v62 v289 v291 k0_hw15 k0_h1 => k0_hw15.2.1 k0_h1
theorem k0_idx59_inb : ∀ (i : grid0.Coords) (v59 : IVec S16 32) (v60 : IVec S16 32) (v61 : IVec S16 32) (v62 : IVec S16 32) (v289 : IVec S16 32) (v291 : IVec S16 32) (k0_hw15 : k0_chk15 i v59 v60 v61 v62 v289 v291), ∀ (k0_h1 : k0_cond1 i = 1#1), ∀ a x, ((![v289, v61, v291] : Fin 3 → IVec S16 32) a x).toNat < S8x4x128.size a := fun i v59 v60 v61 v62 v289 v291 k0_hw15 k0_h1 => k0_hw15.2.2.1 k0_h1
theorem k0_idx60_inb : ∀ (i : grid0.Coords) (v59 : IVec S16 32) (v60 : IVec S16 32) (v61 : IVec S16 32) (v62 : IVec S16 32) (v289 : IVec S16 32) (v291 : IVec S16 32) (k0_hw15 : k0_chk15 i v59 v60 v61 v62 v289 v291), ∀ (k0_h1 : k0_cond1 i = 1#1), ∀ a x, ((![v289, v62, v291] : Fin 3 → IVec S16 32) a x).toNat < S8x4x128.size a := fun i v59 v60 v61 v62 v289 v291 k0_hw15 k0_h1 => k0_hw15.2.2.2 k0_h1
def k0_off63 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v317 : Index := Scalar.indexCast arg8
  let c3_i32_122 : BitVec 32 := 3#32
  let v318 : Index := Scalar.indexCast c3_i32_122
  let c96_123 : Index := 96#32
  ![v317.toNat, 3, 96]
def k0_off64 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v331 : Index := Scalar.indexCast arg8
  let c0_i32_127 : BitVec 32 := 0#32
  let v332 : Index := Scalar.indexCast c0_i32_127
  let c112 : Index := 112#32
  ![v331.toNat, 0, 112]
def k0_off65 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v338 : Index := Scalar.indexCast arg8
  let c1_i32_129 : BitVec 32 := 1#32
  let v339 : Index := Scalar.indexCast c1_i32_129
  let c112_130 : Index := 112#32
  ![v338.toNat, 1, 112]
def k0_off66 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v345 : Index := Scalar.indexCast arg8
  let c2_i32_132 : BitVec 32 := 2#32
  let v346 : Index := Scalar.indexCast c2_i32_132
  let c112_133 : Index := 112#32
  ![v345.toNat, 2, 112]

def k0_chk16 (i : grid0.Coords) (v59 : IVec S16 32) (v60 : IVec S16 32) (v61 : IVec S16 32) (v62 : IVec S16 32) (v324 : IVec S16 32) (v326 : IVec S16 32) : Prop :=
  (∀ (k0_h1 : k0_cond1 i = 1#1), ∀ a x, ((![v324, v59, v326] : Fin 3 → IVec S16 32) a x).toNat < S8x4x128.size a) ∧
  (∀ (k0_h1 : k0_cond1 i = 1#1), ∀ a x, ((![v324, v60, v326] : Fin 3 → IVec S16 32) a x).toNat < S8x4x128.size a) ∧
  (∀ (k0_h1 : k0_cond1 i = 1#1), ∀ a x, ((![v324, v61, v326] : Fin 3 → IVec S16 32) a x).toNat < S8x4x128.size a) ∧
  (∀ (k0_h1 : k0_cond1 i = 1#1), ∀ a x, ((![v324, v62, v326] : Fin 3 → IVec S16 32) a x).toNat < S8x4x128.size a)
theorem k0_idx61_inb : ∀ (i : grid0.Coords) (v59 : IVec S16 32) (v60 : IVec S16 32) (v61 : IVec S16 32) (v62 : IVec S16 32) (v324 : IVec S16 32) (v326 : IVec S16 32) (k0_hw16 : k0_chk16 i v59 v60 v61 v62 v324 v326), ∀ (k0_h1 : k0_cond1 i = 1#1), ∀ a x, ((![v324, v59, v326] : Fin 3 → IVec S16 32) a x).toNat < S8x4x128.size a := fun i v59 v60 v61 v62 v324 v326 k0_hw16 k0_h1 => k0_hw16.1 k0_h1
theorem k0_idx62_inb : ∀ (i : grid0.Coords) (v59 : IVec S16 32) (v60 : IVec S16 32) (v61 : IVec S16 32) (v62 : IVec S16 32) (v324 : IVec S16 32) (v326 : IVec S16 32) (k0_hw16 : k0_chk16 i v59 v60 v61 v62 v324 v326), ∀ (k0_h1 : k0_cond1 i = 1#1), ∀ a x, ((![v324, v60, v326] : Fin 3 → IVec S16 32) a x).toNat < S8x4x128.size a := fun i v59 v60 v61 v62 v324 v326 k0_hw16 k0_h1 => k0_hw16.2.1 k0_h1
theorem k0_idx63_inb : ∀ (i : grid0.Coords) (v59 : IVec S16 32) (v60 : IVec S16 32) (v61 : IVec S16 32) (v62 : IVec S16 32) (v324 : IVec S16 32) (v326 : IVec S16 32) (k0_hw16 : k0_chk16 i v59 v60 v61 v62 v324 v326), ∀ (k0_h1 : k0_cond1 i = 1#1), ∀ a x, ((![v324, v61, v326] : Fin 3 → IVec S16 32) a x).toNat < S8x4x128.size a := fun i v59 v60 v61 v62 v324 v326 k0_hw16 k0_h1 => k0_hw16.2.2.1 k0_h1
theorem k0_idx64_inb : ∀ (i : grid0.Coords) (v59 : IVec S16 32) (v60 : IVec S16 32) (v61 : IVec S16 32) (v62 : IVec S16 32) (v324 : IVec S16 32) (v326 : IVec S16 32) (k0_hw16 : k0_chk16 i v59 v60 v61 v62 v324 v326), ∀ (k0_h1 : k0_cond1 i = 1#1), ∀ a x, ((![v324, v62, v326] : Fin 3 → IVec S16 32) a x).toNat < S8x4x128.size a := fun i v59 v60 v61 v62 v324 v326 k0_hw16 k0_h1 => k0_hw16.2.2.2 k0_h1
def k0_off67 (k0_t3 : Fin k0_t3_loop.trips) : Fin 3 → Nat :=
  let c0_i32_28 : BitVec 32 := 0#32
  let c1_i32_29 : BitVec 32 := 1#32
  let arg8 : BitVec 32 := Scf.iv c0_i32_28 c1_i32_29 k0_t3
  let v352 : Index := Scalar.indexCast arg8
  let c3_i32_135 : BitVec 32 := 3#32
  let v353 : Index := Scalar.indexCast c3_i32_135
  let c112_136 : Index := 112#32
  ![v352.toNat, 3, 112]
def k0_off68 (i : grid0.Coords) : Fin 3 → Nat :=
  let c480_i32 : BitVec 32 := 480#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v70 : BitVec 32 := Scalar.addi c480_i32 v1
  let c64_i32_31 : BitVec 32 := 64#32
  let v73 : BitVec 32 := Scalar.muli v70 c64_i32_31
  let c0_i32_32_r3 : BitVec 32 := 0#32
  let c0_i32_33_r3 : BitVec 32 := 0#32
  ![v73.toNat, 0, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_24 : BitVec 32 := 8#32
  let v67 : BitVec 1 := Scalar.cmpi .eq v1 c8_i32_24
  let v68 : BitVec 32 := Scalar.extui v67
  let c0_i32_25 : BitVec 32 := 0#32
  let v69 : BitVec 1 := Scalar.cmpi .ne v68 c0_i32_25
  v69

@[reducible] def k0_t4_loop : Scf.Loop 32 :=
  let c0_i32_27 : BitVec 32 := 0#32
  let c16_i32 : BitVec 32 := 16#32
  let v70 : BitVec 32 := Scalar.addi c0_i32_27 c16_i32
  let c1_i32_28 : BitVec 32 := 1#32
  ⟨c0_i32_27, v70, c1_i32_28⟩
def k0_off69 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v563 : Index := Scalar.indexCast arg8
  let c0_i32_284 : BitVec 32 := 0#32
  let v564 : Index := Scalar.indexCast c0_i32_284
  let c0_285 : Index := 0#32
  ![v563.toNat, 0, 0]
def k0_off70 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v570 : Index := Scalar.indexCast arg8
  let c1_i32_287 : BitVec 32 := 1#32
  let v571 : Index := Scalar.indexCast c1_i32_287
  let c0_288 : Index := 0#32
  ![v570.toNat, 1, 0]
def k0_off71 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v577 : Index := Scalar.indexCast arg8
  let c2_i32_290 : BitVec 32 := 2#32
  let v578 : Index := Scalar.indexCast c2_i32_290
  let c0_291 : Index := 0#32
  ![v577.toNat, 2, 0]

def k0_chk17 (i : grid0.Coords) (v59 : IVec S16 32) (v60 : IVec S16 32) (v61 : IVec S16 32) (v62 : IVec S16 32) (v556 : IVec S16 32) (v558 : IVec S16 32) : Prop :=
  (∀ (k0_h2 : k0_cond2 i = 1#1), ∀ a x, ((![v556, v59, v558] : Fin 3 → IVec S16 32) a x).toNat < S8x4x128.size a) ∧
  (∀ (k0_h2 : k0_cond2 i = 1#1), ∀ a x, ((![v556, v60, v558] : Fin 3 → IVec S16 32) a x).toNat < S8x4x128.size a) ∧
  (∀ (k0_h2 : k0_cond2 i = 1#1), ∀ a x, ((![v556, v61, v558] : Fin 3 → IVec S16 32) a x).toNat < S8x4x128.size a) ∧
  (∀ (k0_h2 : k0_cond2 i = 1#1), ∀ a x, ((![v556, v62, v558] : Fin 3 → IVec S16 32) a x).toNat < S8x4x128.size a)
theorem k0_idx65_inb : ∀ (i : grid0.Coords) (v59 : IVec S16 32) (v60 : IVec S16 32) (v61 : IVec S16 32) (v62 : IVec S16 32) (v556 : IVec S16 32) (v558 : IVec S16 32) (k0_hw17 : k0_chk17 i v59 v60 v61 v62 v556 v558), ∀ (k0_h2 : k0_cond2 i = 1#1), ∀ a x, ((![v556, v59, v558] : Fin 3 → IVec S16 32) a x).toNat < S8x4x128.size a := fun i v59 v60 v61 v62 v556 v558 k0_hw17 k0_h2 => k0_hw17.1 k0_h2
theorem k0_idx66_inb : ∀ (i : grid0.Coords) (v59 : IVec S16 32) (v60 : IVec S16 32) (v61 : IVec S16 32) (v62 : IVec S16 32) (v556 : IVec S16 32) (v558 : IVec S16 32) (k0_hw17 : k0_chk17 i v59 v60 v61 v62 v556 v558), ∀ (k0_h2 : k0_cond2 i = 1#1), ∀ a x, ((![v556, v60, v558] : Fin 3 → IVec S16 32) a x).toNat < S8x4x128.size a := fun i v59 v60 v61 v62 v556 v558 k0_hw17 k0_h2 => k0_hw17.2.1 k0_h2
theorem k0_idx67_inb : ∀ (i : grid0.Coords) (v59 : IVec S16 32) (v60 : IVec S16 32) (v61 : IVec S16 32) (v62 : IVec S16 32) (v556 : IVec S16 32) (v558 : IVec S16 32) (k0_hw17 : k0_chk17 i v59 v60 v61 v62 v556 v558), ∀ (k0_h2 : k0_cond2 i = 1#1), ∀ a x, ((![v556, v61, v558] : Fin 3 → IVec S16 32) a x).toNat < S8x4x128.size a := fun i v59 v60 v61 v62 v556 v558 k0_hw17 k0_h2 => k0_hw17.2.2.1 k0_h2
theorem k0_idx68_inb : ∀ (i : grid0.Coords) (v59 : IVec S16 32) (v60 : IVec S16 32) (v61 : IVec S16 32) (v62 : IVec S16 32) (v556 : IVec S16 32) (v558 : IVec S16 32) (k0_hw17 : k0_chk17 i v59 v60 v61 v62 v556 v558), ∀ (k0_h2 : k0_cond2 i = 1#1), ∀ a x, ((![v556, v62, v558] : Fin 3 → IVec S16 32) a x).toNat < S8x4x128.size a := fun i v59 v60 v61 v62 v556 v558 k0_hw17 k0_h2 => k0_hw17.2.2.2 k0_h2
def k0_off72 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v584 : Index := Scalar.indexCast arg8
  let c3_i32_293 : BitVec 32 := 3#32
  let v585 : Index := Scalar.indexCast c3_i32_293
  let c0_294 : Index := 0#32
  ![v584.toNat, 3, 0]
def k0_off73 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v598 : Index := Scalar.indexCast arg8
  let c0_i32_299 : BitVec 32 := 0#32
  let v599 : Index := Scalar.indexCast c0_i32_299
  let c16_300 : Index := 16#32
  ![v598.toNat, 0, 16]
def k0_off74 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v605 : Index := Scalar.indexCast arg8
  let c1_i32_302 : BitVec 32 := 1#32
  let v606 : Index := Scalar.indexCast c1_i32_302
  let c16_303 : Index := 16#32
  ![v605.toNat, 1, 16]
def k0_off75 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v612 : Index := Scalar.indexCast arg8
  let c2_i32_305 : BitVec 32 := 2#32
  let v613 : Index := Scalar.indexCast c2_i32_305
  let c16_306 : Index := 16#32
  ![v612.toNat, 2, 16]

def k0_chk18 (i : grid0.Coords) (v59 : IVec S16 32) (v60 : IVec S16 32) (v61 : IVec S16 32) (v62 : IVec S16 32) (v591 : IVec S16 32) (v593 : IVec S16 32) : Prop :=
  (∀ (k0_h2 : k0_cond2 i = 1#1), ∀ a x, ((![v591, v59, v593] : Fin 3 → IVec S16 32) a x).toNat < S8x4x128.size a) ∧
  (∀ (k0_h2 : k0_cond2 i = 1#1), ∀ a x, ((![v591, v60, v593] : Fin 3 → IVec S16 32) a x).toNat < S8x4x128.size a) ∧
  (∀ (k0_h2 : k0_cond2 i = 1#1), ∀ a x, ((![v591, v61, v593] : Fin 3 → IVec S16 32) a x).toNat < S8x4x128.size a) ∧
  (∀ (k0_h2 : k0_cond2 i = 1#1), ∀ a x, ((![v591, v62, v593] : Fin 3 → IVec S16 32) a x).toNat < S8x4x128.size a)
theorem k0_idx69_inb : ∀ (i : grid0.Coords) (v59 : IVec S16 32) (v60 : IVec S16 32) (v61 : IVec S16 32) (v62 : IVec S16 32) (v591 : IVec S16 32) (v593 : IVec S16 32) (k0_hw18 : k0_chk18 i v59 v60 v61 v62 v591 v593), ∀ (k0_h2 : k0_cond2 i = 1#1), ∀ a x, ((![v591, v59, v593] : Fin 3 → IVec S16 32) a x).toNat < S8x4x128.size a := fun i v59 v60 v61 v62 v591 v593 k0_hw18 k0_h2 => k0_hw18.1 k0_h2
theorem k0_idx70_inb : ∀ (i : grid0.Coords) (v59 : IVec S16 32) (v60 : IVec S16 32) (v61 : IVec S16 32) (v62 : IVec S16 32) (v591 : IVec S16 32) (v593 : IVec S16 32) (k0_hw18 : k0_chk18 i v59 v60 v61 v62 v591 v593), ∀ (k0_h2 : k0_cond2 i = 1#1), ∀ a x, ((![v591, v60, v593] : Fin 3 → IVec S16 32) a x).toNat < S8x4x128.size a := fun i v59 v60 v61 v62 v591 v593 k0_hw18 k0_h2 => k0_hw18.2.1 k0_h2
theorem k0_idx71_inb : ∀ (i : grid0.Coords) (v59 : IVec S16 32) (v60 : IVec S16 32) (v61 : IVec S16 32) (v62 : IVec S16 32) (v591 : IVec S16 32) (v593 : IVec S16 32) (k0_hw18 : k0_chk18 i v59 v60 v61 v62 v591 v593), ∀ (k0_h2 : k0_cond2 i = 1#1), ∀ a x, ((![v591, v61, v593] : Fin 3 → IVec S16 32) a x).toNat < S8x4x128.size a := fun i v59 v60 v61 v62 v591 v593 k0_hw18 k0_h2 => k0_hw18.2.2.1 k0_h2
theorem k0_idx72_inb : ∀ (i : grid0.Coords) (v59 : IVec S16 32) (v60 : IVec S16 32) (v61 : IVec S16 32) (v62 : IVec S16 32) (v591 : IVec S16 32) (v593 : IVec S16 32) (k0_hw18 : k0_chk18 i v59 v60 v61 v62 v591 v593), ∀ (k0_h2 : k0_cond2 i = 1#1), ∀ a x, ((![v591, v62, v593] : Fin 3 → IVec S16 32) a x).toNat < S8x4x128.size a := fun i v59 v60 v61 v62 v591 v593 k0_hw18 k0_h2 => k0_hw18.2.2.2 k0_h2
def k0_off76 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v619 : Index := Scalar.indexCast arg8
  let c3_i32_308 : BitVec 32 := 3#32
  let v620 : Index := Scalar.indexCast c3_i32_308
  let c16_309 : Index := 16#32
  ![v619.toNat, 3, 16]
def k0_off77 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v633 : Index := Scalar.indexCast arg8
  let c0_i32_314 : BitVec 32 := 0#32
  let v634 : Index := Scalar.indexCast c0_i32_314
  let c32_315 : Index := 32#32
  ![v633.toNat, 0, 32]
def k0_off78 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v640 : Index := Scalar.indexCast arg8
  let c1_i32_317 : BitVec 32 := 1#32
  let v641 : Index := Scalar.indexCast c1_i32_317
  let c32_318 : Index := 32#32
  ![v640.toNat, 1, 32]
def k0_off79 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v647 : Index := Scalar.indexCast arg8
  let c2_i32_320 : BitVec 32 := 2#32
  let v648 : Index := Scalar.indexCast c2_i32_320
  let c32_321 : Index := 32#32
  ![v647.toNat, 2, 32]

def k0_chk19 (i : grid0.Coords) (v59 : IVec S16 32) (v60 : IVec S16 32) (v61 : IVec S16 32) (v62 : IVec S16 32) (v626 : IVec S16 32) (v628 : IVec S16 32) : Prop :=
  (∀ (k0_h2 : k0_cond2 i = 1#1), ∀ a x, ((![v626, v59, v628] : Fin 3 → IVec S16 32) a x).toNat < S8x4x128.size a) ∧
  (∀ (k0_h2 : k0_cond2 i = 1#1), ∀ a x, ((![v626, v60, v628] : Fin 3 → IVec S16 32) a x).toNat < S8x4x128.size a) ∧
  (∀ (k0_h2 : k0_cond2 i = 1#1), ∀ a x, ((![v626, v61, v628] : Fin 3 → IVec S16 32) a x).toNat < S8x4x128.size a) ∧
  (∀ (k0_h2 : k0_cond2 i = 1#1), ∀ a x, ((![v626, v62, v628] : Fin 3 → IVec S16 32) a x).toNat < S8x4x128.size a)
theorem k0_idx73_inb : ∀ (i : grid0.Coords) (v59 : IVec S16 32) (v60 : IVec S16 32) (v61 : IVec S16 32) (v62 : IVec S16 32) (v626 : IVec S16 32) (v628 : IVec S16 32) (k0_hw19 : k0_chk19 i v59 v60 v61 v62 v626 v628), ∀ (k0_h2 : k0_cond2 i = 1#1), ∀ a x, ((![v626, v59, v628] : Fin 3 → IVec S16 32) a x).toNat < S8x4x128.size a := fun i v59 v60 v61 v62 v626 v628 k0_hw19 k0_h2 => k0_hw19.1 k0_h2
theorem k0_idx74_inb : ∀ (i : grid0.Coords) (v59 : IVec S16 32) (v60 : IVec S16 32) (v61 : IVec S16 32) (v62 : IVec S16 32) (v626 : IVec S16 32) (v628 : IVec S16 32) (k0_hw19 : k0_chk19 i v59 v60 v61 v62 v626 v628), ∀ (k0_h2 : k0_cond2 i = 1#1), ∀ a x, ((![v626, v60, v628] : Fin 3 → IVec S16 32) a x).toNat < S8x4x128.size a := fun i v59 v60 v61 v62 v626 v628 k0_hw19 k0_h2 => k0_hw19.2.1 k0_h2
theorem k0_idx75_inb : ∀ (i : grid0.Coords) (v59 : IVec S16 32) (v60 : IVec S16 32) (v61 : IVec S16 32) (v62 : IVec S16 32) (v626 : IVec S16 32) (v628 : IVec S16 32) (k0_hw19 : k0_chk19 i v59 v60 v61 v62 v626 v628), ∀ (k0_h2 : k0_cond2 i = 1#1), ∀ a x, ((![v626, v61, v628] : Fin 3 → IVec S16 32) a x).toNat < S8x4x128.size a := fun i v59 v60 v61 v62 v626 v628 k0_hw19 k0_h2 => k0_hw19.2.2.1 k0_h2
theorem k0_idx76_inb : ∀ (i : grid0.Coords) (v59 : IVec S16 32) (v60 : IVec S16 32) (v61 : IVec S16 32) (v62 : IVec S16 32) (v626 : IVec S16 32) (v628 : IVec S16 32) (k0_hw19 : k0_chk19 i v59 v60 v61 v62 v626 v628), ∀ (k0_h2 : k0_cond2 i = 1#1), ∀ a x, ((![v626, v62, v628] : Fin 3 → IVec S16 32) a x).toNat < S8x4x128.size a := fun i v59 v60 v61 v62 v626 v628 k0_hw19 k0_h2 => k0_hw19.2.2.2 k0_h2
def k0_off80 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v654 : Index := Scalar.indexCast arg8
  let c3_i32_323 : BitVec 32 := 3#32
  let v655 : Index := Scalar.indexCast c3_i32_323
  let c32_324 : Index := 32#32
  ![v654.toNat, 3, 32]
def k0_off81 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v668 : Index := Scalar.indexCast arg8
  let c0_i32_329 : BitVec 32 := 0#32
  let v669 : Index := Scalar.indexCast c0_i32_329
  let c48_330 : Index := 48#32
  ![v668.toNat, 0, 48]
def k0_off82 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v675 : Index := Scalar.indexCast arg8
  let c1_i32_332 : BitVec 32 := 1#32
  let v676 : Index := Scalar.indexCast c1_i32_332
  let c48_333 : Index := 48#32
  ![v675.toNat, 1, 48]
def k0_off83 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v682 : Index := Scalar.indexCast arg8
  let c2_i32_335 : BitVec 32 := 2#32
  let v683 : Index := Scalar.indexCast c2_i32_335
  let c48_336 : Index := 48#32
  ![v682.toNat, 2, 48]

def k0_chk20 (i : grid0.Coords) (v59 : IVec S16 32) (v60 : IVec S16 32) (v61 : IVec S16 32) (v62 : IVec S16 32) (v661 : IVec S16 32) (v663 : IVec S16 32) : Prop :=
  (∀ (k0_h2 : k0_cond2 i = 1#1), ∀ a x, ((![v661, v59, v663] : Fin 3 → IVec S16 32) a x).toNat < S8x4x128.size a) ∧
  (∀ (k0_h2 : k0_cond2 i = 1#1), ∀ a x, ((![v661, v60, v663] : Fin 3 → IVec S16 32) a x).toNat < S8x4x128.size a) ∧
  (∀ (k0_h2 : k0_cond2 i = 1#1), ∀ a x, ((![v661, v61, v663] : Fin 3 → IVec S16 32) a x).toNat < S8x4x128.size a) ∧
  (∀ (k0_h2 : k0_cond2 i = 1#1), ∀ a x, ((![v661, v62, v663] : Fin 3 → IVec S16 32) a x).toNat < S8x4x128.size a)
theorem k0_idx77_inb : ∀ (i : grid0.Coords) (v59 : IVec S16 32) (v60 : IVec S16 32) (v61 : IVec S16 32) (v62 : IVec S16 32) (v661 : IVec S16 32) (v663 : IVec S16 32) (k0_hw20 : k0_chk20 i v59 v60 v61 v62 v661 v663), ∀ (k0_h2 : k0_cond2 i = 1#1), ∀ a x, ((![v661, v59, v663] : Fin 3 → IVec S16 32) a x).toNat < S8x4x128.size a := fun i v59 v60 v61 v62 v661 v663 k0_hw20 k0_h2 => k0_hw20.1 k0_h2
theorem k0_idx78_inb : ∀ (i : grid0.Coords) (v59 : IVec S16 32) (v60 : IVec S16 32) (v61 : IVec S16 32) (v62 : IVec S16 32) (v661 : IVec S16 32) (v663 : IVec S16 32) (k0_hw20 : k0_chk20 i v59 v60 v61 v62 v661 v663), ∀ (k0_h2 : k0_cond2 i = 1#1), ∀ a x, ((![v661, v60, v663] : Fin 3 → IVec S16 32) a x).toNat < S8x4x128.size a := fun i v59 v60 v61 v62 v661 v663 k0_hw20 k0_h2 => k0_hw20.2.1 k0_h2
theorem k0_idx79_inb : ∀ (i : grid0.Coords) (v59 : IVec S16 32) (v60 : IVec S16 32) (v61 : IVec S16 32) (v62 : IVec S16 32) (v661 : IVec S16 32) (v663 : IVec S16 32) (k0_hw20 : k0_chk20 i v59 v60 v61 v62 v661 v663), ∀ (k0_h2 : k0_cond2 i = 1#1), ∀ a x, ((![v661, v61, v663] : Fin 3 → IVec S16 32) a x).toNat < S8x4x128.size a := fun i v59 v60 v61 v62 v661 v663 k0_hw20 k0_h2 => k0_hw20.2.2.1 k0_h2
theorem k0_idx80_inb : ∀ (i : grid0.Coords) (v59 : IVec S16 32) (v60 : IVec S16 32) (v61 : IVec S16 32) (v62 : IVec S16 32) (v661 : IVec S16 32) (v663 : IVec S16 32) (k0_hw20 : k0_chk20 i v59 v60 v61 v62 v661 v663), ∀ (k0_h2 : k0_cond2 i = 1#1), ∀ a x, ((![v661, v62, v663] : Fin 3 → IVec S16 32) a x).toNat < S8x4x128.size a := fun i v59 v60 v61 v62 v661 v663 k0_hw20 k0_h2 => k0_hw20.2.2.2 k0_h2
def k0_off84 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v689 : Index := Scalar.indexCast arg8
  let c3_i32_338 : BitVec 32 := 3#32
  let v690 : Index := Scalar.indexCast c3_i32_338
  let c48_339 : Index := 48#32
  ![v689.toNat, 3, 48]
def k0_off85 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v703 : Index := Scalar.indexCast arg8
  let c0_i32_344 : BitVec 32 := 0#32
  let v704 : Index := Scalar.indexCast c0_i32_344
  let c64_345 : Index := 64#32
  ![v703.toNat, 0, 64]
def k0_off86 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v710 : Index := Scalar.indexCast arg8
  let c1_i32_347 : BitVec 32 := 1#32
  let v711 : Index := Scalar.indexCast c1_i32_347
  let c64_348 : Index := 64#32
  ![v710.toNat, 1, 64]
def k0_off87 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v717 : Index := Scalar.indexCast arg8
  let c2_i32_350 : BitVec 32 := 2#32
  let v718 : Index := Scalar.indexCast c2_i32_350
  let c64_351 : Index := 64#32
  ![v717.toNat, 2, 64]

def k0_chk21 (i : grid0.Coords) (v59 : IVec S16 32) (v60 : IVec S16 32) (v61 : IVec S16 32) (v62 : IVec S16 32) (v696 : IVec S16 32) (v698 : IVec S16 32) : Prop :=
  (∀ (k0_h2 : k0_cond2 i = 1#1), ∀ a x, ((![v696, v59, v698] : Fin 3 → IVec S16 32) a x).toNat < S8x4x128.size a) ∧
  (∀ (k0_h2 : k0_cond2 i = 1#1), ∀ a x, ((![v696, v60, v698] : Fin 3 → IVec S16 32) a x).toNat < S8x4x128.size a) ∧
  (∀ (k0_h2 : k0_cond2 i = 1#1), ∀ a x, ((![v696, v61, v698] : Fin 3 → IVec S16 32) a x).toNat < S8x4x128.size a) ∧
  (∀ (k0_h2 : k0_cond2 i = 1#1), ∀ a x, ((![v696, v62, v698] : Fin 3 → IVec S16 32) a x).toNat < S8x4x128.size a)
theorem k0_idx81_inb : ∀ (i : grid0.Coords) (v59 : IVec S16 32) (v60 : IVec S16 32) (v61 : IVec S16 32) (v62 : IVec S16 32) (v696 : IVec S16 32) (v698 : IVec S16 32) (k0_hw21 : k0_chk21 i v59 v60 v61 v62 v696 v698), ∀ (k0_h2 : k0_cond2 i = 1#1), ∀ a x, ((![v696, v59, v698] : Fin 3 → IVec S16 32) a x).toNat < S8x4x128.size a := fun i v59 v60 v61 v62 v696 v698 k0_hw21 k0_h2 => k0_hw21.1 k0_h2
theorem k0_idx82_inb : ∀ (i : grid0.Coords) (v59 : IVec S16 32) (v60 : IVec S16 32) (v61 : IVec S16 32) (v62 : IVec S16 32) (v696 : IVec S16 32) (v698 : IVec S16 32) (k0_hw21 : k0_chk21 i v59 v60 v61 v62 v696 v698), ∀ (k0_h2 : k0_cond2 i = 1#1), ∀ a x, ((![v696, v60, v698] : Fin 3 → IVec S16 32) a x).toNat < S8x4x128.size a := fun i v59 v60 v61 v62 v696 v698 k0_hw21 k0_h2 => k0_hw21.2.1 k0_h2
theorem k0_idx83_inb : ∀ (i : grid0.Coords) (v59 : IVec S16 32) (v60 : IVec S16 32) (v61 : IVec S16 32) (v62 : IVec S16 32) (v696 : IVec S16 32) (v698 : IVec S16 32) (k0_hw21 : k0_chk21 i v59 v60 v61 v62 v696 v698), ∀ (k0_h2 : k0_cond2 i = 1#1), ∀ a x, ((![v696, v61, v698] : Fin 3 → IVec S16 32) a x).toNat < S8x4x128.size a := fun i v59 v60 v61 v62 v696 v698 k0_hw21 k0_h2 => k0_hw21.2.2.1 k0_h2
theorem k0_idx84_inb : ∀ (i : grid0.Coords) (v59 : IVec S16 32) (v60 : IVec S16 32) (v61 : IVec S16 32) (v62 : IVec S16 32) (v696 : IVec S16 32) (v698 : IVec S16 32) (k0_hw21 : k0_chk21 i v59 v60 v61 v62 v696 v698), ∀ (k0_h2 : k0_cond2 i = 1#1), ∀ a x, ((![v696, v62, v698] : Fin 3 → IVec S16 32) a x).toNat < S8x4x128.size a := fun i v59 v60 v61 v62 v696 v698 k0_hw21 k0_h2 => k0_hw21.2.2.2 k0_h2
def k0_off88 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v724 : Index := Scalar.indexCast arg8
  let c3_i32_353 : BitVec 32 := 3#32
  let v725 : Index := Scalar.indexCast c3_i32_353
  let c64_354 : Index := 64#32
  ![v724.toNat, 3, 64]
def k0_off89 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v738 : Index := Scalar.indexCast arg8
  let c0_i32_359 : BitVec 32 := 0#32
  let v739 : Index := Scalar.indexCast c0_i32_359
  let c80_360 : Index := 80#32
  ![v738.toNat, 0, 80]
def k0_off90 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v745 : Index := Scalar.indexCast arg8
  let c1_i32_362 : BitVec 32 := 1#32
  let v746 : Index := Scalar.indexCast c1_i32_362
  let c80_363 : Index := 80#32
  ![v745.toNat, 1, 80]
def k0_off91 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v752 : Index := Scalar.indexCast arg8
  let c2_i32_365 : BitVec 32 := 2#32
  let v753 : Index := Scalar.indexCast c2_i32_365
  let c80_366 : Index := 80#32
  ![v752.toNat, 2, 80]

def k0_chk22 (i : grid0.Coords) (v59 : IVec S16 32) (v60 : IVec S16 32) (v61 : IVec S16 32) (v62 : IVec S16 32) (v731 : IVec S16 32) (v733 : IVec S16 32) : Prop :=
  (∀ (k0_h2 : k0_cond2 i = 1#1), ∀ a x, ((![v731, v59, v733] : Fin 3 → IVec S16 32) a x).toNat < S8x4x128.size a) ∧
  (∀ (k0_h2 : k0_cond2 i = 1#1), ∀ a x, ((![v731, v60, v733] : Fin 3 → IVec S16 32) a x).toNat < S8x4x128.size a) ∧
  (∀ (k0_h2 : k0_cond2 i = 1#1), ∀ a x, ((![v731, v61, v733] : Fin 3 → IVec S16 32) a x).toNat < S8x4x128.size a) ∧
  (∀ (k0_h2 : k0_cond2 i = 1#1), ∀ a x, ((![v731, v62, v733] : Fin 3 → IVec S16 32) a x).toNat < S8x4x128.size a)
theorem k0_idx85_inb : ∀ (i : grid0.Coords) (v59 : IVec S16 32) (v60 : IVec S16 32) (v61 : IVec S16 32) (v62 : IVec S16 32) (v731 : IVec S16 32) (v733 : IVec S16 32) (k0_hw22 : k0_chk22 i v59 v60 v61 v62 v731 v733), ∀ (k0_h2 : k0_cond2 i = 1#1), ∀ a x, ((![v731, v59, v733] : Fin 3 → IVec S16 32) a x).toNat < S8x4x128.size a := fun i v59 v60 v61 v62 v731 v733 k0_hw22 k0_h2 => k0_hw22.1 k0_h2
theorem k0_idx86_inb : ∀ (i : grid0.Coords) (v59 : IVec S16 32) (v60 : IVec S16 32) (v61 : IVec S16 32) (v62 : IVec S16 32) (v731 : IVec S16 32) (v733 : IVec S16 32) (k0_hw22 : k0_chk22 i v59 v60 v61 v62 v731 v733), ∀ (k0_h2 : k0_cond2 i = 1#1), ∀ a x, ((![v731, v60, v733] : Fin 3 → IVec S16 32) a x).toNat < S8x4x128.size a := fun i v59 v60 v61 v62 v731 v733 k0_hw22 k0_h2 => k0_hw22.2.1 k0_h2
theorem k0_idx87_inb : ∀ (i : grid0.Coords) (v59 : IVec S16 32) (v60 : IVec S16 32) (v61 : IVec S16 32) (v62 : IVec S16 32) (v731 : IVec S16 32) (v733 : IVec S16 32) (k0_hw22 : k0_chk22 i v59 v60 v61 v62 v731 v733), ∀ (k0_h2 : k0_cond2 i = 1#1), ∀ a x, ((![v731, v61, v733] : Fin 3 → IVec S16 32) a x).toNat < S8x4x128.size a := fun i v59 v60 v61 v62 v731 v733 k0_hw22 k0_h2 => k0_hw22.2.2.1 k0_h2
theorem k0_idx88_inb : ∀ (i : grid0.Coords) (v59 : IVec S16 32) (v60 : IVec S16 32) (v61 : IVec S16 32) (v62 : IVec S16 32) (v731 : IVec S16 32) (v733 : IVec S16 32) (k0_hw22 : k0_chk22 i v59 v60 v61 v62 v731 v733), ∀ (k0_h2 : k0_cond2 i = 1#1), ∀ a x, ((![v731, v62, v733] : Fin 3 → IVec S16 32) a x).toNat < S8x4x128.size a := fun i v59 v60 v61 v62 v731 v733 k0_hw22 k0_h2 => k0_hw22.2.2.2 k0_h2
def k0_off92 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v759 : Index := Scalar.indexCast arg8
  let c3_i32_368 : BitVec 32 := 3#32
  let v760 : Index := Scalar.indexCast c3_i32_368
  let c80_369 : Index := 80#32
  ![v759.toNat, 3, 80]
def k0_off93 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v773 : Index := Scalar.indexCast arg8
  let c0_i32_374 : BitVec 32 := 0#32
  let v774 : Index := Scalar.indexCast c0_i32_374
  let c96_375 : Index := 96#32
  ![v773.toNat, 0, 96]
def k0_off94 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v780 : Index := Scalar.indexCast arg8
  let c1_i32_377 : BitVec 32 := 1#32
  let v781 : Index := Scalar.indexCast c1_i32_377
  let c96_378 : Index := 96#32
  ![v780.toNat, 1, 96]
def k0_off95 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v787 : Index := Scalar.indexCast arg8
  let c2_i32_380 : BitVec 32 := 2#32
  let v788 : Index := Scalar.indexCast c2_i32_380
  let c96_381 : Index := 96#32
  ![v787.toNat, 2, 96]

def k0_chk23 (i : grid0.Coords) (v59 : IVec S16 32) (v60 : IVec S16 32) (v61 : IVec S16 32) (v62 : IVec S16 32) (v766 : IVec S16 32) (v768 : IVec S16 32) : Prop :=
  (∀ (k0_h2 : k0_cond2 i = 1#1), ∀ a x, ((![v766, v59, v768] : Fin 3 → IVec S16 32) a x).toNat < S8x4x128.size a) ∧
  (∀ (k0_h2 : k0_cond2 i = 1#1), ∀ a x, ((![v766, v60, v768] : Fin 3 → IVec S16 32) a x).toNat < S8x4x128.size a) ∧
  (∀ (k0_h2 : k0_cond2 i = 1#1), ∀ a x, ((![v766, v61, v768] : Fin 3 → IVec S16 32) a x).toNat < S8x4x128.size a) ∧
  (∀ (k0_h2 : k0_cond2 i = 1#1), ∀ a x, ((![v766, v62, v768] : Fin 3 → IVec S16 32) a x).toNat < S8x4x128.size a)
theorem k0_idx89_inb : ∀ (i : grid0.Coords) (v59 : IVec S16 32) (v60 : IVec S16 32) (v61 : IVec S16 32) (v62 : IVec S16 32) (v766 : IVec S16 32) (v768 : IVec S16 32) (k0_hw23 : k0_chk23 i v59 v60 v61 v62 v766 v768), ∀ (k0_h2 : k0_cond2 i = 1#1), ∀ a x, ((![v766, v59, v768] : Fin 3 → IVec S16 32) a x).toNat < S8x4x128.size a := fun i v59 v60 v61 v62 v766 v768 k0_hw23 k0_h2 => k0_hw23.1 k0_h2
theorem k0_idx90_inb : ∀ (i : grid0.Coords) (v59 : IVec S16 32) (v60 : IVec S16 32) (v61 : IVec S16 32) (v62 : IVec S16 32) (v766 : IVec S16 32) (v768 : IVec S16 32) (k0_hw23 : k0_chk23 i v59 v60 v61 v62 v766 v768), ∀ (k0_h2 : k0_cond2 i = 1#1), ∀ a x, ((![v766, v60, v768] : Fin 3 → IVec S16 32) a x).toNat < S8x4x128.size a := fun i v59 v60 v61 v62 v766 v768 k0_hw23 k0_h2 => k0_hw23.2.1 k0_h2
theorem k0_idx91_inb : ∀ (i : grid0.Coords) (v59 : IVec S16 32) (v60 : IVec S16 32) (v61 : IVec S16 32) (v62 : IVec S16 32) (v766 : IVec S16 32) (v768 : IVec S16 32) (k0_hw23 : k0_chk23 i v59 v60 v61 v62 v766 v768), ∀ (k0_h2 : k0_cond2 i = 1#1), ∀ a x, ((![v766, v61, v768] : Fin 3 → IVec S16 32) a x).toNat < S8x4x128.size a := fun i v59 v60 v61 v62 v766 v768 k0_hw23 k0_h2 => k0_hw23.2.2.1 k0_h2
theorem k0_idx92_inb : ∀ (i : grid0.Coords) (v59 : IVec S16 32) (v60 : IVec S16 32) (v61 : IVec S16 32) (v62 : IVec S16 32) (v766 : IVec S16 32) (v768 : IVec S16 32) (k0_hw23 : k0_chk23 i v59 v60 v61 v62 v766 v768), ∀ (k0_h2 : k0_cond2 i = 1#1), ∀ a x, ((![v766, v62, v768] : Fin 3 → IVec S16 32) a x).toNat < S8x4x128.size a := fun i v59 v60 v61 v62 v766 v768 k0_hw23 k0_h2 => k0_hw23.2.2.2 k0_h2
def k0_off96 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v794 : Index := Scalar.indexCast arg8
  let c3_i32_383 : BitVec 32 := 3#32
  let v795 : Index := Scalar.indexCast c3_i32_383
  let c96_384 : Index := 96#32
  ![v794.toNat, 3, 96]
def k0_off97 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v808 : Index := Scalar.indexCast arg8
  let c0_i32_389 : BitVec 32 := 0#32
  let v809 : Index := Scalar.indexCast c0_i32_389
  let c112_390 : Index := 112#32
  ![v808.toNat, 0, 112]
def k0_off98 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v815 : Index := Scalar.indexCast arg8
  let c1_i32_392 : BitVec 32 := 1#32
  let v816 : Index := Scalar.indexCast c1_i32_392
  let c112_393 : Index := 112#32
  ![v815.toNat, 1, 112]
def k0_off99 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v822 : Index := Scalar.indexCast arg8
  let c2_i32_395 : BitVec 32 := 2#32
  let v823 : Index := Scalar.indexCast c2_i32_395
  let c112_396 : Index := 112#32
  ![v822.toNat, 2, 112]

def k0_chk24 (i : grid0.Coords) (v59 : IVec S16 32) (v60 : IVec S16 32) (v61 : IVec S16 32) (v62 : IVec S16 32) (v801 : IVec S16 32) (v803 : IVec S16 32) : Prop :=
  (∀ (k0_h2 : k0_cond2 i = 1#1), ∀ a x, ((![v801, v59, v803] : Fin 3 → IVec S16 32) a x).toNat < S8x4x128.size a) ∧
  (∀ (k0_h2 : k0_cond2 i = 1#1), ∀ a x, ((![v801, v60, v803] : Fin 3 → IVec S16 32) a x).toNat < S8x4x128.size a) ∧
  (∀ (k0_h2 : k0_cond2 i = 1#1), ∀ a x, ((![v801, v61, v803] : Fin 3 → IVec S16 32) a x).toNat < S8x4x128.size a) ∧
  (∀ (k0_h2 : k0_cond2 i = 1#1), ∀ a x, ((![v801, v62, v803] : Fin 3 → IVec S16 32) a x).toNat < S8x4x128.size a)
theorem k0_idx93_inb : ∀ (i : grid0.Coords) (v59 : IVec S16 32) (v60 : IVec S16 32) (v61 : IVec S16 32) (v62 : IVec S16 32) (v801 : IVec S16 32) (v803 : IVec S16 32) (k0_hw24 : k0_chk24 i v59 v60 v61 v62 v801 v803), ∀ (k0_h2 : k0_cond2 i = 1#1), ∀ a x, ((![v801, v59, v803] : Fin 3 → IVec S16 32) a x).toNat < S8x4x128.size a := fun i v59 v60 v61 v62 v801 v803 k0_hw24 k0_h2 => k0_hw24.1 k0_h2
theorem k0_idx94_inb : ∀ (i : grid0.Coords) (v59 : IVec S16 32) (v60 : IVec S16 32) (v61 : IVec S16 32) (v62 : IVec S16 32) (v801 : IVec S16 32) (v803 : IVec S16 32) (k0_hw24 : k0_chk24 i v59 v60 v61 v62 v801 v803), ∀ (k0_h2 : k0_cond2 i = 1#1), ∀ a x, ((![v801, v60, v803] : Fin 3 → IVec S16 32) a x).toNat < S8x4x128.size a := fun i v59 v60 v61 v62 v801 v803 k0_hw24 k0_h2 => k0_hw24.2.1 k0_h2
theorem k0_idx95_inb : ∀ (i : grid0.Coords) (v59 : IVec S16 32) (v60 : IVec S16 32) (v61 : IVec S16 32) (v62 : IVec S16 32) (v801 : IVec S16 32) (v803 : IVec S16 32) (k0_hw24 : k0_chk24 i v59 v60 v61 v62 v801 v803), ∀ (k0_h2 : k0_cond2 i = 1#1), ∀ a x, ((![v801, v61, v803] : Fin 3 → IVec S16 32) a x).toNat < S8x4x128.size a := fun i v59 v60 v61 v62 v801 v803 k0_hw24 k0_h2 => k0_hw24.2.2.1 k0_h2
theorem k0_idx96_inb : ∀ (i : grid0.Coords) (v59 : IVec S16 32) (v60 : IVec S16 32) (v61 : IVec S16 32) (v62 : IVec S16 32) (v801 : IVec S16 32) (v803 : IVec S16 32) (k0_hw24 : k0_chk24 i v59 v60 v61 v62 v801 v803), ∀ (k0_h2 : k0_cond2 i = 1#1), ∀ a x, ((![v801, v62, v803] : Fin 3 → IVec S16 32) a x).toNat < S8x4x128.size a := fun i v59 v60 v61 v62 v801 v803 k0_hw24 k0_h2 => k0_hw24.2.2.2 k0_h2
def k0_off100 (k0_t4 : Fin k0_t4_loop.trips) : Fin 3 → Nat :=
  let c0_i32_27 : BitVec 32 := 0#32
  let c1_i32_28 : BitVec 32 := 1#32
  let arg8 : BitVec 32 := Scf.iv c0_i32_27 c1_i32_28 k0_t4
  let v829 : Index := Scalar.indexCast arg8
  let c3_i32_398 : BitVec 32 := 3#32
  let v830 : Index := Scalar.indexCast c3_i32_398
  let c112_399 : Index := 112#32
  ![v829.toNat, 3, 112]

def k0_chk25 (i : grid0.Coords) (v59 : IVec S16 32) (v60 : IVec S16 32) (v61 : IVec S16 32) (v62 : IVec S16 32) (v72 : IVec S16 32) : Prop :=
  (∀ (k0_h2 : k0_cond2 i = 1#1), ∀ a x, ((![v72, v59] : Fin 2 → IVec S16 32) a x).toNat < S32x4.size a) ∧
  (∀ (k0_h2 : k0_cond2 i = 1#1), ∀ a x, ((![v72, v60] : Fin 2 → IVec S16 32) a x).toNat < S32x4.size a) ∧
  (∀ (k0_h2 : k0_cond2 i = 1#1), ∀ a x, ((![v72, v61] : Fin 2 → IVec S16 32) a x).toNat < S32x4.size a) ∧
  (∀ (k0_h2 : k0_cond2 i = 1#1), ∀ a x, ((![v72, v62] : Fin 2 → IVec S16 32) a x).toNat < S32x4.size a)
theorem k0_idx97_inb : ∀ (i : grid0.Coords) (v59 : IVec S16 32) (v60 : IVec S16 32) (v61 : IVec S16 32) (v62 : IVec S16 32) (v72 : IVec S16 32) (k0_hw25 : k0_chk25 i v59 v60 v61 v62 v72), ∀ (k0_h2 : k0_cond2 i = 1#1), ∀ a x, ((![v72, v59] : Fin 2 → IVec S16 32) a x).toNat < S32x4.size a := fun i v59 v60 v61 v62 v72 k0_hw25 k0_h2 => k0_hw25.1 k0_h2
theorem k0_idx98_inb : ∀ (i : grid0.Coords) (v59 : IVec S16 32) (v60 : IVec S16 32) (v61 : IVec S16 32) (v62 : IVec S16 32) (v72 : IVec S16 32) (k0_hw25 : k0_chk25 i v59 v60 v61 v62 v72), ∀ (k0_h2 : k0_cond2 i = 1#1), ∀ a x, ((![v72, v60] : Fin 2 → IVec S16 32) a x).toNat < S32x4.size a := fun i v59 v60 v61 v62 v72 k0_hw25 k0_h2 => k0_hw25.2.1 k0_h2
theorem k0_idx99_inb : ∀ (i : grid0.Coords) (v59 : IVec S16 32) (v60 : IVec S16 32) (v61 : IVec S16 32) (v62 : IVec S16 32) (v72 : IVec S16 32) (k0_hw25 : k0_chk25 i v59 v60 v61 v62 v72), ∀ (k0_h2 : k0_cond2 i = 1#1), ∀ a x, ((![v72, v61] : Fin 2 → IVec S16 32) a x).toNat < S32x4.size a := fun i v59 v60 v61 v62 v72 k0_hw25 k0_h2 => k0_hw25.2.2.1 k0_h2
theorem k0_idx100_inb : ∀ (i : grid0.Coords) (v59 : IVec S16 32) (v60 : IVec S16 32) (v61 : IVec S16 32) (v62 : IVec S16 32) (v72 : IVec S16 32) (k0_hw25 : k0_chk25 i v59 v60 v61 v62 v72), ∀ (k0_h2 : k0_cond2 i = 1#1), ∀ a x, ((![v72, v62] : Fin 2 → IVec S16 32) a x).toNat < S32x4.size a := fun i v59 v60 v61 v62 v72 k0_hw25 k0_h2 => k0_hw25.2.2.2 k0_h2

def k0_chk26 (i : grid0.Coords) (v59 : IVec S16 32) (v60 : IVec S16 32) (v61 : IVec S16 32) (v62 : IVec S16 32) (v102 : IVec S16 32) : Prop :=
  (∀ (k0_h2 : k0_cond2 i = 1#1), ∀ a x, ((![v102, v59] : Fin 2 → IVec S16 32) a x).toNat < S32x4.size a) ∧
  (∀ (k0_h2 : k0_cond2 i = 1#1), ∀ a x, ((![v102, v60] : Fin 2 → IVec S16 32) a x).toNat < S32x4.size a) ∧
  (∀ (k0_h2 : k0_cond2 i = 1#1), ∀ a x, ((![v102, v61] : Fin 2 → IVec S16 32) a x).toNat < S32x4.size a) ∧
  (∀ (k0_h2 : k0_cond2 i = 1#1), ∀ a x, ((![v102, v62] : Fin 2 → IVec S16 32) a x).toNat < S32x4.size a)
theorem k0_idx101_inb : ∀ (i : grid0.Coords) (v59 : IVec S16 32) (v60 : IVec S16 32) (v61 : IVec S16 32) (v62 : IVec S16 32) (v102 : IVec S16 32) (k0_hw26 : k0_chk26 i v59 v60 v61 v62 v102), ∀ (k0_h2 : k0_cond2 i = 1#1), ∀ a x, ((![v102, v59] : Fin 2 → IVec S16 32) a x).toNat < S32x4.size a := fun i v59 v60 v61 v62 v102 k0_hw26 k0_h2 => k0_hw26.1 k0_h2
theorem k0_idx102_inb : ∀ (i : grid0.Coords) (v59 : IVec S16 32) (v60 : IVec S16 32) (v61 : IVec S16 32) (v62 : IVec S16 32) (v102 : IVec S16 32) (k0_hw26 : k0_chk26 i v59 v60 v61 v62 v102), ∀ (k0_h2 : k0_cond2 i = 1#1), ∀ a x, ((![v102, v60] : Fin 2 → IVec S16 32) a x).toNat < S32x4.size a := fun i v59 v60 v61 v62 v102 k0_hw26 k0_h2 => k0_hw26.2.1 k0_h2
theorem k0_idx103_inb : ∀ (i : grid0.Coords) (v59 : IVec S16 32) (v60 : IVec S16 32) (v61 : IVec S16 32) (v62 : IVec S16 32) (v102 : IVec S16 32) (k0_hw26 : k0_chk26 i v59 v60 v61 v62 v102), ∀ (k0_h2 : k0_cond2 i = 1#1), ∀ a x, ((![v102, v61] : Fin 2 → IVec S16 32) a x).toNat < S32x4.size a := fun i v59 v60 v61 v62 v102 k0_hw26 k0_h2 => k0_hw26.2.2.1 k0_h2
theorem k0_idx104_inb : ∀ (i : grid0.Coords) (v59 : IVec S16 32) (v60 : IVec S16 32) (v61 : IVec S16 32) (v62 : IVec S16 32) (v102 : IVec S16 32) (k0_hw26 : k0_chk26 i v59 v60 v61 v62 v102), ∀ (k0_h2 : k0_cond2 i = 1#1), ∀ a x, ((![v102, v62] : Fin 2 → IVec S16 32) a x).toNat < S32x4.size a := fun i v59 v60 v61 v62 v102 k0_hw26 k0_h2 => k0_hw26.2.2.2 k0_h2

def k0_chk27 (i : grid0.Coords) (v59 : IVec S16 32) (v60 : IVec S16 32) (v61 : IVec S16 32) (v62 : IVec S16 32) (v132 : IVec S16 32) : Prop :=
  (∀ (k0_h2 : k0_cond2 i = 1#1), ∀ a x, ((![v132, v59] : Fin 2 → IVec S16 32) a x).toNat < S32x4.size a) ∧
  (∀ (k0_h2 : k0_cond2 i = 1#1), ∀ a x, ((![v132, v60] : Fin 2 → IVec S16 32) a x).toNat < S32x4.size a) ∧
  (∀ (k0_h2 : k0_cond2 i = 1#1), ∀ a x, ((![v132, v61] : Fin 2 → IVec S16 32) a x).toNat < S32x4.size a) ∧
  (∀ (k0_h2 : k0_cond2 i = 1#1), ∀ a x, ((![v132, v62] : Fin 2 → IVec S16 32) a x).toNat < S32x4.size a)
theorem k0_idx105_inb : ∀ (i : grid0.Coords) (v59 : IVec S16 32) (v60 : IVec S16 32) (v61 : IVec S16 32) (v62 : IVec S16 32) (v132 : IVec S16 32) (k0_hw27 : k0_chk27 i v59 v60 v61 v62 v132), ∀ (k0_h2 : k0_cond2 i = 1#1), ∀ a x, ((![v132, v59] : Fin 2 → IVec S16 32) a x).toNat < S32x4.size a := fun i v59 v60 v61 v62 v132 k0_hw27 k0_h2 => k0_hw27.1 k0_h2
theorem k0_idx106_inb : ∀ (i : grid0.Coords) (v59 : IVec S16 32) (v60 : IVec S16 32) (v61 : IVec S16 32) (v62 : IVec S16 32) (v132 : IVec S16 32) (k0_hw27 : k0_chk27 i v59 v60 v61 v62 v132), ∀ (k0_h2 : k0_cond2 i = 1#1), ∀ a x, ((![v132, v60] : Fin 2 → IVec S16 32) a x).toNat < S32x4.size a := fun i v59 v60 v61 v62 v132 k0_hw27 k0_h2 => k0_hw27.2.1 k0_h2
theorem k0_idx107_inb : ∀ (i : grid0.Coords) (v59 : IVec S16 32) (v60 : IVec S16 32) (v61 : IVec S16 32) (v62 : IVec S16 32) (v132 : IVec S16 32) (k0_hw27 : k0_chk27 i v59 v60 v61 v62 v132), ∀ (k0_h2 : k0_cond2 i = 1#1), ∀ a x, ((![v132, v61] : Fin 2 → IVec S16 32) a x).toNat < S32x4.size a := fun i v59 v60 v61 v62 v132 k0_hw27 k0_h2 => k0_hw27.2.2.1 k0_h2
theorem k0_idx108_inb : ∀ (i : grid0.Coords) (v59 : IVec S16 32) (v60 : IVec S16 32) (v61 : IVec S16 32) (v62 : IVec S16 32) (v132 : IVec S16 32) (k0_hw27 : k0_chk27 i v59 v60 v61 v62 v132), ∀ (k0_h2 : k0_cond2 i = 1#1), ∀ a x, ((![v132, v62] : Fin 2 → IVec S16 32) a x).toNat < S32x4.size a := fun i v59 v60 v61 v62 v132 k0_hw27 k0_h2 => k0_hw27.2.2.2 k0_h2

def k0_chk28 (i : grid0.Coords) (v59 : IVec S16 32) (v60 : IVec S16 32) (v61 : IVec S16 32) (v62 : IVec S16 32) (v162 : IVec S16 32) : Prop :=
  (∀ (k0_h2 : k0_cond2 i = 1#1), ∀ a x, ((![v162, v59] : Fin 2 → IVec S16 32) a x).toNat < S32x4.size a) ∧
  (∀ (k0_h2 : k0_cond2 i = 1#1), ∀ a x, ((![v162, v60] : Fin 2 → IVec S16 32) a x).toNat < S32x4.size a) ∧
  (∀ (k0_h2 : k0_cond2 i = 1#1), ∀ a x, ((![v162, v61] : Fin 2 → IVec S16 32) a x).toNat < S32x4.size a) ∧
  (∀ (k0_h2 : k0_cond2 i = 1#1), ∀ a x, ((![v162, v62] : Fin 2 → IVec S16 32) a x).toNat < S32x4.size a)
theorem k0_idx109_inb : ∀ (i : grid0.Coords) (v59 : IVec S16 32) (v60 : IVec S16 32) (v61 : IVec S16 32) (v62 : IVec S16 32) (v162 : IVec S16 32) (k0_hw28 : k0_chk28 i v59 v60 v61 v62 v162), ∀ (k0_h2 : k0_cond2 i = 1#1), ∀ a x, ((![v162, v59] : Fin 2 → IVec S16 32) a x).toNat < S32x4.size a := fun i v59 v60 v61 v62 v162 k0_hw28 k0_h2 => k0_hw28.1 k0_h2
theorem k0_idx110_inb : ∀ (i : grid0.Coords) (v59 : IVec S16 32) (v60 : IVec S16 32) (v61 : IVec S16 32) (v62 : IVec S16 32) (v162 : IVec S16 32) (k0_hw28 : k0_chk28 i v59 v60 v61 v62 v162), ∀ (k0_h2 : k0_cond2 i = 1#1), ∀ a x, ((![v162, v60] : Fin 2 → IVec S16 32) a x).toNat < S32x4.size a := fun i v59 v60 v61 v62 v162 k0_hw28 k0_h2 => k0_hw28.2.1 k0_h2
theorem k0_idx111_inb : ∀ (i : grid0.Coords) (v59 : IVec S16 32) (v60 : IVec S16 32) (v61 : IVec S16 32) (v62 : IVec S16 32) (v162 : IVec S16 32) (k0_hw28 : k0_chk28 i v59 v60 v61 v62 v162), ∀ (k0_h2 : k0_cond2 i = 1#1), ∀ a x, ((![v162, v61] : Fin 2 → IVec S16 32) a x).toNat < S32x4.size a := fun i v59 v60 v61 v62 v162 k0_hw28 k0_h2 => k0_hw28.2.2.1 k0_h2
theorem k0_idx112_inb : ∀ (i : grid0.Coords) (v59 : IVec S16 32) (v60 : IVec S16 32) (v61 : IVec S16 32) (v62 : IVec S16 32) (v162 : IVec S16 32) (k0_hw28 : k0_chk28 i v59 v60 v61 v62 v162), ∀ (k0_h2 : k0_cond2 i = 1#1), ∀ a x, ((![v162, v62] : Fin 2 → IVec S16 32) a x).toNat < S32x4.size a := fun i v59 v60 v61 v62 v162 k0_hw28 k0_h2 => k0_hw28.2.2.2 k0_h2

def k0_chk29 (i : grid0.Coords) (v59 : IVec S16 32) (v60 : IVec S16 32) (v61 : IVec S16 32) (v62 : IVec S16 32) (v192 : IVec S16 32) : Prop :=
  (∀ (k0_h2 : k0_cond2 i = 1#1), ∀ a x, ((![v192, v59] : Fin 2 → IVec S16 32) a x).toNat < S32x4.size a) ∧
  (∀ (k0_h2 : k0_cond2 i = 1#1), ∀ a x, ((![v192, v60] : Fin 2 → IVec S16 32) a x).toNat < S32x4.size a) ∧
  (∀ (k0_h2 : k0_cond2 i = 1#1), ∀ a x, ((![v192, v61] : Fin 2 → IVec S16 32) a x).toNat < S32x4.size a) ∧
  (∀ (k0_h2 : k0_cond2 i = 1#1), ∀ a x, ((![v192, v62] : Fin 2 → IVec S16 32) a x).toNat < S32x4.size a)
theorem k0_idx113_inb : ∀ (i : grid0.Coords) (v59 : IVec S16 32) (v60 : IVec S16 32) (v61 : IVec S16 32) (v62 : IVec S16 32) (v192 : IVec S16 32) (k0_hw29 : k0_chk29 i v59 v60 v61 v62 v192), ∀ (k0_h2 : k0_cond2 i = 1#1), ∀ a x, ((![v192, v59] : Fin 2 → IVec S16 32) a x).toNat < S32x4.size a := fun i v59 v60 v61 v62 v192 k0_hw29 k0_h2 => k0_hw29.1 k0_h2
theorem k0_idx114_inb : ∀ (i : grid0.Coords) (v59 : IVec S16 32) (v60 : IVec S16 32) (v61 : IVec S16 32) (v62 : IVec S16 32) (v192 : IVec S16 32) (k0_hw29 : k0_chk29 i v59 v60 v61 v62 v192), ∀ (k0_h2 : k0_cond2 i = 1#1), ∀ a x, ((![v192, v60] : Fin 2 → IVec S16 32) a x).toNat < S32x4.size a := fun i v59 v60 v61 v62 v192 k0_hw29 k0_h2 => k0_hw29.2.1 k0_h2
theorem k0_idx115_inb : ∀ (i : grid0.Coords) (v59 : IVec S16 32) (v60 : IVec S16 32) (v61 : IVec S16 32) (v62 : IVec S16 32) (v192 : IVec S16 32) (k0_hw29 : k0_chk29 i v59 v60 v61 v62 v192), ∀ (k0_h2 : k0_cond2 i = 1#1), ∀ a x, ((![v192, v61] : Fin 2 → IVec S16 32) a x).toNat < S32x4.size a := fun i v59 v60 v61 v62 v192 k0_hw29 k0_h2 => k0_hw29.2.2.1 k0_h2
theorem k0_idx116_inb : ∀ (i : grid0.Coords) (v59 : IVec S16 32) (v60 : IVec S16 32) (v61 : IVec S16 32) (v62 : IVec S16 32) (v192 : IVec S16 32) (k0_hw29 : k0_chk29 i v59 v60 v61 v62 v192), ∀ (k0_h2 : k0_cond2 i = 1#1), ∀ a x, ((![v192, v62] : Fin 2 → IVec S16 32) a x).toNat < S32x4.size a := fun i v59 v60 v61 v62 v192 k0_hw29 k0_h2 => k0_hw29.2.2.2 k0_h2

def k0_chk30 (i : grid0.Coords) (v59 : IVec S16 32) (v60 : IVec S16 32) (v61 : IVec S16 32) (v62 : IVec S16 32) (v222 : IVec S16 32) : Prop :=
  (∀ (k0_h2 : k0_cond2 i = 1#1), ∀ a x, ((![v222, v59] : Fin 2 → IVec S16 32) a x).toNat < S32x4.size a) ∧
  (∀ (k0_h2 : k0_cond2 i = 1#1), ∀ a x, ((![v222, v60] : Fin 2 → IVec S16 32) a x).toNat < S32x4.size a) ∧
  (∀ (k0_h2 : k0_cond2 i = 1#1), ∀ a x, ((![v222, v61] : Fin 2 → IVec S16 32) a x).toNat < S32x4.size a) ∧
  (∀ (k0_h2 : k0_cond2 i = 1#1), ∀ a x, ((![v222, v62] : Fin 2 → IVec S16 32) a x).toNat < S32x4.size a)
theorem k0_idx117_inb : ∀ (i : grid0.Coords) (v59 : IVec S16 32) (v60 : IVec S16 32) (v61 : IVec S16 32) (v62 : IVec S16 32) (v222 : IVec S16 32) (k0_hw30 : k0_chk30 i v59 v60 v61 v62 v222), ∀ (k0_h2 : k0_cond2 i = 1#1), ∀ a x, ((![v222, v59] : Fin 2 → IVec S16 32) a x).toNat < S32x4.size a := fun i v59 v60 v61 v62 v222 k0_hw30 k0_h2 => k0_hw30.1 k0_h2
theorem k0_idx118_inb : ∀ (i : grid0.Coords) (v59 : IVec S16 32) (v60 : IVec S16 32) (v61 : IVec S16 32) (v62 : IVec S16 32) (v222 : IVec S16 32) (k0_hw30 : k0_chk30 i v59 v60 v61 v62 v222), ∀ (k0_h2 : k0_cond2 i = 1#1), ∀ a x, ((![v222, v60] : Fin 2 → IVec S16 32) a x).toNat < S32x4.size a := fun i v59 v60 v61 v62 v222 k0_hw30 k0_h2 => k0_hw30.2.1 k0_h2
theorem k0_idx119_inb : ∀ (i : grid0.Coords) (v59 : IVec S16 32) (v60 : IVec S16 32) (v61 : IVec S16 32) (v62 : IVec S16 32) (v222 : IVec S16 32) (k0_hw30 : k0_chk30 i v59 v60 v61 v62 v222), ∀ (k0_h2 : k0_cond2 i = 1#1), ∀ a x, ((![v222, v61] : Fin 2 → IVec S16 32) a x).toNat < S32x4.size a := fun i v59 v60 v61 v62 v222 k0_hw30 k0_h2 => k0_hw30.2.2.1 k0_h2
theorem k0_idx120_inb : ∀ (i : grid0.Coords) (v59 : IVec S16 32) (v60 : IVec S16 32) (v61 : IVec S16 32) (v62 : IVec S16 32) (v222 : IVec S16 32) (k0_hw30 : k0_chk30 i v59 v60 v61 v62 v222), ∀ (k0_h2 : k0_cond2 i = 1#1), ∀ a x, ((![v222, v62] : Fin 2 → IVec S16 32) a x).toNat < S32x4.size a := fun i v59 v60 v61 v62 v222 k0_hw30 k0_h2 => k0_hw30.2.2.2 k0_h2

def k0_chk31 (i : grid0.Coords) (v59 : IVec S16 32) (v60 : IVec S16 32) (v61 : IVec S16 32) (v62 : IVec S16 32) (v252 : IVec S16 32) : Prop :=
  (∀ (k0_h2 : k0_cond2 i = 1#1), ∀ a x, ((![v252, v59] : Fin 2 → IVec S16 32) a x).toNat < S32x4.size a) ∧
  (∀ (k0_h2 : k0_cond2 i = 1#1), ∀ a x, ((![v252, v60] : Fin 2 → IVec S16 32) a x).toNat < S32x4.size a) ∧
  (∀ (k0_h2 : k0_cond2 i = 1#1), ∀ a x, ((![v252, v61] : Fin 2 → IVec S16 32) a x).toNat < S32x4.size a) ∧
  (∀ (k0_h2 : k0_cond2 i = 1#1), ∀ a x, ((![v252, v62] : Fin 2 → IVec S16 32) a x).toNat < S32x4.size a)
theorem k0_idx121_inb : ∀ (i : grid0.Coords) (v59 : IVec S16 32) (v60 : IVec S16 32) (v61 : IVec S16 32) (v62 : IVec S16 32) (v252 : IVec S16 32) (k0_hw31 : k0_chk31 i v59 v60 v61 v62 v252), ∀ (k0_h2 : k0_cond2 i = 1#1), ∀ a x, ((![v252, v59] : Fin 2 → IVec S16 32) a x).toNat < S32x4.size a := fun i v59 v60 v61 v62 v252 k0_hw31 k0_h2 => k0_hw31.1 k0_h2
theorem k0_idx122_inb : ∀ (i : grid0.Coords) (v59 : IVec S16 32) (v60 : IVec S16 32) (v61 : IVec S16 32) (v62 : IVec S16 32) (v252 : IVec S16 32) (k0_hw31 : k0_chk31 i v59 v60 v61 v62 v252), ∀ (k0_h2 : k0_cond2 i = 1#1), ∀ a x, ((![v252, v60] : Fin 2 → IVec S16 32) a x).toNat < S32x4.size a := fun i v59 v60 v61 v62 v252 k0_hw31 k0_h2 => k0_hw31.2.1 k0_h2
theorem k0_idx123_inb : ∀ (i : grid0.Coords) (v59 : IVec S16 32) (v60 : IVec S16 32) (v61 : IVec S16 32) (v62 : IVec S16 32) (v252 : IVec S16 32) (k0_hw31 : k0_chk31 i v59 v60 v61 v62 v252), ∀ (k0_h2 : k0_cond2 i = 1#1), ∀ a x, ((![v252, v61] : Fin 2 → IVec S16 32) a x).toNat < S32x4.size a := fun i v59 v60 v61 v62 v252 k0_hw31 k0_h2 => k0_hw31.2.2.1 k0_h2
theorem k0_idx124_inb : ∀ (i : grid0.Coords) (v59 : IVec S16 32) (v60 : IVec S16 32) (v61 : IVec S16 32) (v62 : IVec S16 32) (v252 : IVec S16 32) (k0_hw31 : k0_chk31 i v59 v60 v61 v62 v252), ∀ (k0_h2 : k0_cond2 i = 1#1), ∀ a x, ((![v252, v62] : Fin 2 → IVec S16 32) a x).toNat < S32x4.size a := fun i v59 v60 v61 v62 v252 k0_hw31 k0_h2 => k0_hw31.2.2.2 k0_h2

def k0_chk32 (i : grid0.Coords) (v59 : IVec S16 32) (v60 : IVec S16 32) (v61 : IVec S16 32) (v62 : IVec S16 32) (v282 : IVec S16 32) : Prop :=
  (∀ (k0_h2 : k0_cond2 i = 1#1), ∀ a x, ((![v282, v59] : Fin 2 → IVec S16 32) a x).toNat < S32x4.size a) ∧
  (∀ (k0_h2 : k0_cond2 i = 1#1), ∀ a x, ((![v282, v60] : Fin 2 → IVec S16 32) a x).toNat < S32x4.size a) ∧
  (∀ (k0_h2 : k0_cond2 i = 1#1), ∀ a x, ((![v282, v61] : Fin 2 → IVec S16 32) a x).toNat < S32x4.size a) ∧
  (∀ (k0_h2 : k0_cond2 i = 1#1), ∀ a x, ((![v282, v62] : Fin 2 → IVec S16 32) a x).toNat < S32x4.size a)
theorem k0_idx125_inb : ∀ (i : grid0.Coords) (v59 : IVec S16 32) (v60 : IVec S16 32) (v61 : IVec S16 32) (v62 : IVec S16 32) (v282 : IVec S16 32) (k0_hw32 : k0_chk32 i v59 v60 v61 v62 v282), ∀ (k0_h2 : k0_cond2 i = 1#1), ∀ a x, ((![v282, v59] : Fin 2 → IVec S16 32) a x).toNat < S32x4.size a := fun i v59 v60 v61 v62 v282 k0_hw32 k0_h2 => k0_hw32.1 k0_h2
theorem k0_idx126_inb : ∀ (i : grid0.Coords) (v59 : IVec S16 32) (v60 : IVec S16 32) (v61 : IVec S16 32) (v62 : IVec S16 32) (v282 : IVec S16 32) (k0_hw32 : k0_chk32 i v59 v60 v61 v62 v282), ∀ (k0_h2 : k0_cond2 i = 1#1), ∀ a x, ((![v282, v60] : Fin 2 → IVec S16 32) a x).toNat < S32x4.size a := fun i v59 v60 v61 v62 v282 k0_hw32 k0_h2 => k0_hw32.2.1 k0_h2
theorem k0_idx127_inb : ∀ (i : grid0.Coords) (v59 : IVec S16 32) (v60 : IVec S16 32) (v61 : IVec S16 32) (v62 : IVec S16 32) (v282 : IVec S16 32) (k0_hw32 : k0_chk32 i v59 v60 v61 v62 v282), ∀ (k0_h2 : k0_cond2 i = 1#1), ∀ a x, ((![v282, v61] : Fin 2 → IVec S16 32) a x).toNat < S32x4.size a := fun i v59 v60 v61 v62 v282 k0_hw32 k0_h2 => k0_hw32.2.2.1 k0_h2
theorem k0_idx128_inb : ∀ (i : grid0.Coords) (v59 : IVec S16 32) (v60 : IVec S16 32) (v61 : IVec S16 32) (v62 : IVec S16 32) (v282 : IVec S16 32) (k0_hw32 : k0_chk32 i v59 v60 v61 v62 v282), ∀ (k0_h2 : k0_cond2 i = 1#1), ∀ a x, ((![v282, v62] : Fin 2 → IVec S16 32) a x).toNat < S32x4.size a := fun i v59 v60 v61 v62 v282 k0_hw32 k0_h2 => k0_hw32.2.2.2 k0_h2

def k0_chk33 (i : grid0.Coords) (v59 : IVec S16 32) (v60 : IVec S16 32) (v61 : IVec S16 32) (v62 : IVec S16 32) (v312 : IVec S16 32) : Prop :=
  (∀ (k0_h2 : k0_cond2 i = 1#1), ∀ a x, ((![v312, v59] : Fin 2 → IVec S16 32) a x).toNat < S32x4.size a) ∧
  (∀ (k0_h2 : k0_cond2 i = 1#1), ∀ a x, ((![v312, v60] : Fin 2 → IVec S16 32) a x).toNat < S32x4.size a) ∧
  (∀ (k0_h2 : k0_cond2 i = 1#1), ∀ a x, ((![v312, v61] : Fin 2 → IVec S16 32) a x).toNat < S32x4.size a) ∧
  (∀ (k0_h2 : k0_cond2 i = 1#1), ∀ a x, ((![v312, v62] : Fin 2 → IVec S16 32) a x).toNat < S32x4.size a)
theorem k0_idx129_inb : ∀ (i : grid0.Coords) (v59 : IVec S16 32) (v60 : IVec S16 32) (v61 : IVec S16 32) (v62 : IVec S16 32) (v312 : IVec S16 32) (k0_hw33 : k0_chk33 i v59 v60 v61 v62 v312), ∀ (k0_h2 : k0_cond2 i = 1#1), ∀ a x, ((![v312, v59] : Fin 2 → IVec S16 32) a x).toNat < S32x4.size a := fun i v59 v60 v61 v62 v312 k0_hw33 k0_h2 => k0_hw33.1 k0_h2
theorem k0_idx130_inb : ∀ (i : grid0.Coords) (v59 : IVec S16 32) (v60 : IVec S16 32) (v61 : IVec S16 32) (v62 : IVec S16 32) (v312 : IVec S16 32) (k0_hw33 : k0_chk33 i v59 v60 v61 v62 v312), ∀ (k0_h2 : k0_cond2 i = 1#1), ∀ a x, ((![v312, v60] : Fin 2 → IVec S16 32) a x).toNat < S32x4.size a := fun i v59 v60 v61 v62 v312 k0_hw33 k0_h2 => k0_hw33.2.1 k0_h2
theorem k0_idx131_inb : ∀ (i : grid0.Coords) (v59 : IVec S16 32) (v60 : IVec S16 32) (v61 : IVec S16 32) (v62 : IVec S16 32) (v312 : IVec S16 32) (k0_hw33 : k0_chk33 i v59 v60 v61 v62 v312), ∀ (k0_h2 : k0_cond2 i = 1#1), ∀ a x, ((![v312, v61] : Fin 2 → IVec S16 32) a x).toNat < S32x4.size a := fun i v59 v60 v61 v62 v312 k0_hw33 k0_h2 => k0_hw33.2.2.1 k0_h2
theorem k0_idx132_inb : ∀ (i : grid0.Coords) (v59 : IVec S16 32) (v60 : IVec S16 32) (v61 : IVec S16 32) (v62 : IVec S16 32) (v312 : IVec S16 32) (k0_hw33 : k0_chk33 i v59 v60 v61 v62 v312), ∀ (k0_h2 : k0_cond2 i = 1#1), ∀ a x, ((![v312, v62] : Fin 2 → IVec S16 32) a x).toNat < S32x4.size a := fun i v59 v60 v61 v62 v312 k0_hw33 k0_h2 => k0_hw33.2.2.2 k0_h2

def k0_chk34 (i : grid0.Coords) (v59 : IVec S16 32) (v60 : IVec S16 32) (v61 : IVec S16 32) (v62 : IVec S16 32) (v342 : IVec S16 32) : Prop :=
  (∀ (k0_h2 : k0_cond2 i = 1#1), ∀ a x, ((![v342, v59] : Fin 2 → IVec S16 32) a x).toNat < S32x4.size a) ∧
  (∀ (k0_h2 : k0_cond2 i = 1#1), ∀ a x, ((![v342, v60] : Fin 2 → IVec S16 32) a x).toNat < S32x4.size a) ∧
  (∀ (k0_h2 : k0_cond2 i = 1#1), ∀ a x, ((![v342, v61] : Fin 2 → IVec S16 32) a x).toNat < S32x4.size a) ∧
  (∀ (k0_h2 : k0_cond2 i = 1#1), ∀ a x, ((![v342, v62] : Fin 2 → IVec S16 32) a x).toNat < S32x4.size a)
theorem k0_idx133_inb : ∀ (i : grid0.Coords) (v59 : IVec S16 32) (v60 : IVec S16 32) (v61 : IVec S16 32) (v62 : IVec S16 32) (v342 : IVec S16 32) (k0_hw34 : k0_chk34 i v59 v60 v61 v62 v342), ∀ (k0_h2 : k0_cond2 i = 1#1), ∀ a x, ((![v342, v59] : Fin 2 → IVec S16 32) a x).toNat < S32x4.size a := fun i v59 v60 v61 v62 v342 k0_hw34 k0_h2 => k0_hw34.1 k0_h2
theorem k0_idx134_inb : ∀ (i : grid0.Coords) (v59 : IVec S16 32) (v60 : IVec S16 32) (v61 : IVec S16 32) (v62 : IVec S16 32) (v342 : IVec S16 32) (k0_hw34 : k0_chk34 i v59 v60 v61 v62 v342), ∀ (k0_h2 : k0_cond2 i = 1#1), ∀ a x, ((![v342, v60] : Fin 2 → IVec S16 32) a x).toNat < S32x4.size a := fun i v59 v60 v61 v62 v342 k0_hw34 k0_h2 => k0_hw34.2.1 k0_h2
theorem k0_idx135_inb : ∀ (i : grid0.Coords) (v59 : IVec S16 32) (v60 : IVec S16 32) (v61 : IVec S16 32) (v62 : IVec S16 32) (v342 : IVec S16 32) (k0_hw34 : k0_chk34 i v59 v60 v61 v62 v342), ∀ (k0_h2 : k0_cond2 i = 1#1), ∀ a x, ((![v342, v61] : Fin 2 → IVec S16 32) a x).toNat < S32x4.size a := fun i v59 v60 v61 v62 v342 k0_hw34 k0_h2 => k0_hw34.2.2.1 k0_h2
theorem k0_idx136_inb : ∀ (i : grid0.Coords) (v59 : IVec S16 32) (v60 : IVec S16 32) (v61 : IVec S16 32) (v62 : IVec S16 32) (v342 : IVec S16 32) (k0_hw34 : k0_chk34 i v59 v60 v61 v62 v342), ∀ (k0_h2 : k0_cond2 i = 1#1), ∀ a x, ((![v342, v62] : Fin 2 → IVec S16 32) a x).toNat < S32x4.size a := fun i v59 v60 v61 v62 v342 k0_hw34 k0_h2 => k0_hw34.2.2.2 k0_h2

def k0_chk35 (i : grid0.Coords) (v59 : IVec S16 32) (v60 : IVec S16 32) (v61 : IVec S16 32) (v62 : IVec S16 32) (v372 : IVec S16 32) : Prop :=
  (∀ (k0_h2 : k0_cond2 i = 1#1), ∀ a x, ((![v372, v59] : Fin 2 → IVec S16 32) a x).toNat < S32x4.size a) ∧
  (∀ (k0_h2 : k0_cond2 i = 1#1), ∀ a x, ((![v372, v60] : Fin 2 → IVec S16 32) a x).toNat < S32x4.size a) ∧
  (∀ (k0_h2 : k0_cond2 i = 1#1), ∀ a x, ((![v372, v61] : Fin 2 → IVec S16 32) a x).toNat < S32x4.size a) ∧
  (∀ (k0_h2 : k0_cond2 i = 1#1), ∀ a x, ((![v372, v62] : Fin 2 → IVec S16 32) a x).toNat < S32x4.size a)
theorem k0_idx137_inb : ∀ (i : grid0.Coords) (v59 : IVec S16 32) (v60 : IVec S16 32) (v61 : IVec S16 32) (v62 : IVec S16 32) (v372 : IVec S16 32) (k0_hw35 : k0_chk35 i v59 v60 v61 v62 v372), ∀ (k0_h2 : k0_cond2 i = 1#1), ∀ a x, ((![v372, v59] : Fin 2 → IVec S16 32) a x).toNat < S32x4.size a := fun i v59 v60 v61 v62 v372 k0_hw35 k0_h2 => k0_hw35.1 k0_h2
theorem k0_idx138_inb : ∀ (i : grid0.Coords) (v59 : IVec S16 32) (v60 : IVec S16 32) (v61 : IVec S16 32) (v62 : IVec S16 32) (v372 : IVec S16 32) (k0_hw35 : k0_chk35 i v59 v60 v61 v62 v372), ∀ (k0_h2 : k0_cond2 i = 1#1), ∀ a x, ((![v372, v60] : Fin 2 → IVec S16 32) a x).toNat < S32x4.size a := fun i v59 v60 v61 v62 v372 k0_hw35 k0_h2 => k0_hw35.2.1 k0_h2
theorem k0_idx139_inb : ∀ (i : grid0.Coords) (v59 : IVec S16 32) (v60 : IVec S16 32) (v61 : IVec S16 32) (v62 : IVec S16 32) (v372 : IVec S16 32) (k0_hw35 : k0_chk35 i v59 v60 v61 v62 v372), ∀ (k0_h2 : k0_cond2 i = 1#1), ∀ a x, ((![v372, v61] : Fin 2 → IVec S16 32) a x).toNat < S32x4.size a := fun i v59 v60 v61 v62 v372 k0_hw35 k0_h2 => k0_hw35.2.2.1 k0_h2
theorem k0_idx140_inb : ∀ (i : grid0.Coords) (v59 : IVec S16 32) (v60 : IVec S16 32) (v61 : IVec S16 32) (v62 : IVec S16 32) (v372 : IVec S16 32) (k0_hw35 : k0_chk35 i v59 v60 v61 v62 v372), ∀ (k0_h2 : k0_cond2 i = 1#1), ∀ a x, ((![v372, v62] : Fin 2 → IVec S16 32) a x).toNat < S32x4.size a := fun i v59 v60 v61 v62 v372 k0_hw35 k0_h2 => k0_hw35.2.2.2 k0_h2

def k0_chk36 (i : grid0.Coords) (v59 : IVec S16 32) (v60 : IVec S16 32) (v61 : IVec S16 32) (v62 : IVec S16 32) (v402 : IVec S16 32) : Prop :=
  (∀ (k0_h2 : k0_cond2 i = 1#1), ∀ a x, ((![v402, v59] : Fin 2 → IVec S16 32) a x).toNat < S32x4.size a) ∧
  (∀ (k0_h2 : k0_cond2 i = 1#1), ∀ a x, ((![v402, v60] : Fin 2 → IVec S16 32) a x).toNat < S32x4.size a) ∧
  (∀ (k0_h2 : k0_cond2 i = 1#1), ∀ a x, ((![v402, v61] : Fin 2 → IVec S16 32) a x).toNat < S32x4.size a) ∧
  (∀ (k0_h2 : k0_cond2 i = 1#1), ∀ a x, ((![v402, v62] : Fin 2 → IVec S16 32) a x).toNat < S32x4.size a)
theorem k0_idx141_inb : ∀ (i : grid0.Coords) (v59 : IVec S16 32) (v60 : IVec S16 32) (v61 : IVec S16 32) (v62 : IVec S16 32) (v402 : IVec S16 32) (k0_hw36 : k0_chk36 i v59 v60 v61 v62 v402), ∀ (k0_h2 : k0_cond2 i = 1#1), ∀ a x, ((![v402, v59] : Fin 2 → IVec S16 32) a x).toNat < S32x4.size a := fun i v59 v60 v61 v62 v402 k0_hw36 k0_h2 => k0_hw36.1 k0_h2
theorem k0_idx142_inb : ∀ (i : grid0.Coords) (v59 : IVec S16 32) (v60 : IVec S16 32) (v61 : IVec S16 32) (v62 : IVec S16 32) (v402 : IVec S16 32) (k0_hw36 : k0_chk36 i v59 v60 v61 v62 v402), ∀ (k0_h2 : k0_cond2 i = 1#1), ∀ a x, ((![v402, v60] : Fin 2 → IVec S16 32) a x).toNat < S32x4.size a := fun i v59 v60 v61 v62 v402 k0_hw36 k0_h2 => k0_hw36.2.1 k0_h2
theorem k0_idx143_inb : ∀ (i : grid0.Coords) (v59 : IVec S16 32) (v60 : IVec S16 32) (v61 : IVec S16 32) (v62 : IVec S16 32) (v402 : IVec S16 32) (k0_hw36 : k0_chk36 i v59 v60 v61 v62 v402), ∀ (k0_h2 : k0_cond2 i = 1#1), ∀ a x, ((![v402, v61] : Fin 2 → IVec S16 32) a x).toNat < S32x4.size a := fun i v59 v60 v61 v62 v402 k0_hw36 k0_h2 => k0_hw36.2.2.1 k0_h2
theorem k0_idx144_inb : ∀ (i : grid0.Coords) (v59 : IVec S16 32) (v60 : IVec S16 32) (v61 : IVec S16 32) (v62 : IVec S16 32) (v402 : IVec S16 32) (k0_hw36 : k0_chk36 i v59 v60 v61 v62 v402), ∀ (k0_h2 : k0_cond2 i = 1#1), ∀ a x, ((![v402, v62] : Fin 2 → IVec S16 32) a x).toNat < S32x4.size a := fun i v59 v60 v61 v62 v402 k0_hw36 k0_h2 => k0_hw36.2.2.2 k0_h2

def k0_chk37 (i : grid0.Coords) (v59 : IVec S16 32) (v60 : IVec S16 32) (v61 : IVec S16 32) (v62 : IVec S16 32) (v432 : IVec S16 32) : Prop :=
  (∀ (k0_h2 : k0_cond2 i = 1#1), ∀ a x, ((![v432, v59] : Fin 2 → IVec S16 32) a x).toNat < S32x4.size a) ∧
  (∀ (k0_h2 : k0_cond2 i = 1#1), ∀ a x, ((![v432, v60] : Fin 2 → IVec S16 32) a x).toNat < S32x4.size a) ∧
  (∀ (k0_h2 : k0_cond2 i = 1#1), ∀ a x, ((![v432, v61] : Fin 2 → IVec S16 32) a x).toNat < S32x4.size a) ∧
  (∀ (k0_h2 : k0_cond2 i = 1#1), ∀ a x, ((![v432, v62] : Fin 2 → IVec S16 32) a x).toNat < S32x4.size a)
theorem k0_idx145_inb : ∀ (i : grid0.Coords) (v59 : IVec S16 32) (v60 : IVec S16 32) (v61 : IVec S16 32) (v62 : IVec S16 32) (v432 : IVec S16 32) (k0_hw37 : k0_chk37 i v59 v60 v61 v62 v432), ∀ (k0_h2 : k0_cond2 i = 1#1), ∀ a x, ((![v432, v59] : Fin 2 → IVec S16 32) a x).toNat < S32x4.size a := fun i v59 v60 v61 v62 v432 k0_hw37 k0_h2 => k0_hw37.1 k0_h2
theorem k0_idx146_inb : ∀ (i : grid0.Coords) (v59 : IVec S16 32) (v60 : IVec S16 32) (v61 : IVec S16 32) (v62 : IVec S16 32) (v432 : IVec S16 32) (k0_hw37 : k0_chk37 i v59 v60 v61 v62 v432), ∀ (k0_h2 : k0_cond2 i = 1#1), ∀ a x, ((![v432, v60] : Fin 2 → IVec S16 32) a x).toNat < S32x4.size a := fun i v59 v60 v61 v62 v432 k0_hw37 k0_h2 => k0_hw37.2.1 k0_h2
theorem k0_idx147_inb : ∀ (i : grid0.Coords) (v59 : IVec S16 32) (v60 : IVec S16 32) (v61 : IVec S16 32) (v62 : IVec S16 32) (v432 : IVec S16 32) (k0_hw37 : k0_chk37 i v59 v60 v61 v62 v432), ∀ (k0_h2 : k0_cond2 i = 1#1), ∀ a x, ((![v432, v61] : Fin 2 → IVec S16 32) a x).toNat < S32x4.size a := fun i v59 v60 v61 v62 v432 k0_hw37 k0_h2 => k0_hw37.2.2.1 k0_h2
theorem k0_idx148_inb : ∀ (i : grid0.Coords) (v59 : IVec S16 32) (v60 : IVec S16 32) (v61 : IVec S16 32) (v62 : IVec S16 32) (v432 : IVec S16 32) (k0_hw37 : k0_chk37 i v59 v60 v61 v62 v432), ∀ (k0_h2 : k0_cond2 i = 1#1), ∀ a x, ((![v432, v62] : Fin 2 → IVec S16 32) a x).toNat < S32x4.size a := fun i v59 v60 v61 v62 v432 k0_hw37 k0_h2 => k0_hw37.2.2.2 k0_h2

def k0_chk38 (i : grid0.Coords) (v59 : IVec S16 32) (v60 : IVec S16 32) (v61 : IVec S16 32) (v62 : IVec S16 32) (v462 : IVec S16 32) : Prop :=
  (∀ (k0_h2 : k0_cond2 i = 1#1), ∀ a x, ((![v462, v59] : Fin 2 → IVec S16 32) a x).toNat < S32x4.size a) ∧
  (∀ (k0_h2 : k0_cond2 i = 1#1), ∀ a x, ((![v462, v60] : Fin 2 → IVec S16 32) a x).toNat < S32x4.size a) ∧
  (∀ (k0_h2 : k0_cond2 i = 1#1), ∀ a x, ((![v462, v61] : Fin 2 → IVec S16 32) a x).toNat < S32x4.size a) ∧
  (∀ (k0_h2 : k0_cond2 i = 1#1), ∀ a x, ((![v462, v62] : Fin 2 → IVec S16 32) a x).toNat < S32x4.size a)
theorem k0_idx149_inb : ∀ (i : grid0.Coords) (v59 : IVec S16 32) (v60 : IVec S16 32) (v61 : IVec S16 32) (v62 : IVec S16 32) (v462 : IVec S16 32) (k0_hw38 : k0_chk38 i v59 v60 v61 v62 v462), ∀ (k0_h2 : k0_cond2 i = 1#1), ∀ a x, ((![v462, v59] : Fin 2 → IVec S16 32) a x).toNat < S32x4.size a := fun i v59 v60 v61 v62 v462 k0_hw38 k0_h2 => k0_hw38.1 k0_h2
theorem k0_idx150_inb : ∀ (i : grid0.Coords) (v59 : IVec S16 32) (v60 : IVec S16 32) (v61 : IVec S16 32) (v62 : IVec S16 32) (v462 : IVec S16 32) (k0_hw38 : k0_chk38 i v59 v60 v61 v62 v462), ∀ (k0_h2 : k0_cond2 i = 1#1), ∀ a x, ((![v462, v60] : Fin 2 → IVec S16 32) a x).toNat < S32x4.size a := fun i v59 v60 v61 v62 v462 k0_hw38 k0_h2 => k0_hw38.2.1 k0_h2
theorem k0_idx151_inb : ∀ (i : grid0.Coords) (v59 : IVec S16 32) (v60 : IVec S16 32) (v61 : IVec S16 32) (v62 : IVec S16 32) (v462 : IVec S16 32) (k0_hw38 : k0_chk38 i v59 v60 v61 v62 v462), ∀ (k0_h2 : k0_cond2 i = 1#1), ∀ a x, ((![v462, v61] : Fin 2 → IVec S16 32) a x).toNat < S32x4.size a := fun i v59 v60 v61 v62 v462 k0_hw38 k0_h2 => k0_hw38.2.2.1 k0_h2
theorem k0_idx152_inb : ∀ (i : grid0.Coords) (v59 : IVec S16 32) (v60 : IVec S16 32) (v61 : IVec S16 32) (v62 : IVec S16 32) (v462 : IVec S16 32) (k0_hw38 : k0_chk38 i v59 v60 v61 v62 v462), ∀ (k0_h2 : k0_cond2 i = 1#1), ∀ a x, ((![v462, v62] : Fin 2 → IVec S16 32) a x).toNat < S32x4.size a := fun i v59 v60 v61 v62 v462 k0_hw38 k0_h2 => k0_hw38.2.2.2 k0_h2

def k0_chk39 (i : grid0.Coords) (v59 : IVec S16 32) (v60 : IVec S16 32) (v61 : IVec S16 32) (v62 : IVec S16 32) (v492 : IVec S16 32) : Prop :=
  (∀ (k0_h2 : k0_cond2 i = 1#1), ∀ a x, ((![v492, v59] : Fin 2 → IVec S16 32) a x).toNat < S32x4.size a) ∧
  (∀ (k0_h2 : k0_cond2 i = 1#1), ∀ a x, ((![v492, v60] : Fin 2 → IVec S16 32) a x).toNat < S32x4.size a) ∧
  (∀ (k0_h2 : k0_cond2 i = 1#1), ∀ a x, ((![v492, v61] : Fin 2 → IVec S16 32) a x).toNat < S32x4.size a) ∧
  (∀ (k0_h2 : k0_cond2 i = 1#1), ∀ a x, ((![v492, v62] : Fin 2 → IVec S16 32) a x).toNat < S32x4.size a)
theorem k0_idx153_inb : ∀ (i : grid0.Coords) (v59 : IVec S16 32) (v60 : IVec S16 32) (v61 : IVec S16 32) (v62 : IVec S16 32) (v492 : IVec S16 32) (k0_hw39 : k0_chk39 i v59 v60 v61 v62 v492), ∀ (k0_h2 : k0_cond2 i = 1#1), ∀ a x, ((![v492, v59] : Fin 2 → IVec S16 32) a x).toNat < S32x4.size a := fun i v59 v60 v61 v62 v492 k0_hw39 k0_h2 => k0_hw39.1 k0_h2
theorem k0_idx154_inb : ∀ (i : grid0.Coords) (v59 : IVec S16 32) (v60 : IVec S16 32) (v61 : IVec S16 32) (v62 : IVec S16 32) (v492 : IVec S16 32) (k0_hw39 : k0_chk39 i v59 v60 v61 v62 v492), ∀ (k0_h2 : k0_cond2 i = 1#1), ∀ a x, ((![v492, v60] : Fin 2 → IVec S16 32) a x).toNat < S32x4.size a := fun i v59 v60 v61 v62 v492 k0_hw39 k0_h2 => k0_hw39.2.1 k0_h2
theorem k0_idx155_inb : ∀ (i : grid0.Coords) (v59 : IVec S16 32) (v60 : IVec S16 32) (v61 : IVec S16 32) (v62 : IVec S16 32) (v492 : IVec S16 32) (k0_hw39 : k0_chk39 i v59 v60 v61 v62 v492), ∀ (k0_h2 : k0_cond2 i = 1#1), ∀ a x, ((![v492, v61] : Fin 2 → IVec S16 32) a x).toNat < S32x4.size a := fun i v59 v60 v61 v62 v492 k0_hw39 k0_h2 => k0_hw39.2.2.1 k0_h2
theorem k0_idx156_inb : ∀ (i : grid0.Coords) (v59 : IVec S16 32) (v60 : IVec S16 32) (v61 : IVec S16 32) (v62 : IVec S16 32) (v492 : IVec S16 32) (k0_hw39 : k0_chk39 i v59 v60 v61 v62 v492), ∀ (k0_h2 : k0_cond2 i = 1#1), ∀ a x, ((![v492, v62] : Fin 2 → IVec S16 32) a x).toNat < S32x4.size a := fun i v59 v60 v61 v62 v492 k0_hw39 k0_h2 => k0_hw39.2.2.2 k0_h2

def k0_chk40 (i : grid0.Coords) (v59 : IVec S16 32) (v60 : IVec S16 32) (v61 : IVec S16 32) (v62 : IVec S16 32) (v522 : IVec S16 32) : Prop :=
  (∀ (k0_h2 : k0_cond2 i = 1#1), ∀ a x, ((![v522, v59] : Fin 2 → IVec S16 32) a x).toNat < S32x4.size a) ∧
  (∀ (k0_h2 : k0_cond2 i = 1#1), ∀ a x, ((![v522, v60] : Fin 2 → IVec S16 32) a x).toNat < S32x4.size a) ∧
  (∀ (k0_h2 : k0_cond2 i = 1#1), ∀ a x, ((![v522, v61] : Fin 2 → IVec S16 32) a x).toNat < S32x4.size a) ∧
  (∀ (k0_h2 : k0_cond2 i = 1#1), ∀ a x, ((![v522, v62] : Fin 2 → IVec S16 32) a x).toNat < S32x4.size a)
theorem k0_idx157_inb : ∀ (i : grid0.Coords) (v59 : IVec S16 32) (v60 : IVec S16 32) (v61 : IVec S16 32) (v62 : IVec S16 32) (v522 : IVec S16 32) (k0_hw40 : k0_chk40 i v59 v60 v61 v62 v522), ∀ (k0_h2 : k0_cond2 i = 1#1), ∀ a x, ((![v522, v59] : Fin 2 → IVec S16 32) a x).toNat < S32x4.size a := fun i v59 v60 v61 v62 v522 k0_hw40 k0_h2 => k0_hw40.1 k0_h2
theorem k0_idx158_inb : ∀ (i : grid0.Coords) (v59 : IVec S16 32) (v60 : IVec S16 32) (v61 : IVec S16 32) (v62 : IVec S16 32) (v522 : IVec S16 32) (k0_hw40 : k0_chk40 i v59 v60 v61 v62 v522), ∀ (k0_h2 : k0_cond2 i = 1#1), ∀ a x, ((![v522, v60] : Fin 2 → IVec S16 32) a x).toNat < S32x4.size a := fun i v59 v60 v61 v62 v522 k0_hw40 k0_h2 => k0_hw40.2.1 k0_h2
theorem k0_idx159_inb : ∀ (i : grid0.Coords) (v59 : IVec S16 32) (v60 : IVec S16 32) (v61 : IVec S16 32) (v62 : IVec S16 32) (v522 : IVec S16 32) (k0_hw40 : k0_chk40 i v59 v60 v61 v62 v522), ∀ (k0_h2 : k0_cond2 i = 1#1), ∀ a x, ((![v522, v61] : Fin 2 → IVec S16 32) a x).toNat < S32x4.size a := fun i v59 v60 v61 v62 v522 k0_hw40 k0_h2 => k0_hw40.2.2.1 k0_h2
theorem k0_idx160_inb : ∀ (i : grid0.Coords) (v59 : IVec S16 32) (v60 : IVec S16 32) (v61 : IVec S16 32) (v62 : IVec S16 32) (v522 : IVec S16 32) (k0_hw40 : k0_chk40 i v59 v60 v61 v62 v522), ∀ (k0_h2 : k0_cond2 i = 1#1), ∀ a x, ((![v522, v62] : Fin 2 → IVec S16 32) a x).toNat < S32x4.size a := fun i v59 v60 v61 v62 v522 k0_hw40 k0_h2 => k0_hw40.2.2.2 k0_h2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S500000x4 : Shape := ⟨2, ![500000, 4]⟩
abbrev S1x8x4 : Shape := ⟨3, ![1, 8, 4]⟩
abbrev S1x1x4 : Shape := ⟨3, ![1, 1, 4]⟩
abbrev S500000x1x4 : Shape := ⟨3, ![500000, 1, 4]⟩
abbrev S500000x8x4 : Shape := ⟨3, ![500000, 8, 4]⟩
abbrev S4000000x4 : Shape := ⟨2, ![4000000, 4]⟩

abbrev nBuf : Space → Nat
  | .hbm => 10
  | .vmem => 0
  | .smem => 0
  | _ => 0

abbrev bufTy : (tb : Table) → Fin (tcTables nBuf tb) → BufTy
  | .hbm, ⟨0, _⟩ => ⟨S500000x4, .i32⟩
  | .hbm, ⟨1, _⟩ => ⟨S1x8x4, .i32⟩
  | .hbm, ⟨2, _⟩ => ⟨S1x1x4, .i32⟩
  | .hbm, ⟨3, _⟩ => ⟨S500000x1x4, .i32⟩
  | .hbm, ⟨4, _⟩ => ⟨S500000x1x4, .i32⟩
  | .hbm, ⟨5, _⟩ => ⟨S500000x1x4, .i32⟩
  | .hbm, ⟨6, _⟩ => ⟨S500000x8x4, .i32⟩
  | .hbm, ⟨7, _⟩ => ⟨S500000x8x4, .i32⟩
  | .hbm, ⟨8, _⟩ => ⟨S500000x8x4, .i32⟩
  | .hbm, ⟨9, _⟩ => ⟨S4000000x4, .i32⟩
  | _, _ => ⟨S500000x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Base.lean ====
/-
  What the kernel computes, and how one row of sixteen words of an output tile is computed.

  `headTile` is the content of a chunk of output tiles as a function of the chunk of input tiles that a worker has
  copied in; `restTile` the content of the two output tiles of the last thirty-two voxels. A tile's rows are written in one fixed
  order; `Filled H g k f` says that the contents `f` of the output buffer are `H`'s on every tile before tile `g` and on the first
  `k` rows of it. One row — a gather, the load that the store is printed with, the store — takes `Filled H g k` to
  `Filled H g (k + 1)`: `row_head` for a row computed from the chunk of input tiles, `row_rest` for one from the last voxels.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.ValueIdx
public import Idealize.ShloMosaic.Lib.Writes
public import proofs.«01_k».proof.Proof.Gen.KernelIdeal

@[expose] public section

noncomputable section

namespace Cert.Proof.Vox

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's parameters -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-! ## What the kernel computes -/

/-- The words that say which corners of a voxel are offset, one per column. -/
def masks : Fin 4 → ℕ := ![210, 180, 232, 0]

/-- The offset of column `j` at corner `c`: bit `c` of the column's word. -/
def bitOf (j : Fin 4) (c : ℕ) : BitVec 32 := BitVec.ofNat 32 ((masks j >>> c) % 2)

/-- The factor of column `j`: two for a coordinate, one for the batch number. -/
def mulOf (j : Fin 4) : BitVec 32 := if j = 3 then 1#32 else 2#32

/-- A chunk's output tiles, of its eight input tiles `fi`: row `16 (g mod 8) + l / 8` of tile `g / 8` at corner `l mod 8`. -/
def headTile (fi : S8x4x128.Idx → BitVec 32) : S64x4x128.Idx → BitVec 32 := fun y =>
  fi (ix3 ⟨(y 0).val / 8, by have := (y 0).isLt; show _ < 8; change _ < 64 at this; omega⟩ (y 1)
    ⟨16 * ((y 0).val % 8) + (y 2).val / 8, by have := (y 2).isLt; change _ < 128 at this; omega⟩) * mulOf (y 1) + bitOf (y 1) ((y 2).val % 8)

/-- The two output tiles of the last voxels `ft`, at tiles `16` and `17` of the buffer. -/
def restTile (ft : S32x4.Idx → BitVec 32) : S64x4x128.Idx → BitVec 32 := fun y =>
  ft (ix2 ⟨(16 * ((y 0).val - 16) + (y 2).val / 8) % 32, Nat.mod_lt _ (by decide)⟩ (y 1)) * mulOf (y 1) + bitOf (y 1) ((y 2).val % 8)

/-- The contents `f` are `H`'s on every tile before `g` and on the first `k` of tile `g`'s rows (eight groups of four columns). -/
def Filled (H : S64x4x128.Idx → BitVec 32) (g k : ℕ) (f : S64x4x128.Idx → BitVec 32) : Prop :=
  ∀ y : S64x4x128.Idx, (y 0).val < g ∨ (y 0).val = g ∧ 4 * ((y 2).val / 16) + (y 1).val < k → f y = H y

theorem Filled.zero (H : S64x4x128.Idx → BitVec 32) (f : S64x4x128.Idx → BitVec 32) : Filled H 0 0 f := by
  intro y h; omega

/-- All thirty-two rows of tile `g`: the tile. -/
theorem Filled.tile {H : S64x4x128.Idx → BitVec 32} {g : ℕ} {f : S64x4x128.Idx → BitVec 32} (h : Filled H g 32 f) : Filled H (g + 1) 0 f := by
  intro y hy
  refine h y ?_
  have h1 : (y 1).val < 4 := (y 1).isLt
  have h2 : (y 2).val < 128 := (y 2).isLt
  omega

/-- Contents that are one function's on some tiles are another's that agrees with it there. -/
theorem Filled.congr {H H' : S64x4x128.Idx → BitVec 32} {g : ℕ} {f : S64x4x128.Idx → BitVec 32} (h : Filled H g 0 f)
    (hH : ∀ y : S64x4x128.Idx, (y 0).val < g → H y = H' y) : Filled H' g 0 f := by
  intro y hy
  have : (y 0).val < g := by omega
  rw [h y (Or.inl this), hH y this]

section Rows

variable [FloatOps F] (c : Thread nD τ)

-- the buffers, spelt as the body table passes them
local notation "inW" => (Memref.whole Cert.KernelIdeal.cc0_scratch0 : Memref Cert.KernelIdeal.sig Kind.scVector Space.vmem Cert.KernelIdeal.S8x4x128 EltTy.i32)
local notation "restW" => (Memref.whole Cert.KernelIdeal.cc0_scratch1 : Memref Cert.KernelIdeal.sig Kind.scVector Space.vmem Cert.KernelIdeal.S32x4 EltTy.i32)
local notation "outW" => (Memref.whole Cert.KernelIdeal.cc0_scratch2 : Memref Cert.KernelIdeal.sig Kind.scVector Space.vmem Cert.KernelIdeal.S64x4x128 EltTy.i32)

/-- One row written: from the contents with `k` rows of tile `g` done to those with `k + 1`. -/
theorem Filled.row {κ : Kind} {sp : Space} (v : View sig κ sp S64x4x128 .i32) {H : S64x4x128.Idx → BitVec 32} {g k : ℕ} {f : v.ty.Contents (Elt F)}
    (h : Filled H g k (v.read (Elt F) f))
    {o : Fin 3 → ℕ} {ho : ∀ a, o a + S1x1x16.size a ≤ S64x4x128.size a} {w : S1x1x16.Idx → BitVec 32} (j : Fin 4) (s : Fin 8)
    (hoff : o = ![g, j.val, 16 * s.val]) (hk : k = 4 * s.val + j.val)
    (hw : ∀ x : Fin 16, ∀ y : S64x4x128.Idx, (y 0).val = g → y 1 = j → (y 2).val = 16 * s.val + x.val → w (ix3 0 0 x) = H y) :
    Filled H g (k + 1) (v.read (Elt F) ((v.slice (Rect.unit (s := S64x4x128) o S1x1x16.size ho)).write (Elt F) f w Finset.univ)) := by
  subst hoff
  intro y hy
  have h1 : (y 1).val < 4 := (y 1).isLt
  have h2 : (y 2).val < 128 := (y 2).isLt
  have hj : j.val < 4 := j.isLt
  by_cases hin : (y 0).val = g ∧ 4 * ((y 2).val / 16) + (y 1).val = k
  · have hx : (y 2).val - 16 * s.val < 16 := by omega
    have hyr : (Rect.unit (s := S64x4x128) ![g, j.val, 16 * s.val] S1x1x16.size ho).emb (ix3 0 0 ⟨(y 2).val - 16 * s.val, hx⟩) = y := by
      refine Rect.emb_eq_of_coords _ _ _ fun a => ?_
      match a with
      | ⟨0, _⟩ => show (y 0).val = g + 1 * 0; omega
      | ⟨1, _⟩ => show (y 1).val = j.val + 1 * 0; omega
      | ⟨2, _⟩ => show (y 2).val = 16 * s.val + 1 * ((y 2).val - 16 * s.val); omega
    rw [← hw ⟨(y 2).val - 16 * s.val, hx⟩ y hin.1 (Fin.ext (by omega)) (by show _ = 16 * s.val + ((y 2).val - 16 * s.val); omega)]
    conv_lhs => rw [← hyr]
    exact View.read_slice_write_emb (v := v) (Rect.unit (s := S64x4x128) ![g, j.val, 16 * s.val] S1x1x16.size ho) f w (Finset.mem_univ _)
  · refine (View.read_slice_write_of_not_mem (v := v) (Rect.unit (s := S64x4x128) ![g, j.val, 16 * s.val] S1x1x16.size ho) f w Finset.univ ?_).trans (h y (by omega))
    rw [Rect.map_emb_univ]
    intro hm
    obtain ⟨a0, b0, c0⟩ := (LoadRect.mem_set _).mp hm 0
    obtain ⟨a1, b1, c1⟩ := (LoadRect.mem_set _).mp hm 1
    obtain ⟨a2, b2, c2⟩ := (LoadRect.mem_set _).mp hm 2
    change a0 < 1 at b0
    change a1 < 1 at b1
    change a2 < 16 at b2
    change (y 0).val = g + 1 * a0 at c0
    change (y 1).val = j.val + 1 * a1 at c1
    change (y 2).val = 16 * s.val + 1 * a2 at c2
    exact hin ⟨by omega, by omega⟩

/-! ## One row: a gather, the load the store is printed with, the store -/

variable (d : Dev nD) (a : Fin τ.nSC) (b : Fin τ.nSub)

local notation "thr" => ((d, Proc.scVector a b) : Thread nD τ)

/-- The chunk of input tiles holds `fi`, and the output buffer `H`'s contents up to row `k` of tile `g`. -/
def Work (fi : S8x4x128.Idx → BitVec 32) (H : S64x4x128.Idx → BitVec 32) (g k : ℕ) : sProp 𝕄 :=
  iprop(((inW).view.loc thr ↦{fullShare} fi) ∗ ∃ f, ⌜Filled H g k f⌝ ∗ ((outW).view.loc thr ↦{fullShare} f))

/-- The last voxels' buffer holds `ft`, and the output buffer `H`'s contents up to row `k` of tile `g`. -/
def WorkR (ft : S32x4.Idx → BitVec 32) (H : S64x4x128.Idx → BitVec 32) (g k : ℕ) : sProp 𝕄 :=
  iprop(((restW).view.loc thr ↦{fullShare} ft) ∗ ∃ f, ⌜Filled H g k f⌝ ∗ ((outW).view.loc thr ↦{fullShare} f))

/-- The load and the store of one row, its value known to be `H`'s there. -/
theorem row_store {H : S64x4x128.Idx → BitVec 32} {g k : ℕ} {o : Fin 3 → ℕ} {ho : ∀ a, o a + S1x1x16.size a ≤ S64x4x128.size a}
    {w : S16.Idx → BitVec 32} {hsc : S16.ShapeCasts S1x1x16} {hl hx hm} {α : Type} {Q : α → sProp 𝕄}
    {X : sProp 𝕄} {kk : Vec F S1x1x16 .i32 → PUnit → Prog (TpuEff nD τ sig (Elt F) Λ₀ (Proc.scVector a b)) α} (j : Fin 4) (s : Fin 8)
    (hoff : o = ![g, j.val, 16 * s.val]) (hk : k = 4 * s.val + j.val)
    (hw : ∀ x : Fin 16, ∀ y : S64x4x128.Idx, (y 0).val = g → y 1 = j → (y 2).val = 16 * s.val + x.val → w (ix1 x) = H y)
    (hK : ∀ u, iprop(X ∗ ∃ f, ⌜Filled H g (k + 1) f⌝ ∗ ((outW).view.loc thr ↦{fullShare} f)) ⊢ wp frame (wpE defs₀ 𝒱₀ thr none) Set.univ (kk u ⟨⟩) Q) :
    iprop(X ∗ ∃ f, ⌜Filled H g k f⌝ ∗ ((outW).view.loc thr ↦{fullShare} f)) ⊢ wp frame (wpE defs₀ 𝒱₀ thr none) Set.univ
      (.op (.load outW (Rect.unit (s := S64x4x128) o S1x1x16.size ho).toLoadRect hl) fun u =>
        .op (.store outW (Rect.unit (s := S64x4x128) o S1x1x16.size ho) (shapeCast S1x1x16 w hsc) Finset.univ hx hm) (kk u)) Q := by
  iintro ⟨HX, %f, %hf, Ho⟩
  iapply (wp_load 𝒱₀ thr none Set.univ (defs := defs₀) (m := outW) (S := Finset.univ) (q := fullShare) (f := f) (Finset.subset_univ _)) $$ Ho
  iintro Ho
  iapply (wp_store 𝒱₀ thr none Set.univ (defs := defs₀) (m := outW) (r := Rect.unit (s := S64x4x128) o S1x1x16.size ho) (S := Finset.univ) (f := f) (Finset.subset_univ _)) $$ Ho
  iintro Ho
  iapply hK _
  isplitl [HX]; · iexact HX
  iexists _
  isplitr
  rotate_left
  · iexact Ho
  · ipureintro
    refine Filled.row (F := F) (outW).view hf j s hoff hk fun x y h0 h1 h2 => ?_
    rw [← hw x y h0 h1 h2]
    refine shapeCast_apply w hsc _ _ ?_
    rw [Shape.rowMajor_val_one, Shape.rowMajor_val_three]
    show x.val = (0 * 4 + 0) * 16 + x.val
    omega

end Rows

end Cert.Proof.Vox

end
-- ==== Proof.Rows.lean ====
/-
  The rows of the three loops over a chunk's output tiles.

  `row_head` is one row computed from the chunk of input tiles, `row_rest` one from the last voxels: the lanes' indices are given as
  what they are as numbers, the value stored as the gathered word times the column's factor plus the column's offset.
-/
module

public import proofs.«01_k».proof.Proof.Base

@[expose] public section

noncomputable section

namespace Cert.Proof.Vox

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable [FloatOps F] (d : Dev nD) (a : Fin τ.nSC) (b : Fin τ.nSub)

local notation "inW" => (Memref.whole Cert.KernelIdeal.cc0_scratch0 : Memref Cert.KernelIdeal.sig Kind.scVector Space.vmem Cert.KernelIdeal.S8x4x128 EltTy.i32)
local notation "restW" => (Memref.whole Cert.KernelIdeal.cc0_scratch1 : Memref Cert.KernelIdeal.sig Kind.scVector Space.vmem Cert.KernelIdeal.S32x4 EltTy.i32)
local notation "outW" => (Memref.whole Cert.KernelIdeal.cc0_scratch2 : Memref Cert.KernelIdeal.sig Kind.scVector Space.vmem Cert.KernelIdeal.S64x4x128 EltTy.i32)
local notation "thr" => ((d, Proc.scVector a b) : Thread nD τ)

/-- The lanes' tile and position inside it, of the voxels `16 g + 2 s + lane / 8`. -/
def Lanes (g : ℕ) (s : Fin 8) (tv lv : IVec S16 32) : Prop :=
  (∀ x : Fin 16, (tv (ix1 x)).toNat = g / 8) ∧ (∀ x : Fin 16, (lv (ix1 x)).toNat = 16 * (g % 8) + 2 * s.val + x.val / 8)

/-- The lanes hold their half: `lane / 8`. -/
def Halves (v : IVec S16 32) : Prop := ∀ x : Fin 16, v (ix1 x) = BitVec.ofNat 32 (x.val / 8)

/-- The lanes hold column `j`'s offset at their corner. -/
def Offsets (j : Fin 4) (v : IVec S16 32) : Prop := ∀ x : Fin 16, v (ix1 x) = bitOf j (x.val % 8)

theorem word_tile (n : ℕ) (h : n < 1024) : (IntOp.shrsi .vector (BitVec.ofNat 32 n) 7#32).toNat = n / 128 := by
  have : ∀ m : Fin 1024, (IntOp.shrsi .vector (BitVec.ofNat 32 m.val) 7#32).toNat = m.val / 128 := by decide +kernel
  exact this ⟨n, h⟩

theorem word_lane (n : ℕ) (h : n < 1024) : (IntOp.andi (BitVec.ofNat 32 n) 127#32).toNat = n % 128 := by
  have : ∀ m : Fin 1024, (IntOp.andi (BitVec.ofNat 32 m.val) 127#32).toNat = m.val % 128 := by decide +kernel
  exact this ⟨n, h⟩

/-- The lanes of row group `s` of tile `g`, as the kernel computes them. -/
theorem lanes_of {v : IVec S16 32} (hv : Halves v) {c : BitVec 32} {g : ℕ} (hg : g < 64) (s : Fin 8) (hc : c = BitVec.ofNat 32 (16 * g + 2 * s.val)) :
    Lanes g s (shrsi (addi (broadcast S16 c) v) (broadcast S16 7#32)) (andi (addi (broadcast S16 c) v) (broadcast S16 127#32)) := by
  have e : ∀ x : Fin 16, addi (broadcast S16 c) v (ix1 x) = BitVec.ofNat 32 (16 * g + 2 * s.val + x.val / 8) := by
    intro x
    show c + v (ix1 x) = _
    rw [hv x, hc, ← BitVec.ofNat_add]
  refine ⟨fun x => ?_, fun x => ?_⟩
  · show (IntOp.shrsi .vector (addi (broadcast S16 c) v (ix1 x)) 7#32).toNat = _
    rw [e, word_tile _ (by omega)]; omega
  · show (IntOp.andi (addi (broadcast S16 c) v (ix1 x)) 127#32).toNat = _
    rw [e, word_lane _ (by omega)]; omega

/-- The lanes' indices are inside the chunk of input tiles. -/
theorem lanes_inb {g : ℕ} (hg : g < 64) {s : Fin 8} {tv lv : IVec S16 32} (h : Lanes g s tv lv) (j : Fin 4) (jv : IVec S16 32) (hj : ∀ x : Fin 16, (jv (ix1 x)).toNat = j.val) :
    ∀ a x, ((![tv, jv, lv] : Fin 3 → IVec S16 32) a x).toNat < S8x4x128.size a := by
  intro a x
  obtain ⟨x, rfl⟩ : ∃ x' : Fin 16, x = ix1 x' := ⟨x 0, eq_ix1 x⟩
  match a with
  | ⟨0, _⟩ => show (tv (ix1 x)).toNat < 8; rw [h.1]; omega
  | ⟨1, _⟩ => show (jv (ix1 x)).toNat < 4; rw [hj]; omega
  | ⟨2, _⟩ => show (lv (ix1 x)).toNat < 128; rw [h.2]; omega

/-- A side condition the machine checks, at the head of a program, when it holds. -/
theorem check_step {X : sProp 𝕄} {P : Prop} {dec : Decidable P} {α : Type} {Q : α → sProp 𝕄} {kk : PLift P → Prog (TpuEff nD τ sig (Elt F) Λ₀ (Proc.scVector a b)) α} (h : P)
    (hK : X ⊢ wp frame (wpE defs₀ 𝒱₀ thr none) Set.univ (kk ⟨h⟩) Q) :
    X ⊢ wp frame (wpE defs₀ 𝒱₀ thr none) Set.univ (.op (.assume P dec) kk) Q :=
  hK.trans (wp_assume 𝒱₀ thr none Set.univ h)

/-- The value of a row's lane, from the gathered word. -/
theorem gather_head {fi : S8x4x128.Idx → BitVec 32} {g : ℕ} {tv jv lv : IVec S16 32} {h} {bv : IVec S16 32} {mv : BitVec 32} {v : IVec S16 32} (j : Fin 4) (s : Fin 8)
    (hv : v = fun x => fi (idxAt ![tv, jv, lv] h x))
    (hL : Lanes g s tv lv) (hj : ∀ x : Fin 16, (jv (ix1 x)).toNat = j.val) (hb : Offsets j bv) (hmv : mv = mulOf j)
    (x : Fin 16) (y : S64x4x128.Idx) (h0 : (y 0).val = g) (h1 : y 1 = j) (h2 : (y 2).val = 16 * s.val + x.val) :
    addi (muli v (broadcast S16 mv)) bv (ix1 x) = headTile fi y := by
  show v (ix1 x) * mv + bv (ix1 x) = headTile fi y
  rw [hb x, hmv, hv]
  unfold headTile
  rw [h1]
  have e : (y 2).val % 8 = x.val % 8 := by omega
  rw [e]
  refine congrArg (fun z => z * mulOf j + bitOf j (x.val % 8)) ?_
  refine congrArg fi ?_
  funext q
  have hs : s.val < 8 := s.isLt
  match q with
  | ⟨0, _⟩ => exact Fin.ext (show (tv (ix1 x)).toNat = (y 0).val / 8 by rw [hL.1, h0])
  | ⟨1, _⟩ => exact Fin.ext (show (jv (ix1 x)).toNat = j.val by rw [hj])
  | ⟨2, _⟩ => exact Fin.ext (show (lv (ix1 x)).toNat = 16 * ((y 0).val % 8) + (y 2).val / 8 by rw [hL.2, h0, h2]; omega)

theorem read_in (fi : S8x4x128.Idx → BitVec 32) : ((inW).access (.whole S8x4x128)).read (Elt F) fi = fi :=
  Memref.read_access_whole (Elt F) cc0_scratch0 fi

/-- One row of tile `g` computed from the chunk of input tiles: column `j` of row group `s`. -/
theorem row_head {fi : S8x4x128.Idx → BitVec 32} {g k : ℕ} {o : Fin 3 → ℕ} {ho : ∀ a, o a + S1x1x16.size a ≤ S64x4x128.size a}
    {tv jv lv : IVec S16 32} {hsc : S16.ShapeCasts S1x1x16} {h hl₀ hl hx hm} {α : Type} {Q : α → sProp 𝕄}
    {bv : IVec S16 32} {mv : BitVec 32}
    {kk : Vec F S16 .i32 → Vec F S1x1x16 .i32 → PUnit → Prog (TpuEff nD τ sig (Elt F) Λ₀ (Proc.scVector a b)) α} (j : Fin 4) (s : Fin 8)
    (hL : Lanes g s tv lv) (hj : ∀ x : Fin 16, (jv (ix1 x)).toNat = j.val) (hb : Offsets j bv) (hmv : mv = mulOf j)
    (hoff : o = ![g, j.val, 16 * s.val]) (hk : k = 4 * s.val + j.val)
    (hK : ∀ v u, Work (F := F) d a b fi (headTile fi) g (k + 1) ⊢ wp frame (wpE defs₀ 𝒱₀ thr none) Set.univ (kk v u ⟨⟩) Q) :
    Work (F := F) d a b fi (headTile fi) g k ⊢ wp frame (wpE defs₀ 𝒱₀ thr none) Set.univ
      (SparseCore.vectorLoadIdx inW ![tv, jv, lv] h hl₀ >>= fun v =>
        .op (.load outW (Rect.unit (s := S64x4x128) o S1x1x16.size ho).toLoadRect hl) fun u =>
        .op (.store outW (Rect.unit (s := S64x4x128) o S1x1x16.size ho) (shapeCast S1x1x16 (addi (muli v (broadcast S16 mv)) bv) hsc) Finset.univ hx hm) (kk v u)) Q := by
  unfold Work at hK ⊢
  iintro ⟨Hi, Ho⟩
  iapply (SparseCore.wp_vectorLoadIdx 𝒱₀ thr none Set.univ (defs := defs₀) (base := inW) (S := Finset.univ) (q := fullShare) (f := fi) (Finset.subset_univ _)) $$ Hi
  iintro Hi
  iapply (row_store d a b (H := headTile fi) (g := g) (k := k) (X := ((inW).view.loc thr ↦{fullShare} fi)) j s hoff hk (gather_head j s (congrArg (fun f => loadIdx f ![tv, jv, lv] h) (read_in (F := F) fi)) hL hj hb hmv) (hK _))
  isplitl [Hi]; · iexact Hi
  iexact Ho

/-- The value of a row's lane, from the word gathered from the last voxels. -/
theorem gather_rest {ft : S32x4.Idx → BitVec 32} {g : ℕ} {rv jv : IVec S16 32} {h} {bv : IVec S16 32} {mv : BitVec 32} {v : IVec S16 32} (j : Fin 4) (s : Fin 8)
    (hv : v = fun x => ft (idxAt ![rv, jv] h x)) (hg : 16 ≤ g) (hg' : g < 18)
    (hL : ∀ x : Fin 16, (rv (ix1 x)).toNat = 16 * (g - 16) + 2 * s.val + x.val / 8) (hj : ∀ x : Fin 16, (jv (ix1 x)).toNat = j.val) (hb : Offsets j bv) (hmv : mv = mulOf j)
    (x : Fin 16) (y : S64x4x128.Idx) (h0 : (y 0).val = g) (h1 : y 1 = j) (h2 : (y 2).val = 16 * s.val + x.val) :
    addi (muli v (broadcast S16 mv)) bv (ix1 x) = restTile ft y := by
  show v (ix1 x) * mv + bv (ix1 x) = restTile ft y
  rw [hb x, hmv, hv]
  unfold restTile
  rw [h1]
  have e : (y 2).val % 8 = x.val % 8 := by omega
  rw [e]
  refine congrArg (fun z => z * mulOf j + bitOf j (x.val % 8)) ?_
  refine congrArg ft ?_
  funext q
  have hs : s.val < 8 := s.isLt
  match q with
  | ⟨0, _⟩ => exact Fin.ext (show (rv (ix1 x)).toNat = (16 * ((y 0).val - 16) + (y 2).val / 8) % 32 by rw [hL, h0, h2]; omega)
  | ⟨1, _⟩ => exact Fin.ext (show (jv (ix1 x)).toNat = j.val by rw [hj])

theorem read_rest (ft : S32x4.Idx → BitVec 32) : ((restW).access (.whole S32x4)).read (Elt F) ft = ft :=
  Memref.read_access_whole (Elt F) cc0_scratch1 ft

/-- What the last eighteen tiles hold: sixteen from the chunk of input tiles, two from the last voxels. -/
def lastTile (fi : S8x4x128.Idx → BitVec 32) (ft : S32x4.Idx → BitVec 32) (y : S64x4x128.Idx) : BitVec 32 :=
  if (y 0).val < 16 then headTile fi y else restTile ft y

/-- One row of tile `g` (the sixteenth or the seventeenth) computed from the last voxels, whatever else (`X`) is held: column `j` of row group `s`. -/
theorem row_rest {fi : S8x4x128.Idx → BitVec 32} {ft : S32x4.Idx → BitVec 32} {g k : ℕ} {o : Fin 3 → ℕ} {ho : ∀ a, o a + S1x1x16.size a ≤ S64x4x128.size a}
    {rv jv : IVec S16 32} {hsc : S16.ShapeCasts S1x1x16} {h hl₀ hl hx hm} {α : Type} {Q : α → sProp 𝕄}
    {bv : IVec S16 32} {mv : BitVec 32} {X : sProp 𝕄}
    {kk : Vec F S16 .i32 → Vec F S1x1x16 .i32 → PUnit → Prog (TpuEff nD τ sig (Elt F) Λ₀ (Proc.scVector a b)) α} (j : Fin 4) (s : Fin 8) (hg : 16 ≤ g) (hg' : g < 18)
    (hL : ∀ x : Fin 16, (rv (ix1 x)).toNat = 16 * (g - 16) + 2 * s.val + x.val / 8) (hj : ∀ x : Fin 16, (jv (ix1 x)).toNat = j.val) (hb : Offsets j bv) (hmv : mv = mulOf j)
    (hoff : o = ![g, j.val, 16 * s.val]) (hk : k = 4 * s.val + j.val)
    (hK : ∀ v u, iprop(X ∗ WorkR (F := F) d a b ft (lastTile fi ft) g (k + 1)) ⊢ wp frame (wpE defs₀ 𝒱₀ thr none) Set.univ (kk v u ⟨⟩) Q) :
    iprop(X ∗ WorkR (F := F) d a b ft (lastTile fi ft) g k) ⊢ wp frame (wpE defs₀ 𝒱₀ thr none) Set.univ
      (SparseCore.vectorLoadIdx restW ![rv, jv] h hl₀ >>= fun v =>
        .op (.load outW (Rect.unit (s := S64x4x128) o S1x1x16.size ho).toLoadRect hl) fun u =>
        .op (.store outW (Rect.unit (s := S64x4x128) o S1x1x16.size ho) (shapeCast S1x1x16 (addi (muli v (broadcast S16 mv)) bv) hsc) Finset.univ hx hm) (kk v u)) Q := by
  unfold WorkR at hK ⊢
  iintro ⟨HX, Hi, Ho⟩
  iapply (SparseCore.wp_vectorLoadIdx 𝒱₀ thr none Set.univ (defs := defs₀) (base := restW) (S := Finset.univ) (q := fullShare) (f := ft) (Finset.subset_univ _)) $$ Hi
  iintro Hi
  iapply (row_store d a b (H := lastTile fi ft) (g := g) (k := k) (X := iprop(X ∗ ((restW).view.loc thr ↦{fullShare} ft))) j s hoff hk (fun x y h0 h1 h2 => by
    unfold lastTile
    rw [if_neg (by omega)]
    exact gather_rest j s (congrArg (fun f => loadIdx f ![rv, jv] h) (read_rest (F := F) ft)) hg hg' hL hj hb hmv x y h0 h1 h2) fun u => (sep_assoc.1).trans (hK _ u))
  isplitl [HX Hi]
  · isplitl [HX]; · iexact HX
    iexact Hi
  iexact Ho

/-- The lanes of row group `s` of tile `g`, as numbers of the last voxels. -/
theorem rest_lanes {v : IVec S16 32} (hv : Halves v) (n : ℕ) (hn : n < 31) (x : Fin 16) : (addi (broadcast S16 (BitVec.ofNat 32 n)) v (ix1 x)).toNat = n + x.val / 8 := by
  show (BitVec.ofNat 32 n + v (ix1 x)).toNat = _
  rw [hv x, ← BitVec.ofNat_add, BitVec.toNat_ofNat]
  exact Nat.mod_eq_of_lt (by omega)

/-- Those lanes' indices are inside the last voxels' buffer. -/
theorem rest_inb {v : IVec S16 32} (hv : Halves v) {n : ℕ} (hn : n < 31) (j : Fin 4) (jv : IVec S16 32) (hj : ∀ x : Fin 16, (jv (ix1 x)).toNat = j.val) :
    ∀ a x, ((![addi (broadcast S16 (BitVec.ofNat 32 n)) v, jv] : Fin 2 → IVec S16 32) a x).toNat < S32x4.size a := by
  intro a x
  obtain ⟨x, rfl⟩ : ∃ x' : Fin 16, x = ix1 x' := ⟨x 0, eq_ix1 x⟩
  match a with
  | ⟨0, _⟩ => show (addi (broadcast S16 (BitVec.ofNat 32 n)) v (ix1 x)).toNat < 32; rw [rest_lanes hv n hn]; omega
  | ⟨1, _⟩ => show (jv (ix1 x)).toNat < 4; rw [hj]; omega

end

end Cert.Proof.Vox

end
-- ==== Proof.Turn.lean ====
/-
  The three loops over a chunk's output tiles: one turn computes one output tile.
-/
module

public import proofs.«01_k».proof.Proof.Rows

@[expose] public section

noncomputable section

namespace Cert.Proof.Vox

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable [FloatOps F] (d : Dev nD)

local notation "inW" => (Memref.whole Cert.KernelIdeal.cc0_scratch0 : Memref Cert.KernelIdeal.sig Kind.scVector Space.vmem Cert.KernelIdeal.S8x4x128 EltTy.i32)
local notation "restW" => (Memref.whole Cert.KernelIdeal.cc0_scratch1 : Memref Cert.KernelIdeal.sig Kind.scVector Space.vmem Cert.KernelIdeal.S32x4 EltTy.i32)
local notation "outW" => (Memref.whole Cert.KernelIdeal.cc0_scratch2 : Memref Cert.KernelIdeal.sig Kind.scVector Space.vmem Cert.KernelIdeal.S64x4x128 EltTy.i32)

/-- The vectors every turn uses: the lanes' half, the four columns' offsets, the four columns' numbers. -/
structure Vecs (v26 v46 v50 v54 v58 v59 v60 v61 v62 : IVec S16 32) : Prop where
  half : Halves v26
  o0 : Offsets 0 v46
  o1 : Offsets 1 v50
  o2 : Offsets 2 v54
  o3 : Offsets 3 v58
  j0 : ∀ x : Fin 16, (v59 (ix1 x)).toNat = (0 : Fin 4).val
  j1 : ∀ x : Fin 16, (v60 (ix1 x)).toNat = (1 : Fin 4).val
  j2 : ∀ x : Fin 16, (v61 (ix1 x)).toNat = (2 : Fin 4).val
  j3 : ∀ x : Fin 16, (v62 (ix1 x)).toNat = (3 : Fin 4).val

/-- The SparseCore and the tile of a coordinate pair. -/
abbrev cOf (i : grid0.Coords) : Fin τ.nSC := (i 0).castLE hcore0
@[inherit_doc cOf] abbrev jOf (i : grid0.Coords) : Fin τ.nSub := (i 1).castLE hsub0

/-- The number of the first voxel of row group `s`, as the kernel computes it in turn `k`. -/
theorem word_base (k s : ℕ) : Scalar.addi (Scalar.muli 16#32 (Scf.iv 0#32 1#32 k)) (BitVec.ofNat 32 (2 * s)) = BitVec.ofNat 32 (16 * k + 2 * s) := by
  show 16#32 * Scf.iv 0#32 1#32 k + BitVec.ofNat 32 (2 * s) = _
  unfold Scf.iv
  rw [BitVec.zero_add, BitVec.mul_one, ← BitVec.ofNat_mul, ← BitVec.ofNat_add]

seal wp in
set_option maxHeartbeats 1000000 in
/-- One turn of the loop over the output tiles of a chunk computes output tile `k`. -/
theorem turn_t2 (i : grid0.Coords) (arg2 : Memref sig .scVector .hbm S3906x4x128 .i32) (harg2 : arg2.IsWhole) (arg3 : Memref sig .scVector .hbm S32x4 .i32) (harg3 : arg3.IsWhole) (arg4 : Memref sig .scVector .hbm S31250x4x128 .i32) (harg4 : arg4.IsWhole) (harg5 : (inW).IsWhole) (harg6 : (restW).IsWhole) (harg7 : (outW).IsWhole) (v75_r0 : DmaSems sig S_) (v75_r1 : DmaSems sig S_) (v74_r2 : DmaSems sig S_) (v74_r3 : DmaSems sig S_) (v551_r4 : DmaSems sig S_) (v551_r5 : DmaSems sig S_) (v551_r6 : DmaSems sig S_)
    {v26 v46 v50 v54 v58 v59 v60 v61 v62 : IVec S16 32}
    (hv : Vecs v26 v46 v50 v54 v58 v59 v60 v61 v62) (fi : S8x4x128.Idx → BitVec 32) (k0_t2 : Fin k0_t2_loop.trips) :
    Work (F := F) d (cOf i) (jOf i) fi (headTile fi) k0_t2.val 0 ⊢ wp frame (wpE defs₀ 𝒱₀ (d, Proc.scVector (cOf i) (jOf i)) none) Set.univ
      (do
        let ⟨v352, v355_ld⟩ : Σ' (v352 : IVec S16 32), Vec F S1x1x16 .i32 ← k0_part8 i arg2 harg2 arg3 harg3 arg4 harg4 inW harg5 restW harg6 outW harg7 v75_r0 v75_r1 v74_r2 v74_r3 v551_r4 v551_r5 v551_r6 v26 v46 v50 v54 v58 v59 v60 v61 v62 0#32 1#32 k0_t2
        have v355 : Vec F S16 .i32 := shapeCast S16 v355_ld shapeCasts_S1x1x16_S16
        Prog.lift (.store outW (Rect.unit (s := S64x4x128) (k0_off33 k0_t2) S1x1x16.size (k0_off33_inb k0_t2)) (shapeCast S1x1x16 v352 shapeCasts_S16_S1x1x16) Finset.univ (View.stores_vmem_bits_univ h_S1x1x16 rfl) (.inl rfl))
        pure ⟨⟩)
      (fun (_ : PUnit) => Work (F := F) d (cOf i) (jOf i) fi (headTile fi) (k0_t2.val + 1) 0) := by
  have hk : k0_t2.val < 64 := lt_of_lt_of_le k0_t2.isLt (by decide)
  simp only [k0_part8, k0_part7, k0_part6, k0_part5, k0_part4, k0_part3, k0_part2, k0_part1, Prog.bind_assoc, Prog.bind_lift, Prog.bind_op, Prog.bind_ret, Prog.pure_eq_ret]
  have L0 := lanes_of hv.half hk 0 (word_base k0_t2.val 0)
  refine check_step d _ _ ⟨lanes_inb hk L0 0 _ hv.j0, lanes_inb hk L0 1 _ hv.j1, lanes_inb hk L0 2 _ hv.j2, lanes_inb hk L0 3 _ hv.j3⟩ ?_
  refine row_head (F := F) d (cOf i) (jOf i) (k := 0) (mv := 2#32) 0 0 L0 hv.j0 hv.o0 rfl (k0_off2_eq k0_t2) rfl fun _ _ => ?_
  refine row_head (F := F) d (cOf i) (jOf i) (k := 1) (mv := 2#32) 1 0 L0 hv.j1 hv.o1 rfl (k0_off3_eq k0_t2) rfl fun _ _ => ?_
  refine row_head (F := F) d (cOf i) (jOf i) (k := 2) (mv := 2#32) 2 0 L0 hv.j2 hv.o2 rfl (k0_off4_eq k0_t2) rfl fun _ _ => ?_
  refine row_head (F := F) d (cOf i) (jOf i) (k := 3) (mv := 1#32) 3 0 L0 hv.j3 hv.o3 rfl (k0_off5_eq k0_t2) rfl fun _ _ => ?_
  have L1 := lanes_of hv.half hk 1 (word_base k0_t2.val 1)
  refine check_step d _ _ ⟨lanes_inb hk L1 0 _ hv.j0, lanes_inb hk L1 1 _ hv.j1, lanes_inb hk L1 2 _ hv.j2, lanes_inb hk L1 3 _ hv.j3⟩ ?_
  refine row_head (F := F) d (cOf i) (jOf i) (k := 4) (mv := 2#32) 0 1 L1 hv.j0 hv.o0 rfl (k0_off6_eq k0_t2) rfl fun _ _ => ?_
  refine row_head (F := F) d (cOf i) (jOf i) (k := 5) (mv := 2#32) 1 1 L1 hv.j1 hv.o1 rfl (k0_off7_eq k0_t2) rfl fun _ _ => ?_
  refine row_head (F := F) d (cOf i) (jOf i) (k := 6) (mv := 2#32) 2 1 L1 hv.j2 hv.o2 rfl (k0_off8_eq k0_t2) rfl fun _ _ => ?_
  refine row_head (F := F) d (cOf i) (jOf i) (k := 7) (mv := 1#32) 3 1 L1 hv.j3 hv.o3 rfl (k0_off9_eq k0_t2) rfl fun _ _ => ?_
  have L2 := lanes_of hv.half hk 2 (word_base k0_t2.val 2)
  refine check_step d _ _ ⟨lanes_inb hk L2 0 _ hv.j0, lanes_inb hk L2 1 _ hv.j1, lanes_inb hk L2 2 _ hv.j2, lanes_inb hk L2 3 _ hv.j3⟩ ?_
  refine row_head (F := F) d (cOf i) (jOf i) (k := 8) (mv := 2#32) 0 2 L2 hv.j0 hv.o0 rfl (k0_off10_eq k0_t2) rfl fun _ _ => ?_
  refine row_head (F := F) d (cOf i) (jOf i) (k := 9) (mv := 2#32) 1 2 L2 hv.j1 hv.o1 rfl (k0_off11_eq k0_t2) rfl fun _ _ => ?_
  refine row_head (F := F) d (cOf i) (jOf i) (k := 10) (mv := 2#32) 2 2 L2 hv.j2 hv.o2 rfl (k0_off12_eq k0_t2) rfl fun _ _ => ?_
  refine row_head (F := F) d (cOf i) (jOf i) (k := 11) (mv := 1#32) 3 2 L2 hv.j3 hv.o3 rfl (k0_off13_eq k0_t2) rfl fun _ _ => ?_
  have L3 := lanes_of hv.half hk 3 (word_base k0_t2.val 3)
  refine check_step d _ _ ⟨lanes_inb hk L3 0 _ hv.j0, lanes_inb hk L3 1 _ hv.j1, lanes_inb hk L3 2 _ hv.j2, lanes_inb hk L3 3 _ hv.j3⟩ ?_
  refine row_head (F := F) d (cOf i) (jOf i) (k := 12) (mv := 2#32) 0 3 L3 hv.j0 hv.o0 rfl (k0_off14_eq k0_t2) rfl fun _ _ => ?_
  refine row_head (F := F) d (cOf i) (jOf i) (k := 13) (mv := 2#32) 1 3 L3 hv.j1 hv.o1 rfl (k0_off15_eq k0_t2) rfl fun _ _ => ?_
  refine row_head (F := F) d (cOf i) (jOf i) (k := 14) (mv := 2#32) 2 3 L3 hv.j2 hv.o2 rfl (k0_off16_eq k0_t2) rfl fun _ _ => ?_
  refine row_head (F := F) d (cOf i) (jOf i) (k := 15) (mv := 1#32) 3 3 L3 hv.j3 hv.o3 rfl (k0_off17_eq k0_t2) rfl fun _ _ => ?_
  have L4 := lanes_of hv.half hk 4 (word_base k0_t2.val 4)
  refine check_step d _ _ ⟨lanes_inb hk L4 0 _ hv.j0, lanes_inb hk L4 1 _ hv.j1, lanes_inb hk L4 2 _ hv.j2, lanes_inb hk L4 3 _ hv.j3⟩ ?_
  refine row_head (F := F) d (cOf i) (jOf i) (k := 16) (mv := 2#32) 0 4 L4 hv.j0 hv.o0 rfl (k0_off18_eq k0_t2) rfl fun _ _ => ?_
  refine row_head (F := F) d (cOf i) (jOf i) (k := 17) (mv := 2#32) 1 4 L4 hv.j1 hv.o1 rfl (k0_off19_eq k0_t2) rfl fun _ _ => ?_
  refine row_head (F := F) d (cOf i) (jOf i) (k := 18) (mv := 2#32) 2 4 L4 hv.j2 hv.o2 rfl (k0_off20_eq k0_t2) rfl fun _ _ => ?_
  refine row_head (F := F) d (cOf i) (jOf i) (k := 19) (mv := 1#32) 3 4 L4 hv.j3 hv.o3 rfl (k0_off21_eq k0_t2) rfl fun _ _ => ?_
  have L5 := lanes_of hv.half hk 5 (word_base k0_t2.val 5)
  refine check_step d _ _ ⟨lanes_inb hk L5 0 _ hv.j0, lanes_inb hk L5 1 _ hv.j1, lanes_inb hk L5 2 _ hv.j2, lanes_inb hk L5 3 _ hv.j3⟩ ?_
  refine row_head (F := F) d (cOf i) (jOf i) (k := 20) (mv := 2#32) 0 5 L5 hv.j0 hv.o0 rfl (k0_off22_eq k0_t2) rfl fun _ _ => ?_
  refine row_head (F := F) d (cOf i) (jOf i) (k := 21) (mv := 2#32) 1 5 L5 hv.j1 hv.o1 rfl (k0_off23_eq k0_t2) rfl fun _ _ => ?_
  refine row_head (F := F) d (cOf i) (jOf i) (k := 22) (mv := 2#32) 2 5 L5 hv.j2 hv.o2 rfl (k0_off24_eq k0_t2) rfl fun _ _ => ?_
  refine row_head (F := F) d (cOf i) (jOf i) (k := 23) (mv := 1#32) 3 5 L5 hv.j3 hv.o3 rfl (k0_off25_eq k0_t2) rfl fun _ _ => ?_
  have L6 := lanes_of hv.half hk 6 (word_base k0_t2.val 6)
  refine check_step d _ _ ⟨lanes_inb hk L6 0 _ hv.j0, lanes_inb hk L6 1 _ hv.j1, lanes_inb hk L6 2 _ hv.j2, lanes_inb hk L6 3 _ hv.j3⟩ ?_
  refine row_head (F := F) d (cOf i) (jOf i) (k := 24) (mv := 2#32) 0 6 L6 hv.j0 hv.o0 rfl (k0_off26_eq k0_t2) rfl fun _ _ => ?_
  refine row_head (F := F) d (cOf i) (jOf i) (k := 25) (mv := 2#32) 1 6 L6 hv.j1 hv.o1 rfl (k0_off27_eq k0_t2) rfl fun _ _ => ?_
  refine row_head (F := F) d (cOf i) (jOf i) (k := 26) (mv := 2#32) 2 6 L6 hv.j2 hv.o2 rfl (k0_off28_eq k0_t2) rfl fun _ _ => ?_
  refine row_head (F := F) d (cOf i) (jOf i) (k := 27) (mv := 1#32) 3 6 L6 hv.j3 hv.o3 rfl (k0_off29_eq k0_t2) rfl fun _ _ => ?_
  have L7 := lanes_of hv.half hk 7 (word_base k0_t2.val 7)
  refine check_step d _ _ ⟨lanes_inb hk L7 0 _ hv.j0, lanes_inb hk L7 1 _ hv.j1, lanes_inb hk L7 2 _ hv.j2, lanes_inb hk L7 3 _ hv.j3⟩ ?_
  refine row_head (F := F) d (cOf i) (jOf i) (k := 28) (mv := 2#32) 0 7 L7 hv.j0 hv.o0 rfl (k0_off30_eq k0_t2) rfl fun _ _ => ?_
  refine row_head (F := F) d (cOf i) (jOf i) (k := 29) (mv := 2#32) 1 7 L7 hv.j1 hv.o1 rfl (k0_off31_eq k0_t2) rfl fun _ _ => ?_
  refine row_head (F := F) d (cOf i) (jOf i) (k := 30) (mv := 2#32) 2 7 L7 hv.j2 hv.o2 rfl (k0_off32_eq k0_t2) rfl fun _ _ => ?_
  refine row_head (F := F) d (cOf i) (jOf i) (k := 31) (mv := 1#32) 3 7 L7 hv.j3 hv.o3 rfl (k0_off33_eq k0_t2) rfl fun _ _ => ?_
  refine BIBase.Entails.trans ?_ (le_wp_ret _ _ _ _ _)
  unfold Work
  iintro ⟨Hi, %f, %hf, Ho⟩
  isplitl [Hi]; · iexact Hi
  iexists f
  isplitr
  · ipureintro; exact hf.tile
  iexact Ho

seal wp in
set_option maxHeartbeats 1000000 in
/-- One turn of the loop over the output tiles of the chunk that the first eight workers have more computes output tile `k`. -/
theorem turn_t3 (i : grid0.Coords) (arg2 : Memref sig .scVector .hbm S3906x4x128 .i32) (harg2 : arg2.IsWhole) (arg3 : Memref sig .scVector .hbm S32x4 .i32) (harg3 : arg3.IsWhole) (arg4 : Memref sig .scVector .hbm S31250x4x128 .i32) (harg4 : arg4.IsWhole) (harg5 : (inW).IsWhole) (harg6 : (restW).IsWhole) (harg7 : (outW).IsWhole) (v75_r0 : DmaSems sig S_) (v75_r1 : DmaSems sig S_) (v74_r2 : DmaSems sig S_) (v74_r3 : DmaSems sig S_) (v551_r4 : DmaSems sig S_) (v551_r5 : DmaSems sig S_) (v551_r6 : DmaSems sig S_)
    {v26 v46 v50 v54 v58 v59 v60 v61 v62 : IVec S16 32}
    (hv : Vecs v26 v46 v50 v54 v58 v59 v60 v61 v62) (fi : S8x4x128.Idx → BitVec 32) (k0_h1 : k0_cond1 i = 1#1) (k0_t3 : Fin k0_t3_loop.trips) :
    Work (F := F) d (cOf i) (jOf i) fi (headTile fi) k0_t3.val 0 ⊢ wp frame (wpE defs₀ 𝒱₀ (d, Proc.scVector (cOf i) (jOf i)) none) Set.univ
      (do
        let ⟨v352, v355_ld⟩ : Σ' (v352 : IVec S16 32), Vec F S1x1x16 .i32 ← k0_part16 i arg2 harg2 arg3 harg3 arg4 harg4 inW harg5 restW harg6 outW harg7 v75_r0 v75_r1 v74_r2 v74_r3 v551_r4 v551_r5 v551_r6 v26 v46 v50 v54 v58 v59 v60 v61 v62 k0_h1 0#32 1#32 k0_t3
        have v355 : Vec F S16 .i32 := shapeCast S16 v355_ld shapeCasts_S1x1x16_S16
        Prog.lift (.store outW (Rect.unit (s := S64x4x128) (k0_off67 k0_t3) S1x1x16.size (k0_off67_inb i k0_t3 k0_h1)) (shapeCast S1x1x16 v352 shapeCasts_S16_S1x1x16) Finset.univ (View.stores_vmem_bits_univ h_S1x1x16 rfl) (.inl rfl))
        pure ⟨⟩)
      (fun (_ : PUnit) => Work (F := F) d (cOf i) (jOf i) fi (headTile fi) (k0_t3.val + 1) 0) := by
  have hk : k0_t3.val < 64 := lt_of_lt_of_le k0_t3.isLt (by decide)
  simp only [k0_part16, k0_part15, k0_part14, k0_part13, k0_part12, k0_part11, k0_part10, k0_part9, Prog.bind_assoc, Prog.bind_lift, Prog.bind_op, Prog.bind_ret, Prog.pure_eq_ret]
  have L0 := lanes_of hv.half hk 0 (word_base k0_t3.val 0)
  refine check_step d _ _ ⟨fun _ => lanes_inb hk L0 0 _ hv.j0, fun _ => lanes_inb hk L0 1 _ hv.j1, fun _ => lanes_inb hk L0 2 _ hv.j2, fun _ => lanes_inb hk L0 3 _ hv.j3⟩ ?_
  refine row_head (F := F) d (cOf i) (jOf i) (k := 0) (mv := 2#32) 0 0 L0 hv.j0 hv.o0 rfl (k0_off36_eq k0_t3) rfl fun _ _ => ?_
  refine row_head (F := F) d (cOf i) (jOf i) (k := 1) (mv := 2#32) 1 0 L0 hv.j1 hv.o1 rfl (k0_off37_eq k0_t3) rfl fun _ _ => ?_
  refine row_head (F := F) d (cOf i) (jOf i) (k := 2) (mv := 2#32) 2 0 L0 hv.j2 hv.o2 rfl (k0_off38_eq k0_t3) rfl fun _ _ => ?_
  refine row_head (F := F) d (cOf i) (jOf i) (k := 3) (mv := 1#32) 3 0 L0 hv.j3 hv.o3 rfl (k0_off39_eq k0_t3) rfl fun _ _ => ?_
  have L1 := lanes_of hv.half hk 1 (word_base k0_t3.val 1)
  refine check_step d _ _ ⟨fun _ => lanes_inb hk L1 0 _ hv.j0, fun _ => lanes_inb hk L1 1 _ hv.j1, fun _ => lanes_inb hk L1 2 _ hv.j2, fun _ => lanes_inb hk L1 3 _ hv.j3⟩ ?_
  refine row_head (F := F) d (cOf i) (jOf i) (k := 4) (mv := 2#32) 0 1 L1 hv.j0 hv.o0 rfl (k0_off40_eq k0_t3) rfl fun _ _ => ?_
  refine row_head (F := F) d (cOf i) (jOf i) (k := 5) (mv := 2#32) 1 1 L1 hv.j1 hv.o1 rfl (k0_off41_eq k0_t3) rfl fun _ _ => ?_
  refine row_head (F := F) d (cOf i) (jOf i) (k := 6) (mv := 2#32) 2 1 L1 hv.j2 hv.o2 rfl (k0_off42_eq k0_t3) rfl fun _ _ => ?_
  refine row_head (F := F) d (cOf i) (jOf i) (k := 7) (mv := 1#32) 3 1 L1 hv.j3 hv.o3 rfl (k0_off43_eq k0_t3) rfl fun _ _ => ?_
  have L2 := lanes_of hv.half hk 2 (word_base k0_t3.val 2)
  refine check_step d _ _ ⟨fun _ => lanes_inb hk L2 0 _ hv.j0, fun _ => lanes_inb hk L2 1 _ hv.j1, fun _ => lanes_inb hk L2 2 _ hv.j2, fun _ => lanes_inb hk L2 3 _ hv.j3⟩ ?_
  refine row_head (F := F) d (cOf i) (jOf i) (k := 8) (mv := 2#32) 0 2 L2 hv.j0 hv.o0 rfl (k0_off44_eq k0_t3) rfl fun _ _ => ?_
  refine row_head (F := F) d (cOf i) (jOf i) (k := 9) (mv := 2#32) 1 2 L2 hv.j1 hv.o1 rfl (k0_off45_eq k0_t3) rfl fun _ _ => ?_
  refine row_head (F := F) d (cOf i) (jOf i) (k := 10) (mv := 2#32) 2 2 L2 hv.j2 hv.o2 rfl (k0_off46_eq k0_t3) rfl fun _ _ => ?_
  refine row_head (F := F) d (cOf i) (jOf i) (k := 11) (mv := 1#32) 3 2 L2 hv.j3 hv.o3 rfl (k0_off47_eq k0_t3) rfl fun _ _ => ?_
  have L3 := lanes_of hv.half hk 3 (word_base k0_t3.val 3)
  refine check_step d _ _ ⟨fun _ => lanes_inb hk L3 0 _ hv.j0, fun _ => lanes_inb hk L3 1 _ hv.j1, fun _ => lanes_inb hk L3 2 _ hv.j2, fun _ => lanes_inb hk L3 3 _ hv.j3⟩ ?_
  refine row_head (F := F) d (cOf i) (jOf i) (k := 12) (mv := 2#32) 0 3 L3 hv.j0 hv.o0 rfl (k0_off48_eq k0_t3) rfl fun _ _ => ?_
  refine row_head (F := F) d (cOf i) (jOf i) (k := 13) (mv := 2#32) 1 3 L3 hv.j1 hv.o1 rfl (k0_off49_eq k0_t3) rfl fun _ _ => ?_
  refine row_head (F := F) d (cOf i) (jOf i) (k := 14) (mv := 2#32) 2 3 L3 hv.j2 hv.o2 rfl (k0_off50_eq k0_t3) rfl fun _ _ => ?_
  refine row_head (F := F) d (cOf i) (jOf i) (k := 15) (mv := 1#32) 3 3 L3 hv.j3 hv.o3 rfl (k0_off51_eq k0_t3) rfl fun _ _ => ?_
  have L4 := lanes_of hv.half hk 4 (word_base k0_t3.val 4)
  refine check_step d _ _ ⟨fun _ => lanes_inb hk L4 0 _ hv.j0, fun _ => lanes_inb hk L4 1 _ hv.j1, fun _ => lanes_inb hk L4 2 _ hv.j2, fun _ => lanes_inb hk L4 3 _ hv.j3⟩ ?_
  refine row_head (F := F) d (cOf i) (jOf i) (k := 16) (mv := 2#32) 0 4 L4 hv.j0 hv.o0 rfl (k0_off52_eq k0_t3) rfl fun _ _ => ?_
  refine row_head (F := F) d (cOf i) (jOf i) (k := 17) (mv := 2#32) 1 4 L4 hv.j1 hv.o1 rfl (k0_off53_eq k0_t3) rfl fun _ _ => ?_
  refine row_head (F := F) d (cOf i) (jOf i) (k := 18) (mv := 2#32) 2 4 L4 hv.j2 hv.o2 rfl (k0_off54_eq k0_t3) rfl fun _ _ => ?_
  refine row_head (F := F) d (cOf i) (jOf i) (k := 19) (mv := 1#32) 3 4 L4 hv.j3 hv.o3 rfl (k0_off55_eq k0_t3) rfl fun _ _ => ?_
  have L5 := lanes_of hv.half hk 5 (word_base k0_t3.val 5)
  refine check_step d _ _ ⟨fun _ => lanes_inb hk L5 0 _ hv.j0, fun _ => lanes_inb hk L5 1 _ hv.j1, fun _ => lanes_inb hk L5 2 _ hv.j2, fun _ => lanes_inb hk L5 3 _ hv.j3⟩ ?_
  refine row_head (F := F) d (cOf i) (jOf i) (k := 20) (mv := 2#32) 0 5 L5 hv.j0 hv.o0 rfl (k0_off56_eq k0_t3) rfl fun _ _ => ?_
  refine row_head (F := F) d (cOf i) (jOf i) (k := 21) (mv := 2#32) 1 5 L5 hv.j1 hv.o1 rfl (k0_off57_eq k0_t3) rfl fun _ _ => ?_
  refine row_head (F := F) d (cOf i) (jOf i) (k := 22) (mv := 2#32) 2 5 L5 hv.j2 hv.o2 rfl (k0_off58_eq k0_t3) rfl fun _ _ => ?_
  refine row_head (F := F) d (cOf i) (jOf i) (k := 23) (mv := 1#32) 3 5 L5 hv.j3 hv.o3 rfl (k0_off59_eq k0_t3) rfl fun _ _ => ?_
  have L6 := lanes_of hv.half hk 6 (word_base k0_t3.val 6)
  refine check_step d _ _ ⟨fun _ => lanes_inb hk L6 0 _ hv.j0, fun _ => lanes_inb hk L6 1 _ hv.j1, fun _ => lanes_inb hk L6 2 _ hv.j2, fun _ => lanes_inb hk L6 3 _ hv.j3⟩ ?_
  refine row_head (F := F) d (cOf i) (jOf i) (k := 24) (mv := 2#32) 0 6 L6 hv.j0 hv.o0 rfl (k0_off60_eq k0_t3) rfl fun _ _ => ?_
  refine row_head (F := F) d (cOf i) (jOf i) (k := 25) (mv := 2#32) 1 6 L6 hv.j1 hv.o1 rfl (k0_off61_eq k0_t3) rfl fun _ _ => ?_
  refine row_head (F := F) d (cOf i) (jOf i) (k := 26) (mv := 2#32) 2 6 L6 hv.j2 hv.o2 rfl (k0_off62_eq k0_t3) rfl fun _ _ => ?_
  refine row_head (F := F) d (cOf i) (jOf i) (k := 27) (mv := 1#32) 3 6 L6 hv.j3 hv.o3 rfl (k0_off63_eq k0_t3) rfl fun _ _ => ?_
  have L7 := lanes_of hv.half hk 7 (word_base k0_t3.val 7)
  refine check_step d _ _ ⟨fun _ => lanes_inb hk L7 0 _ hv.j0, fun _ => lanes_inb hk L7 1 _ hv.j1, fun _ => lanes_inb hk L7 2 _ hv.j2, fun _ => lanes_inb hk L7 3 _ hv.j3⟩ ?_
  refine row_head (F := F) d (cOf i) (jOf i) (k := 28) (mv := 2#32) 0 7 L7 hv.j0 hv.o0 rfl (k0_off64_eq k0_t3) rfl fun _ _ => ?_
  refine row_head (F := F) d (cOf i) (jOf i) (k := 29) (mv := 2#32) 1 7 L7 hv.j1 hv.o1 rfl (k0_off65_eq k0_t3) rfl fun _ _ => ?_
  refine row_head (F := F) d (cOf i) (jOf i) (k := 30) (mv := 2#32) 2 7 L7 hv.j2 hv.o2 rfl (k0_off66_eq k0_t3) rfl fun _ _ => ?_
  refine row_head (F := F) d (cOf i) (jOf i) (k := 31) (mv := 1#32) 3 7 L7 hv.j3 hv.o3 rfl (k0_off67_eq k0_t3) rfl fun _ _ => ?_
  refine BIBase.Entails.trans ?_ (le_wp_ret _ _ _ _ _)
  unfold Work
  iintro ⟨Hi, %f, %hf, Ho⟩
  isplitl [Hi]; · iexact Hi
  iexists f
  isplitr
  · ipureintro; exact hf.tile
  iexact Ho

seal wp in
set_option maxHeartbeats 1000000 in
/-- One turn of the loop over the output tiles of the last two whole input tiles computes output tile `k`. -/
theorem turn_t4 (i : grid0.Coords) (arg2 : Memref sig .scVector .hbm S3906x4x128 .i32) (harg2 : arg2.IsWhole) (arg3 : Memref sig .scVector .hbm S32x4 .i32) (harg3 : arg3.IsWhole) (arg4 : Memref sig .scVector .hbm S31250x4x128 .i32) (harg4 : arg4.IsWhole) (harg5 : (inW).IsWhole) (harg6 : (restW).IsWhole) (harg7 : (outW).IsWhole) (v75_r0 : DmaSems sig S_) (v75_r1 : DmaSems sig S_) (v74_r2 : DmaSems sig S_) (v74_r3 : DmaSems sig S_) (v551_r4 : DmaSems sig S_) (v551_r5 : DmaSems sig S_) (v551_r6 : DmaSems sig S_)
    {v26 v46 v50 v54 v58 v59 v60 v61 v62 : IVec S16 32}
    (hv : Vecs v26 v46 v50 v54 v58 v59 v60 v61 v62) (fi : S8x4x128.Idx → BitVec 32) (k0_h2 : k0_cond2 i = 1#1) (k0_t4 : Fin k0_t4_loop.trips) :
    Work (F := F) d (cOf i) (jOf i) fi (headTile fi) k0_t4.val 0 ⊢ wp frame (wpE defs₀ 𝒱₀ (d, Proc.scVector (cOf i) (jOf i)) none) Set.univ
      (do
        let ⟨v352, v355_ld⟩ : Σ' (v352 : IVec S16 32), Vec F S1x1x16 .i32 ← k0_part24 i arg2 harg2 arg3 harg3 arg4 harg4 inW harg5 restW harg6 outW harg7 v75_r0 v75_r1 v74_r2 v74_r3 v551_r4 v551_r5 v551_r6 v26 v46 v50 v54 v58 v59 v60 v61 v62 k0_h2 0#32 1#32 k0_t4
        have v355 : Vec F S16 .i32 := shapeCast S16 v355_ld shapeCasts_S1x1x16_S16
        Prog.lift (.store outW (Rect.unit (s := S64x4x128) (k0_off100 k0_t4) S1x1x16.size (k0_off100_inb i k0_t4 k0_h2)) (shapeCast S1x1x16 v352 shapeCasts_S16_S1x1x16) Finset.univ (View.stores_vmem_bits_univ h_S1x1x16 rfl) (.inl rfl))
        pure ⟨⟩)
      (fun (_ : PUnit) => Work (F := F) d (cOf i) (jOf i) fi (headTile fi) (k0_t4.val + 1) 0) := by
  have hk : k0_t4.val < 64 := lt_of_lt_of_le k0_t4.isLt (by decide)
  simp only [k0_part24, k0_part23, k0_part22, k0_part21, k0_part20, k0_part19, k0_part18, k0_part17, Prog.bind_assoc, Prog.bind_lift, Prog.bind_op, Prog.bind_ret, Prog.pure_eq_ret]
  have L0 := lanes_of hv.half hk 0 (word_base k0_t4.val 0)
  refine check_step d _ _ ⟨fun _ => lanes_inb hk L0 0 _ hv.j0, fun _ => lanes_inb hk L0 1 _ hv.j1, fun _ => lanes_inb hk L0 2 _ hv.j2, fun _ => lanes_inb hk L0 3 _ hv.j3⟩ ?_
  refine row_head (F := F) d (cOf i) (jOf i) (k := 0) (mv := 2#32) 0 0 L0 hv.j0 hv.o0 rfl (k0_off69_eq k0_t4) rfl fun _ _ => ?_
  refine row_head (F := F) d (cOf i) (jOf i) (k := 1) (mv := 2#32) 1 0 L0 hv.j1 hv.o1 rfl (k0_off70_eq k0_t4) rfl fun _ _ => ?_
  refine row_head (F := F) d (cOf i) (jOf i) (k := 2) (mv := 2#32) 2 0 L0 hv.j2 hv.o2 rfl (k0_off71_eq k0_t4) rfl fun _ _ => ?_
  refine row_head (F := F) d (cOf i) (jOf i) (k := 3) (mv := 1#32) 3 0 L0 hv.j3 hv.o3 rfl (k0_off72_eq k0_t4) rfl fun _ _ => ?_
  have L1 := lanes_of hv.half hk 1 (word_base k0_t4.val 1)
  refine check_step d _ _ ⟨fun _ => lanes_inb hk L1 0 _ hv.j0, fun _ => lanes_inb hk L1 1 _ hv.j1, fun _ => lanes_inb hk L1 2 _ hv.j2, fun _ => lanes_inb hk L1 3 _ hv.j3⟩ ?_
  refine row_head (F := F) d (cOf i) (jOf i) (k := 4) (mv := 2#32) 0 1 L1 hv.j0 hv.o0 rfl (k0_off73_eq k0_t4) rfl fun _ _ => ?_
  refine row_head (F := F) d (cOf i) (jOf i) (k := 5) (mv := 2#32) 1 1 L1 hv.j1 hv.o1 rfl (k0_off74_eq k0_t4) rfl fun _ _ => ?_
  refine row_head (F := F) d (cOf i) (jOf i) (k := 6) (mv := 2#32) 2 1 L1 hv.j2 hv.o2 rfl (k0_off75_eq k0_t4) rfl fun _ _ => ?_
  refine row_head (F := F) d (cOf i) (jOf i) (k := 7) (mv := 1#32) 3 1 L1 hv.j3 hv.o3 rfl (k0_off76_eq k0_t4) rfl fun _ _ => ?_
  have L2 := lanes_of hv.half hk 2 (word_base k0_t4.val 2)
  refine check_step d _ _ ⟨fun _ => lanes_inb hk L2 0 _ hv.j0, fun _ => lanes_inb hk L2 1 _ hv.j1, fun _ => lanes_inb hk L2 2 _ hv.j2, fun _ => lanes_inb hk L2 3 _ hv.j3⟩ ?_
  refine row_head (F := F) d (cOf i) (jOf i) (k := 8) (mv := 2#32) 0 2 L2 hv.j0 hv.o0 rfl (k0_off77_eq k0_t4) rfl fun _ _ => ?_
  refine row_head (F := F) d (cOf i) (jOf i) (k := 9) (mv := 2#32) 1 2 L2 hv.j1 hv.o1 rfl (k0_off78_eq k0_t4) rfl fun _ _ => ?_
  refine row_head (F := F) d (cOf i) (jOf i) (k := 10) (mv := 2#32) 2 2 L2 hv.j2 hv.o2 rfl (k0_off79_eq k0_t4) rfl fun _ _ => ?_
  refine row_head (F := F) d (cOf i) (jOf i) (k := 11) (mv := 1#32) 3 2 L2 hv.j3 hv.o3 rfl (k0_off80_eq k0_t4) rfl fun _ _ => ?_
  have L3 := lanes_of hv.half hk 3 (word_base k0_t4.val 3)
  refine check_step d _ _ ⟨fun _ => lanes_inb hk L3 0 _ hv.j0, fun _ => lanes_inb hk L3 1 _ hv.j1, fun _ => lanes_inb hk L3 2 _ hv.j2, fun _ => lanes_inb hk L3 3 _ hv.j3⟩ ?_
  refine row_head (F := F) d (cOf i) (jOf i) (k := 12) (mv := 2#32) 0 3 L3 hv.j0 hv.o0 rfl (k0_off81_eq k0_t4) rfl fun _ _ => ?_
  refine row_head (F := F) d (cOf i) (jOf i) (k := 13) (mv := 2#32) 1 3 L3 hv.j1 hv.o1 rfl (k0_off82_eq k0_t4) rfl fun _ _ => ?_
  refine row_head (F := F) d (cOf i) (jOf i) (k := 14) (mv := 2#32) 2 3 L3 hv.j2 hv.o2 rfl (k0_off83_eq k0_t4) rfl fun _ _ => ?_
  refine row_head (F := F) d (cOf i) (jOf i) (k := 15) (mv := 1#32) 3 3 L3 hv.j3 hv.o3 rfl (k0_off84_eq k0_t4) rfl fun _ _ => ?_
  have L4 := lanes_of hv.half hk 4 (word_base k0_t4.val 4)
  refine check_step d _ _ ⟨fun _ => lanes_inb hk L4 0 _ hv.j0, fun _ => lanes_inb hk L4 1 _ hv.j1, fun _ => lanes_inb hk L4 2 _ hv.j2, fun _ => lanes_inb hk L4 3 _ hv.j3⟩ ?_
  refine row_head (F := F) d (cOf i) (jOf i) (k := 16) (mv := 2#32) 0 4 L4 hv.j0 hv.o0 rfl (k0_off85_eq k0_t4) rfl fun _ _ => ?_
  refine row_head (F := F) d (cOf i) (jOf i) (k := 17) (mv := 2#32) 1 4 L4 hv.j1 hv.o1 rfl (k0_off86_eq k0_t4) rfl fun _ _ => ?_
  refine row_head (F := F) d (cOf i) (jOf i) (k := 18) (mv := 2#32) 2 4 L4 hv.j2 hv.o2 rfl (k0_off87_eq k0_t4) rfl fun _ _ => ?_
  refine row_head (F := F) d (cOf i) (jOf i) (k := 19) (mv := 1#32) 3 4 L4 hv.j3 hv.o3 rfl (k0_off88_eq k0_t4) rfl fun _ _ => ?_
  have L5 := lanes_of hv.half hk 5 (word_base k0_t4.val 5)
  refine check_step d _ _ ⟨fun _ => lanes_inb hk L5 0 _ hv.j0, fun _ => lanes_inb hk L5 1 _ hv.j1, fun _ => lanes_inb hk L5 2 _ hv.j2, fun _ => lanes_inb hk L5 3 _ hv.j3⟩ ?_
  refine row_head (F := F) d (cOf i) (jOf i) (k := 20) (mv := 2#32) 0 5 L5 hv.j0 hv.o0 rfl (k0_off89_eq k0_t4) rfl fun _ _ => ?_
  refine row_head (F := F) d (cOf i) (jOf i) (k := 21) (mv := 2#32) 1 5 L5 hv.j1 hv.o1 rfl (k0_off90_eq k0_t4) rfl fun _ _ => ?_
  refine row_head (F := F) d (cOf i) (jOf i) (k := 22) (mv := 2#32) 2 5 L5 hv.j2 hv.o2 rfl (k0_off91_eq k0_t4) rfl fun _ _ => ?_
  refine row_head (F := F) d (cOf i) (jOf i) (k := 23) (mv := 1#32) 3 5 L5 hv.j3 hv.o3 rfl (k0_off92_eq k0_t4) rfl fun _ _ => ?_
  have L6 := lanes_of hv.half hk 6 (word_base k0_t4.val 6)
  refine check_step d _ _ ⟨fun _ => lanes_inb hk L6 0 _ hv.j0, fun _ => lanes_inb hk L6 1 _ hv.j1, fun _ => lanes_inb hk L6 2 _ hv.j2, fun _ => lanes_inb hk L6 3 _ hv.j3⟩ ?_
  refine row_head (F := F) d (cOf i) (jOf i) (k := 24) (mv := 2#32) 0 6 L6 hv.j0 hv.o0 rfl (k0_off93_eq k0_t4) rfl fun _ _ => ?_
  refine row_head (F := F) d (cOf i) (jOf i) (k := 25) (mv := 2#32) 1 6 L6 hv.j1 hv.o1 rfl (k0_off94_eq k0_t4) rfl fun _ _ => ?_
  refine row_head (F := F) d (cOf i) (jOf i) (k := 26) (mv := 2#32) 2 6 L6 hv.j2 hv.o2 rfl (k0_off95_eq k0_t4) rfl fun _ _ => ?_
  refine row_head (F := F) d (cOf i) (jOf i) (k := 27) (mv := 1#32) 3 6 L6 hv.j3 hv.o3 rfl (k0_off96_eq k0_t4) rfl fun _ _ => ?_
  have L7 := lanes_of hv.half hk 7 (word_base k0_t4.val 7)
  refine check_step d _ _ ⟨fun _ => lanes_inb hk L7 0 _ hv.j0, fun _ => lanes_inb hk L7 1 _ hv.j1, fun _ => lanes_inb hk L7 2 _ hv.j2, fun _ => lanes_inb hk L7 3 _ hv.j3⟩ ?_
  refine row_head (F := F) d (cOf i) (jOf i) (k := 28) (mv := 2#32) 0 7 L7 hv.j0 hv.o0 rfl (k0_off97_eq k0_t4) rfl fun _ _ => ?_
  refine row_head (F := F) d (cOf i) (jOf i) (k := 29) (mv := 2#32) 1 7 L7 hv.j1 hv.o1 rfl (k0_off98_eq k0_t4) rfl fun _ _ => ?_
  refine row_head (F := F) d (cOf i) (jOf i) (k := 30) (mv := 2#32) 2 7 L7 hv.j2 hv.o2 rfl (k0_off99_eq k0_t4) rfl fun _ _ => ?_
  refine row_head (F := F) d (cOf i) (jOf i) (k := 31) (mv := 1#32) 3 7 L7 hv.j3 hv.o3 rfl (k0_off100_eq k0_t4) rfl fun _ _ => ?_
  refine BIBase.Entails.trans ?_ (le_wp_ret _ _ _ _ _)
  unfold Work
  iintro ⟨Hi, %f, %hf, Ho⟩
  isplitl [Hi]; · iexact Hi
  iexists f
  isplitr
  · ipureintro; exact hf.tile
  iexact Ho

end

end Cert.Proof.Vox

end
-- ==== Proof.Copy.lean ====
/-
  One copy that is waited for at once.

  The kernel's copies all have this form: the issue, then the wait on a semaphore of the copy's own. `copy` takes the two
  together, from the regions that hold the source's and the destination's elements to the destination rewritten.
-/
module

public import proofs.«01_k».proof.Proof.Base
public import Idealize.ShloMosaic.Lib.Transfers

@[expose] public section

noncomputable section

namespace Cert.Proof.Vox

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable [FloatOps F] (d : Dev nD) (a : Fin τ.nSC) (b : Fin τ.nSub)

local notation "thr" => ((d, Proc.scVector a b) : Thread nD τ)

/-- A copy within a tile's reach, and its wait: the destination's region is held rewritten with what the source reads, the source's
    is unchanged, the copy's semaphore is at zero again. -/
theorem copy {sp sp' : Space} {s s₁ : Shape} {e e₁ : EltTy} {sp₁ : Space} {src : Memref sig Kind.scVector sp s e} {dst : Memref sig Kind.scVector sp' s e} {sm : DmaSem sig}
    {srcw : Memref sig Kind.scVector sp₁ s₁ e₁} {dstw : Memref sig Kind.scVector sp' s e}
    {hsrc hdst hsem hsrcw hdstw} {α : Type} {Q : α → sProp 𝕄} {kk : PUnit → Prog (TpuEff nD τ sig (Elt F) Λ₀ (Proc.scVector a b)) α}
    {O : CellTallies nD τ sig (HIx 1)} {W : Waits sig (HIx 1)} (hO : ∀ g, O g none = 0)
    {R : Finset (Idx (src.view.loc thr))} {fs : Buf (Elt F) (src.view.loc thr)} {R' : Finset (Idx (dst.view.loc thr))} {fd : Buf (Elt F) (dst.view.loc thr)}
    (hw : dstw = dst) (hpos : 0 < s.numel) (hR : src.view.set ⊆ R) (hR' : dst.view.set ⊆ R') :
    iprop(levAts (K (F := F)).L (K (F := F)).lev ∗ (src.view.loc thr ↦[R]{fullShare} fs) ∗ (dst.view.loc thr ↦[R']{fullShare} fd) ∗ semVal (thr, .dma sm) 0 ∗ owes thr O W)
      ⊢ iprop((iprop((src.view.loc thr ↦[R]{fullShare} fs) ∗ (dst.view.loc thr ↦[R']{fullShare} dst.view.write (Elt F) fd (src.view.read (Elt F) fs) Finset.univ)
              ∗ semVal (thr, .dma sm) 0 ∗ owes thr O (insert (SemLoc.dma sm, none) W)) -∗ wp frame (wpE (defs₀ (F := F)) 𝒱₀ thr none) Set.univ (kk ⟨⟩) Q)
          -∗ wp frame (wpE (defs₀ (F := F)) 𝒱₀ thr none) Set.univ
            (.op (.enqueueDma src (.here dst) (.dma sm) hsrc hdst hsem) fun _ => .op (.waitDma2 sm srcw dstw hsrcw hdstw) kk) Q) := by
  subst hw
  iintro ⟨#Hlv, Hs, Hd, Hv, HO⟩ Hk
  ihave Hs' := (pointsTo_split_subset hR).1 $$ Hs
  icases Hs' with ⟨Hs, Hrest⟩
  iapply (Transfers.wp_dmaLocal countersEmb 𝒱₀ thr none (none : HIx 1) dstw.view.dmaCredit rfl (View.dmaCredit_pos _ hpos) hR') $$ [Hs Hd Hv]
  · isplitl [Hs]; · iexact Hs
    isplitl [Hd]; · iexact Hd
    iexact Hv
  iintro Hf
  iapply (Transfers.wp_waitLocalO countersEmb 𝒱₀ thr none (none : HIx 1) rfl (O := O) (W := W)) $$ [Hf HO]
  · isplitl [Hf]; · iexact Hf
    isplitl [HO]; · iexact HO
    iapply ((K (F := F)).mayWait_none (SemLoc.dma sm) hO); iexact Hlv
  iintro ⟨⟨Hd, Hs⟩, Hv, HO⟩
  iapply Hk
  isplitl [Hs Hrest]
  · iapply (pointsTo_split_subset hR).2
    isplitl [Hs]; · iexact Hs
    iexact Hrest
  isplitl [Hd]; · iexact Hd
  isplitl [Hv]; · iexact Hv
  iexact HO

end

end Cert.Proof.Vox

end
-- ==== Proof.Parts.lean ====
/-
  Which tiles of the arrays a worker reads and writes, and what the output array holds once they are written.

  The workers take the chunks in turn: an input tile belongs to the worker numbered by its chunk modulo the number of workers, an
  output tile likewise, and the last voxels to the worker whose turn the last two whole tiles are. `outSpec` is the output array as a
  function of the input arrays; `Done` says that a worker's share of it is written up to a chunk.
-/
module

public import proofs.«01_k».proof.Proof.Rows

@[expose] public section

noncomputable section

namespace Cert.Proof.Vox

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Runs of whole tiles of an array -/

section Slab

variable {κ : Kind} {sp : Space} {N T o : ℕ} (v : View sig κ sp ⟨3, ![N, 4, 128]⟩ .i32) {off : Fin 3 → ℕ}
  {ho : ∀ a, off a + (⟨3, ![T, 4, 128]⟩ : Shape).size a ≤ (⟨3, ![N, 4, 128]⟩ : Shape).size a}

/-- The run of `T` tiles from tile `o` on, at a tile inside it. -/
theorem slab_emb (hoff : off = ![o, 0, 0]) {z : (⟨3, ![T, 4, 128]⟩ : Shape).Idx} {y : (⟨3, ![N, 4, 128]⟩ : Shape).Idx}
    (h0 : (y 0).val = o + (z 0).val) (h1 : (y 1).val = (z 1).val) (h2 : (y 2).val = (z 2).val) :
    (Rect.unit (s := ⟨3, ![N, 4, 128]⟩) off (⟨3, ![T, 4, 128]⟩ : Shape).size ho).emb z = y := by
  subst hoff
  refine Rect.emb_eq_of_coords _ _ _ fun a => ?_
  match a with
  | ⟨0, _⟩ => show (y 0).val = o + 1 * (z 0).val; omega
  | ⟨1, _⟩ => show (y 1).val = 0 + 1 * (z 1).val; omega
  | ⟨2, _⟩ => show (y 2).val = 0 + 1 * (z 2).val; omega

/-- The run's tiles are those from `o` to `o + T`. -/
theorem slab_mem (hoff : off = ![o, 0, 0]) {y : (⟨3, ![N, 4, 128]⟩ : Shape).Idx}
    (h : y ∈ (Rect.unit (s := ⟨3, ![N, 4, 128]⟩) off (⟨3, ![T, 4, 128]⟩ : Shape).size ho).set) : o ≤ (y 0).val ∧ (y 0).val < o + T := by
  subst hoff
  obtain ⟨a0, b0, c0⟩ := (LoadRect.mem_set _).mp h 0
  change a0 < T at b0
  change (y 0).val = o + 1 * a0 at c0
  omega

/-- Reading a run of tiles reads those tiles. -/
theorem slab_read (hoff : off = ![o, 0, 0]) (f : v.ty.Contents (Elt F)) {z : (⟨3, ![T, 4, 128]⟩ : Shape).Idx} {y : (⟨3, ![N, 4, 128]⟩ : Shape).Idx}
    (h0 : (y 0).val = o + (z 0).val) (h1 : (y 1).val = (z 1).val) (h2 : (y 2).val = (z 2).val) :
    (v.slice (Rect.unit (s := ⟨3, ![N, 4, 128]⟩) off (⟨3, ![T, 4, 128]⟩ : Shape).size ho)).read (Elt F) f z = v.read (Elt F) f y := by
  rw [← slab_emb (ho := ho) hoff h0 h1 h2]; rfl

/-- Writing a run of tiles, at a tile inside the run. -/
theorem slab_write_in (hoff : off = ![o, 0, 0]) (f : v.ty.Contents (Elt F)) (w : (⟨3, ![T, 4, 128]⟩ : Shape).Idx → BitVec 32) {z : (⟨3, ![T, 4, 128]⟩ : Shape).Idx} {y : (⟨3, ![N, 4, 128]⟩ : Shape).Idx}
    (h0 : (y 0).val = o + (z 0).val) (h1 : (y 1).val = (z 1).val) (h2 : (y 2).val = (z 2).val) :
    v.read (Elt F) ((v.slice (Rect.unit (s := ⟨3, ![N, 4, 128]⟩) off (⟨3, ![T, 4, 128]⟩ : Shape).size ho)).write (Elt F) f w Finset.univ) y = w z := by
  rw [← slab_emb (ho := ho) hoff h0 h1 h2]
  exact View.read_slice_write_emb (v := v) (Rect.unit (s := ⟨3, ![N, 4, 128]⟩) off (⟨3, ![T, 4, 128]⟩ : Shape).size ho) f w (Finset.mem_univ _)

/-- Writing a run of tiles leaves the other tiles. -/
theorem slab_write_out (hoff : off = ![o, 0, 0]) (f : v.ty.Contents (Elt F)) (w : (⟨3, ![T, 4, 128]⟩ : Shape).Idx → BitVec 32) {y : (⟨3, ![N, 4, 128]⟩ : Shape).Idx}
    (h : ¬ (o ≤ (y 0).val ∧ (y 0).val < o + T)) :
    v.read (Elt F) ((v.slice (Rect.unit (s := ⟨3, ![N, 4, 128]⟩) off (⟨3, ![T, 4, 128]⟩ : Shape).size ho)).write (Elt F) f w Finset.univ) y = v.read (Elt F) f y := by
  refine View.read_slice_write_of_not_mem (v := v) (Rect.unit (s := ⟨3, ![N, 4, 128]⟩) off (⟨3, ![T, 4, 128]⟩ : Shape).size ho) f w Finset.univ ?_
  rw [Rect.map_emb_univ]
  exact fun hm => h (slab_mem hoff hm)

end Slab

/-! ## The workers' shares -/

/-- The number of the worker at a coordinate pair. -/
def worker (i : grid0.Coords) : ℕ := 2 * (i 1).val + (i 0).val

theorem worker_lt (i : grid0.Coords) : worker i < 32 := by
  have h0 : (i 0).val < 2 := (i 0).isLt
  have h1 : (i 1).val < 16 := (i 1).isLt
  unfold worker; omega

/-- The worker an input tile belongs to. -/
def inKey (y : S3906x4x128.Idx) : ℕ := ((y 0).val / 8) % 32
/-- The worker the last voxels belong to. -/
def restKey (_ : S32x4.Idx) : ℕ := 8
/-- The worker an output tile belongs to. -/
def outKey (y : S31250x4x128.Idx) : ℕ := ((y 0).val / 64) % 32

def inPart (w : ℕ) : Finset S3906x4x128.Idx := Finset.univ.filter fun y => inKey y = w
def restPart (w : ℕ) : Finset S32x4.Idx := Finset.univ.filter fun y => restKey y = w
def outPart (w : ℕ) : Finset S31250x4x128.Idx := Finset.univ.filter fun y => outKey y = w

/-! ## What the output array holds -/

/-- The output array, of the whole input tiles `xh` and the last voxels `xt`: row `16 g + l / 8` of the voxels at corner `l mod 8`. -/
def outSpec (xh : S3906x4x128.Idx → BitVec 32) (xt : S32x4.Idx → BitVec 32) : S31250x4x128.Idx → BitVec 32 := fun y =>
  (if h : (y 0).val < 31248 then
      xh (ix3 ⟨(y 0).val / 8, by show _ < 3906; omega⟩ (y 1) ⟨16 * ((y 0).val % 8) + (y 2).val / 8, by have := (y 2).isLt; change _ < 128 at this; omega⟩)
    else xt (ix2 ⟨(16 * ((y 0).val - 31248) + (y 2).val / 8) % 32, Nat.mod_lt _ (by decide)⟩ (y 1))) * mulOf (y 1) + bitOf (y 1) ((y 2).val % 8)

/-- The contents `g` are `outSpec`'s on worker `w`'s tiles of the chunks before chunk `n`. -/
def Done (w : ℕ) (xh : S3906x4x128.Idx → BitVec 32) (xt : S32x4.Idx → BitVec 32) (n : ℕ) (g : S31250x4x128.Idx → BitVec 32) : Prop :=
  ∀ y : S31250x4x128.Idx, outKey y = w → (y 0).val / 64 < n → g y = outSpec xh xt y

theorem Done.zero {w : ℕ} {xh : S3906x4x128.Idx → BitVec 32} {xt : S32x4.Idx → BitVec 32} {g : S31250x4x128.Idx → BitVec 32} : Done w xh xt 0 g := by
  intro y _ h; omega

/-- Chunks that are none of the worker's need no work. -/
theorem Done.skip {w : ℕ} {xh : S3906x4x128.Idx → BitVec 32} {xt : S32x4.Idx → BitVec 32} {n n' : ℕ} {g : S31250x4x128.Idx → BitVec 32} (h : Done w xh xt n g)
    (hn : ∀ c, n ≤ c → c < n' → c < 489 → c % 32 ≠ w) : Done w xh xt n' g := by
  intro y hy hlt
  have h0 : (y 0).val < 31250 := (y 0).isLt
  refine h y hy ?_
  by_contra hc
  exact hn _ (by omega) hlt (by omega) hy

/-- A whole chunk of output tiles computed from its input tiles is the output array's. -/
theorem head_spec {xh : S3906x4x128.Idx → BitVec 32} {xt : S32x4.Idx → BitVec 32} {fi : S8x4x128.Idx → BitVec 32} {n : ℕ}
    (hfi : ∀ (z : S8x4x128.Idx) (y : S3906x4x128.Idx), (z 0).val < 2 ∨ n < 488 → (y 0).val = 8 * n + (z 0).val → (y 1).val = (z 1).val → (y 2).val = (z 2).val → fi z = xh y)
    {z : S64x4x128.Idx} {y : S31250x4x128.Idx} (hn : n < 488 ∨ n = 488 ∧ (z 0).val < 16)
    (h0 : (y 0).val = 64 * n + (z 0).val) (h1 : (y 1).val = (z 1).val) (h2 : (y 2).val = (z 2).val) : headTile fi z = outSpec xh xt y := by
  have hz0 : (z 0).val < 64 := (z 0).isLt
  have e1 : y 1 = z 1 := Fin.ext h1
  unfold headTile outSpec
  have e2 : (y 2).val % 8 = (z 2).val % 8 := by omega
  rw [dif_pos (by omega), e1, e2]
  refine congrArg (fun u => u * mulOf (z 1) + bitOf (z 1) ((z 2).val % 8)) (hfi _ _ ?_ ?_ rfl ?_)
  · show (z 0).val / 8 < 2 ∨ _; omega
  · show (y 0).val / 8 = 8 * n + (z 0).val / 8; omega
  · show 16 * ((y 0).val % 8) + (y 2).val / 8 = 16 * ((z 0).val % 8) + (z 2).val / 8; omega

/-- The last eighteen output tiles are the output array's. -/
theorem last_spec {xh : S3906x4x128.Idx → BitVec 32} {xt : S32x4.Idx → BitVec 32} {fi : S8x4x128.Idx → BitVec 32}
    (hfi : ∀ (z : S8x4x128.Idx) (y : S3906x4x128.Idx), (z 0).val < 2 ∨ 488 < 488 → (y 0).val = 8 * 488 + (z 0).val → (y 1).val = (z 1).val → (y 2).val = (z 2).val → fi z = xh y)
    {z : S64x4x128.Idx} {y : S31250x4x128.Idx}
    (h0 : (y 0).val = 64 * 488 + (z 0).val) (h1 : (y 1).val = (z 1).val) (h2 : (y 2).val = (z 2).val) : lastTile fi xt z = outSpec xh xt y := by
  unfold lastTile
  split
  · exact head_spec hfi (.inr ⟨rfl, by assumption⟩) h0 h1 h2
  · have e1 : y 1 = z 1 := Fin.ext h1
    unfold restTile outSpec
    have e2 : (y 2).val % 8 = (z 2).val % 8 := by omega
    rw [dif_neg (by omega), e1, e2]
    refine congrArg (fun u => u * mulOf (z 1) + bitOf (z 1) ((z 2).val % 8)) (congrArg xt ?_)
    funext q
    match q with
    | ⟨0, _⟩ => exact Fin.ext (show (16 * ((z 0).val - 16) + (z 2).val / 8) % 32 = (16 * ((y 0).val - 31248) + (y 2).val / 8) % 32 by omega)
    | ⟨1, _⟩ => rfl

/-- A run of output tiles written with what the output array holds there: the worker is done with the chunk. -/
theorem Done.step {κ : Kind} {sp : Space} (v : View sig κ sp S31250x4x128 .i32) {w : ℕ} {xh : S3906x4x128.Idx → BitVec 32} {xt : S32x4.Idx → BitVec 32} {n n' T : ℕ}
    {g : v.ty.Contents (Elt F)} (h : Done w xh xt n (v.read (Elt F) g)) {off : Fin 3 → ℕ} {ho : ∀ a, off a + (⟨3, ![T, 4, 128]⟩ : Shape).size a ≤ S31250x4x128.size a} (hoff : off = ![64 * n', 0, 0])
    (hn : ∀ c, n ≤ c → c < n' → c % 32 ≠ w) (hT : T = 64 ∨ n' = 488 ∧ T = 18) {u : (⟨3, ![T, 4, 128]⟩ : Shape).Idx → BitVec 32}
    (hu : ∀ (z : (⟨3, ![T, 4, 128]⟩ : Shape).Idx) (y : S31250x4x128.Idx), (y 0).val = 64 * n' + (z 0).val → (y 1).val = (z 1).val → (y 2).val = (z 2).val → u z = outSpec xh xt y) :
    Done w xh xt (n' + 1) (v.read (Elt F) ((v.slice (Rect.unit (s := S31250x4x128) off (⟨3, ![T, 4, 128]⟩ : Shape).size ho)).write (Elt F) g u Finset.univ)) := by
  intro y hy hlt
  have h0 : (y 0).val < 31250 := (y 0).isLt
  by_cases hin : 64 * n' ≤ (y 0).val
  · have hz : (y 0).val - 64 * n' < T := by omega
    rw [slab_write_in (F := F) (N := 31250) (T := T) v hoff g u (z := ix3 ⟨(y 0).val - 64 * n', hz⟩ (y 1) (y 2)) (by show _ = 64 * n' + ((y 0).val - 64 * n'); omega) rfl rfl]
    exact hu _ _ (by show _ = 64 * n' + ((y 0).val - 64 * n'); omega) rfl rfl
  · rw [slab_write_out (F := F) (N := 31250) (T := T) v hoff g u (by omega)]
    refine h y hy ?_
    by_contra hc
    exact hn _ (by omega) (by omega) hy

end Cert.Proof.Vox

end
-- ==== Proof.Chunk.lean ====
/-
  One chunk: its input tiles copied in, its output tiles computed, the output tiles copied out.

  `Held` is what a worker holds between two chunks: its shares of the two input arrays and of the output array, done up to a chunk, and
  its three buffers. `chunk` takes it over one chunk of eight input tiles, `last` over the last two whole tiles and the last voxels,
  whatever program computes the output tiles in the buffer.
-/
module

public import proofs.«01_k».proof.Proof.Copy
public import proofs.«01_k».proof.Proof.Parts

@[expose] public section

noncomputable section

namespace Cert.Proof.Vox

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The whole input tiles, the last voxels and the output array, as locations of device `d`. -/
abbrev inLoc (d : Dev nD) : Loc nD τ sig := (SparseCore.T d).loc main_v2
@[inherit_doc inLoc] abbrev restLoc (d : Dev nD) : Loc nD τ sig := (SparseCore.T d).loc main_v3
@[inherit_doc inLoc] abbrev outLoc (d : Dev nD) : Loc nD τ sig := (SparseCore.T d).loc main_v4

section

variable [FloatOps F] (d : Dev nD) (a : Fin τ.nSC) (b : Fin τ.nSub)

local notation "inA" => (Memref.whole Cert.KernelIdeal.main_v2_scv : Memref Cert.KernelIdeal.sig Kind.scVector Space.hbm Cert.KernelIdeal.S3906x4x128 EltTy.i32)
local notation "restA" => (Memref.whole Cert.KernelIdeal.main_v3_scv : Memref Cert.KernelIdeal.sig Kind.scVector Space.hbm Cert.KernelIdeal.S32x4 EltTy.i32)
local notation "outA" => (Memref.whole Cert.KernelIdeal.main_v4_scv : Memref Cert.KernelIdeal.sig Kind.scVector Space.hbm Cert.KernelIdeal.S31250x4x128 EltTy.i32)
local notation "inW" => (Memref.whole Cert.KernelIdeal.cc0_scratch0 : Memref Cert.KernelIdeal.sig Kind.scVector Space.vmem Cert.KernelIdeal.S8x4x128 EltTy.i32)
local notation "restW" => (Memref.whole Cert.KernelIdeal.cc0_scratch1 : Memref Cert.KernelIdeal.sig Kind.scVector Space.vmem Cert.KernelIdeal.S32x4 EltTy.i32)
local notation "outW" => (Memref.whole Cert.KernelIdeal.cc0_scratch2 : Memref Cert.KernelIdeal.sig Kind.scVector Space.vmem Cert.KernelIdeal.S64x4x128 EltTy.i32)
local notation "thr" => ((d, Proc.scVector a b) : Thread nD τ)

/-- The three buffers of a tile, at some contents. -/
def Bufs : sProp 𝕄 :=
  iprop((∃ f, (inW).view.loc thr ↦{fullShare} f) ∗ (∃ f, (restW).view.loc thr ↦{fullShare} f) ∗ ∃ f, (outW).view.loc thr ↦{fullShare} f)

/-- Worker `w`'s shares of the three arrays: the inputs', at `xh` and `xt`, and the output's, done before chunk `n`. -/
def Shares (w : ℕ) (xh : S3906x4x128.Idx → BitVec 32) (xt : S32x4.Idx → BitVec 32) (n : ℕ) : sProp 𝕄 :=
  iprop((inLoc d ↦[inPart w]{fullShare} xh) ∗ (restLoc d ↦[restPart w]{fullShare} xt) ∗ ∃ g, ⌜Done w xh xt n g⌝ ∗ (outLoc d ↦[outPart w]{fullShare} g))

/-- What a worker holds between two chunks. -/
def Held (w : ℕ) (xh : S3906x4x128.Idx → BitVec 32) (xt : S32x4.Idx → BitVec 32) (n : ℕ) : sProp 𝕄 :=
  iprop(Shares (F := F) d w xh xt n ∗ Bufs (F := F) d a b)

/-- What a tile owes, its waits so far among those of `W` and waits of its own. -/
def Owes (O : CellTallies nD τ sig (HIx 1)) (W : Waits sig (HIx 1)) : sProp 𝕄 :=
  iprop(∃ W', ⌜∀ p ∈ W', p ∈ W ∨ p.2 = none⌝ ∗ owes thr O W')

theorem Owes.insert {W W' : Waits sig (HIx 1)} (h : ∀ p ∈ W', p ∈ W ∨ p.2 = none) (sm : SemLoc sig) : ∀ p ∈ Insert.insert (sm, none) W', p ∈ W ∨ p.2 = none := by
  intro p hp
  rcases Finset.mem_insert.mp hp with rfl | hp
  · exact .inr rfl
  · exact h p hp

/-- A run of a worker's chunk of input tiles is among its own. -/
theorem in_sub {w n T : ℕ} {off : Fin 3 → ℕ} {ho : ∀ a, off a + (⟨3, ![T, 4, 128]⟩ : Shape).size a ≤ S3906x4x128.size a} (hoff : off = ![8 * n, 0, 0]) (hT : T ≤ 8) (hn : n % 32 = w) :
    ((View.whole (main_v2_scv : Ref sig .scVector)).slice (Rect.unit (s := S3906x4x128) off (⟨3, ![T, 4, 128]⟩ : Shape).size ho)).set ⊆ inPart w := by
  intro y hy
  rw [View.set_slice_whole] at hy
  obtain ⟨h1, h2⟩ := slab_mem (N := 3906) (T := T) hoff hy
  refine Finset.mem_filter.mpr ⟨Finset.mem_univ _, ?_⟩
  unfold inKey; omega

/-- A run of a worker's chunk of output tiles is among its own. -/
theorem out_sub {w n T : ℕ} {off : Fin 3 → ℕ} {ho : ∀ a, off a + (⟨3, ![T, 4, 128]⟩ : Shape).size a ≤ S31250x4x128.size a} (hoff : off = ![64 * n, 0, 0]) (hT : T ≤ 64) (hn : n % 32 = w) :
    ((View.whole (main_v4_scv : Ref sig .scVector)).slice (Rect.unit (s := S31250x4x128) off (⟨3, ![T, 4, 128]⟩ : Shape).size ho)).set ⊆ outPart w := by
  intro y hy
  rw [View.set_slice_whole] at hy
  obtain ⟨h1, h2⟩ := slab_mem (N := 31250) (T := T) hoff hy
  refine Finset.mem_filter.mpr ⟨Finset.mem_univ _, ?_⟩
  unfold outKey; omega

/-- One chunk of eight input tiles, the output tiles computed by `prog`. -/
theorem chunk {w n₀ n : ℕ} {xh : S3906x4x128.Idx → BitVec 32} {xt : S32x4.Idx → BitVec 32} (hn : n < 488) (hw : n % 32 = w) (hskip : ∀ c, n₀ ≤ c → c < n → c % 32 ≠ w)
    {o₁ o₂ : Fin 3 → ℕ} {h₁ h₂} (ho₁ : o₁ = ![8 * n, 0, 0]) (ho₂ : o₂ = ![64 * n, 0, 0]) {s₁ s₂ : DmaSem sig}
    {sp₁ sp₂ : Space} {sh₁ sh₂ : Shape} {e₁ e₂ : EltTy} {w₁ : Memref sig Kind.scVector sp₁ sh₁ e₁} {w₂ : Memref sig Kind.scVector sp₂ sh₂ e₂} {x₁ x₂ x₃ x₄ x₅ y₁ y₂ y₃ y₄ y₅}
    {O : CellTallies nD τ sig (HIx 1)} {W : Waits sig (HIx 1)} (hO : ∀ g, O g none = 0)
    {α : Type} {Q : α → sProp 𝕄} {prog : Prog (TpuEff nD τ sig (Elt F) Λ₀ (Proc.scVector a b)) PUnit} {kk : PUnit → Prog (TpuEff nD τ sig (Elt F) Λ₀ (Proc.scVector a b)) α}
    (hprog : ∀ fi, Work (F := F) d a b fi (headTile fi) 0 0 ⊢ wp frame (wpE defs₀ 𝒱₀ thr none) Set.univ prog (fun _ => Work (F := F) d a b fi (headTile fi) 64 0)) :
    iprop(levAts (K (F := F)).L (K (F := F)).lev ∗ Held (F := F) d a b w xh xt n₀ ∗ semVal (thr, .dma s₁) 0 ∗ semVal (thr, .dma s₂) 0 ∗ Owes (F := F) d a b O W)
      ⊢ iprop((iprop(Held (F := F) d a b w xh xt (n + 1) ∗ semVal (thr, .dma s₁) 0 ∗ semVal (thr, .dma s₂) 0 ∗ Owes (F := F) d a b O W)
            -∗ wp frame (wpE defs₀ 𝒱₀ thr none) Set.univ (kk ⟨⟩) Q)
          -∗ wp frame (wpE defs₀ 𝒱₀ thr none) Set.univ
            (.op (.enqueueDma ((inA).slice (Rect.unit (s := S3906x4x128) o₁ S8x4x128.size h₁) (fun _ => rfl)) (.here inW) (.dma s₁) x₁ x₂ x₃) fun _ =>
              .op (.waitDma2 s₁ w₁ inW x₄ x₅) fun _ => prog >>= fun _ =>
              .op (.enqueueDma outW (.here ((outA).slice (Rect.unit (s := S31250x4x128) o₂ S64x4x128.size h₂) (fun _ => rfl))) (.dma s₂) y₁ y₂ y₃) fun _ =>
              .op (.waitDma2 s₂ w₂ ((outA).slice (Rect.unit (s := S31250x4x128) o₂ S64x4x128.size h₂) (fun _ => rfl)) y₄ y₅) kk) Q) := by
  unfold Held Shares Bufs Owes
  iintro ⟨#Hlv, ⟨⟨Hin, Hr, %g, %hg, Hout⟩, ⟨%fi, Hi⟩, Hrb, ⟨%fo, Ho⟩⟩, Hs1, Hs2, %W', %hW', HO⟩ Hk
  iapply (copy (F := F) d a b (src := (inA).slice (Rect.unit (s := S3906x4x128) o₁ S8x4x128.size h₁) (fun _ => rfl)) (dst := inW) (W := W') hO (R := inPart w) (R' := Finset.univ) (fs := xh) (fd := fi) rfl (show 0 < S8x4x128.numel by decide) (in_sub (T := 8) ho₁ le_rfl hw) (Finset.subset_univ _)) $$ [Hin Hi Hs1 HO]
  · isplitr; · iexact Hlv
    isplitl [Hin]; · iexact Hin
    isplitl [Hi]; · iexact Hi
    isplitl [Hs1]; · iexact Hs1
    iexact HO
  iintro ⟨Hin, Hi, Hs1, HO⟩
  rw [wp_bind]
  ihave Hp := (hprog _) $$ [Hi Ho]
  · unfold Work
    isplitl [Hi]; · iexact Hi
    iexists fo
    isplitr
    · ipureintro; exact Filled.zero _ _
    iexact Ho
  iapply (wp_wand frame _ _) $$ Hp
  iintro %u HW
  unfold Work
  icases HW with ⟨Hi, %f, %hf, Ho⟩
  iapply (copy (F := F) d a b (src := outW) (dst := (outA).slice (Rect.unit (s := S31250x4x128) o₂ S64x4x128.size h₂) (fun _ => rfl)) (W := Insert.insert (SemLoc.dma s₁, none) W') hO (R := Finset.univ) (R' := outPart w) (fs := f) (fd := g) rfl (show 0 < S64x4x128.numel by decide) (Finset.subset_univ _) (out_sub (T := 64) ho₂ le_rfl hw)) $$ [Hout Ho Hs2 HO]
  · isplitr; · iexact Hlv
    isplitl [Ho]; · iexact Ho
    isplitl [Hout]; · iexact Hout
    isplitl [Hs2]; · iexact Hs2
    iexact HO
  iintro ⟨Ho, Hout, Hs2, HO⟩
  iapply Hk
  isplitr [Hs1 Hs2 HO]
  · isplitr [Hi Hrb Ho]
    · isplitl [Hin]; · iexact Hin
      isplitl [Hr]; · iexact Hr
      iexists _
      isplitr
      rotate_left
      · iexact Hout
      · ipureintro
        refine Done.step (F := F) (T := 64) (View.whole (main_v4_scv : Ref sig .scVector)) hg ho₂ hskip (.inl rfl) fun z y h0 h1 h2 => ?_
        refine (hf z (.inl (z 0).isLt)).trans (head_spec (fun z y _ h0 h1 h2 => ?_) (.inl hn) h0 h1 h2)
        exact (congrFun (View.write_whole_univ _ _ _) z).trans (slab_read (F := F) (N := 3906) (T := 8) (View.whole (main_v2_scv : Ref sig .scVector)) ho₁ xh h0 h1 h2)
    isplitl [Hi]; · iexists _; iexact Hi
    isplitl [Hrb]; · iexact Hrb
    iexists _; iexact Ho
  isplitl [Hs1]; · iexact Hs1
  isplitl [Hs2]; · iexact Hs2
  iexists _
  isplitr
  rotate_left
  · iexact HO
  · ipureintro; exact Owes.insert (Owes.insert hW' _) _

/-- The buffer of input tiles holds the last two whole tiles in its first two places. -/
def TailIn (xh : S3906x4x128.Idx → BitVec 32) (fi : S8x4x128.Idx → BitVec 32) : Prop :=
  ∀ (z : S8x4x128.Idx) (y : S3906x4x128.Idx), (z 0).val < 2 ∨ 488 < 488 → (y 0).val = 8 * 488 + (z 0).val → (y 1).val = (z 1).val → (y 2).val = (z 2).val → fi z = xh y

/-- Copying the last two whole input tiles to the buffer's first two places. -/
theorem last_read {o₁ o₂ : Fin 3 → ℕ} {h₁ h₂} (ho₁ : o₁ = ![3904, 0, 0]) (ho₂ : o₂ = ![0, 0, 0]) (xh : S3906x4x128.Idx → BitVec 32) (fi : S8x4x128.Idx → BitVec 32) :
    TailIn xh (((inW).slice (Rect.unit (s := S8x4x128) o₂ S2x4x128.size h₂) (fun _ => rfl)).view.write (Elt F) fi
      (((inA).slice (Rect.unit (s := S3906x4x128) o₁ S2x4x128.size h₁) (fun _ => rfl)).view.read (Elt F) xh) Finset.univ) := by
  intro z y h h0 h1 h2
  have hz : (z 0).val < 2 := by omega
  have h0' : (y 0).val = 3904 + (z 0).val := by omega
  have e1 := slab_read (F := F) (N := 3906) (T := 2) (o := 3904) (ho := h₁) (View.whole (main_v2_scv : Ref sig .scVector)) ho₁ xh (z := ix3 ⟨(z 0).val, hz⟩ (z 1) (z 2)) (y := y) h0' h1 h2
  have e2 := slab_write_in (F := F) (N := 8) (T := 2) (o := 0) (ho := h₂) (View.whole (cc0_scratch0 : Ref sig .scVector)) ho₂ fi
    (((inA).slice (Rect.unit (s := S3906x4x128) o₁ S2x4x128.size h₁) (fun _ => rfl)).view.read (Elt F) xh) (z := ix3 ⟨(z 0).val, hz⟩ (z 1) (z 2)) (y := z) (Nat.zero_add _).symm rfl rfl
  refine Eq.trans ?_ e1
  clear e1
  exact e2

/-- What the worker of the last tiles holds, beside the buffers of the last voxels and of the output tiles, while it computes the last two output tiles. -/
def Mid (xh : S3906x4x128.Idx → BitVec 32) (xt : S32x4.Idx → BitVec 32) (n₀ : ℕ) (s₁ s₂ s₃ : DmaSem sig) (O : CellTallies nD τ sig (HIx 1)) (W : Waits sig (HIx 1))
    (fi : S8x4x128.Idx → BitVec 32) : sProp 𝕄 :=
  iprop(Shares (F := F) d 8 xh xt n₀ ∗ ((inW).view.loc thr ↦{fullShare} fi) ∗ semVal (thr, .dma s₁) 0 ∗ semVal (thr, .dma s₂) 0 ∗ semVal (thr, .dma s₃) 0 ∗ Owes (F := F) d a b O W)

/-- The last two whole input tiles, their output tiles computed by `prog`, and the last voxels copied in. -/
theorem last_in {n₀ : ℕ} {xh : S3906x4x128.Idx → BitVec 32} {xt : S32x4.Idx → BitVec 32} {o₁ o₂ : Fin 3 → ℕ} {h₁ h₂} (ho₁ : o₁ = ![3904, 0, 0]) (ho₂ : o₂ = ![0, 0, 0]) {s₁ s₂ s₃ : DmaSem sig}
    {sp₁ sp₂ : Space} {sh₁ sh₂ : Shape} {e₁ e₂ : EltTy} {w₁ : Memref sig Kind.scVector sp₁ sh₁ e₁} {w₂ : Memref sig Kind.scVector sp₂ sh₂ e₂} {x₁ x₂ x₃ x₄ x₅ y₁ y₂ y₃ y₄ y₅}
    {O : CellTallies nD τ sig (HIx 1)} {W : Waits sig (HIx 1)} (hO : ∀ g, O g none = 0)
    {α : Type} {Q : α → sProp 𝕄} {prog : Prog (TpuEff nD τ sig (Elt F) Λ₀ (Proc.scVector a b)) PUnit} {kk : PUnit → Prog (TpuEff nD τ sig (Elt F) Λ₀ (Proc.scVector a b)) α}
    (hprog : ∀ fi, Work (F := F) d a b fi (headTile fi) 0 0 ⊢ wp frame (wpE defs₀ 𝒱₀ thr none) Set.univ prog (fun _ => Work (F := F) d a b fi (headTile fi) 16 0))
    {X : sProp 𝕄}
    (hK : ∀ fi, TailIn xh fi → iprop((X ∗ Mid (F := F) d a b xh xt n₀ s₁ s₂ s₃ O W fi) ∗ WorkR (F := F) d a b xt (lastTile fi xt) 16 0) ⊢ wp frame (wpE defs₀ 𝒱₀ thr none) Set.univ (kk ⟨⟩) Q) :
    iprop(levAts (K (F := F)).L (K (F := F)).lev ∗ X ∗ Held (F := F) d a b 8 xh xt n₀ ∗ semVal (thr, .dma s₁) 0 ∗ semVal (thr, .dma s₂) 0 ∗ semVal (thr, .dma s₃) 0 ∗ Owes (F := F) d a b O W)
      ⊢ wp frame (wpE defs₀ 𝒱₀ thr none) Set.univ
            (.op (.enqueueDma ((inA).slice (Rect.unit (s := S3906x4x128) o₁ S2x4x128.size h₁) (fun _ => rfl)) (.here ((inW).slice (Rect.unit (s := S8x4x128) o₂ S2x4x128.size h₂) (fun _ => rfl))) (.dma s₁) x₁ x₂ x₃) fun _ =>
              .op (.waitDma2 s₁ w₁ ((inW).slice (Rect.unit (s := S8x4x128) o₂ S2x4x128.size h₂) (fun _ => rfl)) x₄ x₅) fun _ => prog >>= fun _ =>
              .op (.enqueueDma restA (.here restW) (.dma s₂) y₁ y₂ y₃) fun _ => .op (.waitDma2 s₂ w₂ restW y₄ y₅) kk) Q := by
  unfold Held Bufs Owes
  iintro ⟨#Hlv, HX, ⟨HS, ⟨%fi, Hi⟩, ⟨%fr, Hrb⟩, ⟨%fo, Ho⟩⟩, Hs1, Hs2, Hs3, %W', %hW', HO⟩
  unfold Shares
  icases HS with ⟨Hin, Hr, Hout⟩
  iapply (copy (F := F) d a b (src := (inA).slice (Rect.unit (s := S3906x4x128) o₁ S2x4x128.size h₁) (fun _ => rfl)) (dst := (inW).slice (Rect.unit (s := S8x4x128) o₂ S2x4x128.size h₂) (fun _ => rfl)) (W := W') hO (R := inPart 8) (R' := Finset.univ) (fs := xh) (fd := fi) rfl (show 0 < S2x4x128.numel by decide) (in_sub (n := 488) (T := 2) ho₁ (by decide) rfl) (Finset.subset_univ _)) $$ [Hin Hi Hs1 HO]
  · isplitr; · iexact Hlv
    isplitl [Hin]; · iexact Hin
    isplitl [Hi]; · iexact Hi
    isplitl [Hs1]; · iexact Hs1
    iexact HO
  iintro ⟨Hin, Hi, Hs1, HO⟩
  rw [wp_bind]
  ihave Hp := (hprog _) $$ [Hi Ho]
  · unfold Work
    isplitl [Hi]; · iexact Hi
    iexists fo
    isplitr
    · ipureintro; exact Filled.zero _ _
    iexact Ho
  iapply (wp_wand frame _ _) $$ Hp
  iintro %u HW
  unfold Work
  icases HW with ⟨Hi, %f, %hf, Ho⟩
  iapply (copy (F := F) d a b (src := restA) (dst := restW) (W := Insert.insert (SemLoc.dma s₁, none) W') hO (R := restPart 8) (R' := Finset.univ) (fs := xt) (fd := fr) rfl (show 0 < S32x4.numel by decide) (fun y _ => Finset.mem_filter.mpr ⟨Finset.mem_univ _, rfl⟩) (Finset.subset_univ _)) $$ [Hr Hrb Hs2 HO]
  · isplitr; · iexact Hlv
    isplitl [Hr]; · iexact Hr
    isplitl [Hrb]; · iexact Hrb
    isplitl [Hs2]; · iexact Hs2
    iexact HO
  iintro ⟨Hr, Hrb, Hs2, HO⟩
  iapply (hK _ (last_read (F := F) (h₁ := h₁) (h₂ := h₂) ho₁ ho₂ xh fi))
  unfold Mid WorkR Shares Owes
  isplitr [Hrb Ho]
  · isplitl [HX]; · iexact HX
    isplitl [Hin Hr Hout]
    · isplitl [Hin]; · iexact Hin
      isplitl [Hr]; · iexact Hr
      iexact Hout
    isplitl [Hi]; · iexact Hi
    isplitl [Hs1]; · iexact Hs1
    isplitl [Hs2]; · iexact Hs2
    isplitl [Hs3]; · iexact Hs3
    iexists _
    isplitr
    rotate_left
    · iexact HO
    · ipureintro; exact Owes.insert (Owes.insert hW' _) _
  isplitl [Hrb]
  · have e : (restW).view.write (Elt F) fr ((restA).view.read (Elt F) xt) Finset.univ = xt := View.write_whole_univ _ _ _
    rw [e]
    iexact Hrb
  iexists f
  isplitr
  · ipureintro
    refine hf.congr fun y hy => ?_
    unfold lastTile
    rw [if_pos hy]
  iexact Ho

/-- Writing the last eighteen output tiles from the buffer's first eighteen finishes the worker's share. -/
theorem last_done {n₀ : ℕ} {xh : S3906x4x128.Idx → BitVec 32} {xt : S32x4.Idx → BitVec 32} {fi : S8x4x128.Idx → BitVec 32} (hfi : TailIn xh fi) (hskip : ∀ c, n₀ ≤ c → c < 488 → c % 32 ≠ 8)
    {o₁ o₂ : Fin 3 → ℕ} {h₁ h₂} (ho₁ : o₁ = ![0, 0, 0]) (ho₂ : o₂ = ![64 * 488, 0, 0]) {f : S64x4x128.Idx → BitVec 32} (hf : Filled (lastTile fi xt) 18 0 f)
    {g : S31250x4x128.Idx → BitVec 32} (hg : Done 8 xh xt n₀ g) :
    Done 8 xh xt 489 (((outA).slice (Rect.unit (s := S31250x4x128) o₂ S18x4x128.size h₂) (fun _ => rfl)).view.write (Elt F) g
      (((outW).slice (Rect.unit (s := S64x4x128) o₁ S18x4x128.size h₁) (fun _ => rfl)).view.read (Elt F) f) Finset.univ) := by
  refine Done.step (F := F) (T := 18) (n' := 488) (View.whole (main_v4_scv : Ref sig .scVector)) hg ho₂ hskip (.inr ⟨rfl, rfl⟩) ?_
  intro z y h0 h1 h2
  have hz : (z 0).val < 18 := (z 0).isLt
  have e := slab_read (F := F) (N := 64) (T := 18) (o := 0) (ho := h₁) (View.whole (cc0_scratch2 : Ref sig .scVector)) ho₁ f (z := z) (y := ix3 ⟨(z 0).val, by omega⟩ (z 1) (z 2)) (Nat.zero_add _).symm rfl rfl
  exact e.trans ((hf _ (.inl hz)).trans (last_spec hfi h0 h1 h2))

/-- The last eighteen output tiles copied out. -/
theorem last_out {n₀ : ℕ} {xh : S3906x4x128.Idx → BitVec 32} {xt : S32x4.Idx → BitVec 32} {fi : S8x4x128.Idx → BitVec 32} (hfi : TailIn xh fi) (hskip : ∀ c, n₀ ≤ c → c < 488 → c % 32 ≠ 8)
    {o₁ o₂ : Fin 3 → ℕ} {h₁ h₂} (ho₁ : o₁ = ![0, 0, 0]) (ho₂ : o₂ = ![64 * 488, 0, 0]) {s₁ s₂ s₃ : DmaSem sig}
    {sp₁ : Space} {sh₁ : Shape} {e₁ : EltTy} {w₁ : Memref sig Kind.scVector sp₁ sh₁ e₁} {x₁ x₂ x₃ x₄ x₅}
    {O : CellTallies nD τ sig (HIx 1)} {W : Waits sig (HIx 1)} (hO : ∀ g, O g none = 0)
    {α : Type} {Q : α → sProp 𝕄} {kk : PUnit → Prog (TpuEff nD τ sig (Elt F) Λ₀ (Proc.scVector a b)) α} {X : sProp 𝕄}
    (hK : iprop(X ∗ Held (F := F) d a b 8 xh xt 489 ∗ semVal (thr, .dma s₁) 0 ∗ semVal (thr, .dma s₂) 0 ∗ semVal (thr, .dma s₃) 0 ∗ Owes (F := F) d a b O W) ⊢ wp frame (wpE defs₀ 𝒱₀ thr none) Set.univ (kk ⟨⟩) Q) :
    iprop(((levAts (K (F := F)).L (K (F := F)).lev ∗ X) ∗ Mid (F := F) d a b xh xt n₀ s₁ s₂ s₃ O W fi) ∗ WorkR (F := F) d a b xt (lastTile fi xt) 18 0)
      ⊢ wp frame (wpE defs₀ 𝒱₀ thr none) Set.univ
            (.op (.enqueueDma ((outW).slice (Rect.unit (s := S64x4x128) o₁ S18x4x128.size h₁) (fun _ => rfl)) (.here ((outA).slice (Rect.unit (s := S31250x4x128) o₂ S18x4x128.size h₂) (fun _ => rfl))) (.dma s₃) x₁ x₂ x₃) fun _ =>
              .op (.waitDma2 s₃ w₁ ((outA).slice (Rect.unit (s := S31250x4x128) o₂ S18x4x128.size h₂) (fun _ => rfl)) x₄ x₅) kk) Q := by
  unfold Mid WorkR Shares Owes
  iintro ⟨⟨⟨#Hlv, HX⟩, ⟨Hin, Hr, %g, %hg, Hout⟩, Hi, Hs1, Hs2, Hs3, %W', %hW', HO⟩, Hrb, %f, %hf, Ho⟩
  iapply (copy (F := F) d a b (src := (outW).slice (Rect.unit (s := S64x4x128) o₁ S18x4x128.size h₁) (fun _ => rfl)) (dst := (outA).slice (Rect.unit (s := S31250x4x128) o₂ S18x4x128.size h₂) (fun _ => rfl)) (W := W') hO (R := Finset.univ) (R' := outPart 8) (fs := f) (fd := g) rfl (show 0 < S18x4x128.numel by decide) (Finset.subset_univ _) (out_sub (n := 488) (T := 18) ho₂ (by decide) rfl)) $$ [Hout Ho Hs3 HO]
  · isplitr; · iexact Hlv
    isplitl [Ho]; · iexact Ho
    isplitl [Hout]; · iexact Hout
    isplitl [Hs3]; · iexact Hs3
    iexact HO
  iintro ⟨Ho, Hout, Hs3, HO⟩
  iapply hK
  unfold Held Shares Bufs Owes
  isplitl [HX]; · iexact HX
  isplitr [Hs1 Hs2 Hs3 HO]
  · isplitr [Hi Hrb Ho]
    · isplitl [Hin]; · iexact Hin
      isplitl [Hr]; · iexact Hr
      iexists _
      isplitr
      rotate_left
      · iexact Hout
      · ipureintro
        exact last_done (F := F) hfi hskip ho₁ ho₂ hf hg
    isplitl [Hi]; · iexists _; iexact Hi
    isplitl [Hrb]; · iexists _; iexact Hrb
    iexists _; iexact Ho
  isplitl [Hs1]; · iexact Hs1
  isplitl [Hs2]; · iexact Hs2
  isplitl [Hs3]; · iexact Hs3
  iexists _
  isplitr
  rotate_left
  · iexact HO
  · ipureintro; exact Owes.insert hW' _

end

end Cert.Proof.Vox

end
-- ==== Proof.Tail.lean ====
/-
  What the worker of the last tiles does at the end: the last two whole input tiles and the last voxels.
-/
module

public import proofs.«01_k».proof.Proof.Turn
public import proofs.«01_k».proof.Proof.Chunk

@[expose] public section

noncomputable section

namespace Cert.Proof.Vox

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable [FloatOps F] (d : Dev nD)

local notation "inA" => (Memref.whole Cert.KernelIdeal.main_v2_scv : Memref Cert.KernelIdeal.sig Kind.scVector Space.hbm Cert.KernelIdeal.S3906x4x128 EltTy.i32)
local notation "restA" => (Memref.whole Cert.KernelIdeal.main_v3_scv : Memref Cert.KernelIdeal.sig Kind.scVector Space.hbm Cert.KernelIdeal.S32x4 EltTy.i32)
local notation "outA" => (Memref.whole Cert.KernelIdeal.main_v4_scv : Memref Cert.KernelIdeal.sig Kind.scVector Space.hbm Cert.KernelIdeal.S31250x4x128 EltTy.i32)
local notation "inW" => (Memref.whole Cert.KernelIdeal.cc0_scratch0 : Memref Cert.KernelIdeal.sig Kind.scVector Space.vmem Cert.KernelIdeal.S8x4x128 EltTy.i32)
local notation "restW" => (Memref.whole Cert.KernelIdeal.cc0_scratch1 : Memref Cert.KernelIdeal.sig Kind.scVector Space.vmem Cert.KernelIdeal.S32x4 EltTy.i32)
local notation "outW" => (Memref.whole Cert.KernelIdeal.cc0_scratch2 : Memref Cert.KernelIdeal.sig Kind.scVector Space.vmem Cert.KernelIdeal.S64x4x128 EltTy.i32)

/-- A tile whose thirty-two rows are all computed is done. -/
theorem tile_step {a : Fin τ.nSC} {b : Fin τ.nSub} {X G : sProp 𝕄} {ft : S32x4.Idx → BitVec 32} {H : S64x4x128.Idx → BitVec 32} {g : ℕ}
    (h : iprop(X ∗ WorkR (F := F) d a b ft H (g + 1) 0) ⊢ G) : iprop(X ∗ WorkR (F := F) d a b ft H g 32) ⊢ G := by
  refine BIBase.Entails.trans ?_ h
  unfold WorkR
  iintro ⟨HX, Hi, %f, %hf, Ho⟩
  isplitl [HX]; · iexact HX
  isplitl [Hi]; · iexact Hi
  iexists f
  isplitr
  · ipureintro; exact hf.tile
  iexact Ho

seal wp in
set_option maxHeartbeats 4000000 in
/-- The worker of the last tiles finishes its share. -/
theorem tail (i : grid0.Coords) (harg2 : (inA).IsWhole) (harg3 : (restA).IsWhole) (harg4 : (outA).IsWhole) (harg5 : (inW).IsWhole) (harg6 : (restW).IsWhole) (harg7 : (outW).IsWhole) (v75_r0 v75_r1 v74_r2 v74_r3 v551_r4 v551_r5 v551_r6 : DmaSems sig S_)
    {v26 v46 v50 v54 v58 v59 v60 v61 v62 : IVec S16 32} (hv : Vecs v26 v46 v50 v54 v58 v59 v60 v61 v62) (k0_h2 : k0_cond2 i = 1#1)
    {n₀ : ℕ} (hskip : ∀ c, n₀ ≤ c → c < 488 → c % 32 ≠ 8) (xh : S3906x4x128.Idx → BitVec 32) (xt : S32x4.Idx → BitVec 32)
    {O : CellTallies nD τ sig (HIx 1)} {W : Waits sig (HIx 1)} (hO : ∀ g, O g none = 0) (X : sProp 𝕄) :
    iprop(levAts (K (F := F)).L (K (F := F)).lev ∗ X ∗ Held (F := F) d (cOf i) (jOf i) 8 xh xt n₀ ∗ semVal ((d, Proc.scVector (cOf i) (jOf i)), .dma v551_r4.sem) 0
        ∗ semVal ((d, Proc.scVector (cOf i) (jOf i)), .dma v551_r5.sem) 0 ∗ semVal ((d, Proc.scVector (cOf i) (jOf i)), .dma v551_r6.sem) 0 ∗ Owes (F := F) d (cOf i) (jOf i) O W)
      ⊢ wp frame (wpE defs₀ 𝒱₀ (d, Proc.scVector (cOf i) (jOf i)) none) Set.univ
      (do
    let ⟨v72, k0_hw25⟩ : Σ' (v72 : IVec S16 32), k0_chk25 i v59 v60 v61 v62 v72 ← k0_part25 i inA harg2 restA harg3 outA harg4 inW harg5 restW harg6 outW harg7 v75_r0 v75_r1 v74_r2 v74_r3 v551_r4 v551_r5 v551_r6 v26 v46 v50 v54 v58 v59 v60 v61 v62 k0_h2
    let ⟨v102, k0_hw26, v112⟩ : Σ' (v102 : IVec S16 32) (k0_hw26 : k0_chk26 i v59 v60 v61 v62 v102), IVec S16 32 ← k0_part26 i inA harg2 restA harg3 outA harg4 inW harg5 restW harg6 outW harg7 v75_r0 v75_r1 v74_r2 v74_r3 v551_r4 v551_r5 v551_r6 v26 v46 v50 v54 v58 v59 v60 v61 v62 k0_h2 v72 k0_hw25
    let ⟨v132, k0_hw27, v143, c1_i32_67⟩ : Σ' (v132 : IVec S16 32) (k0_hw27 : k0_chk27 i v59 v60 v61 v62 v132) (v143 : IVec S16 32), BitVec 32 ← k0_part27 i inA harg2 restA harg3 outA harg4 inW harg5 restW harg6 outW harg7 v75_r0 v75_r1 v74_r2 v74_r3 v551_r4 v551_r5 v551_r6 v26 v46 v50 v54 v58 v59 v60 v61 v62 k0_h2 v102 k0_hw26 v112
    let ⟨v162, k0_hw28, v173⟩ : Σ' (v162 : IVec S16 32) (k0_hw28 : k0_chk28 i v59 v60 v61 v62 v162), IVec S16 32 ← k0_part28 i inA harg2 restA harg3 outA harg4 inW harg5 restW harg6 outW harg7 v75_r0 v75_r1 v74_r2 v74_r3 v551_r4 v551_r5 v551_r6 v26 v46 v50 v54 v58 v59 v60 v61 v62 k0_h2 v132 k0_hw27 v143 c1_i32_67
    let ⟨v192, k0_hw29, v207, v208⟩ : Σ' (v192 : IVec S16 32) (k0_hw29 : k0_chk29 i v59 v60 v61 v62 v192) (v207 : Vec F S16 .i32), IVec S16 32 ← k0_part29 i inA harg2 restA harg3 outA harg4 inW harg5 restW harg6 outW harg7 v75_r0 v75_r1 v74_r2 v74_r3 v551_r4 v551_r5 v551_r6 v26 v46 v50 v54 v58 v59 v60 v61 v62 k0_h2 v162 k0_hw28 v173
    let ⟨v222, k0_hw30, v240, c16_i32_116, c2_i32_117⟩ : Σ' (v222 : IVec S16 32) (k0_hw30 : k0_chk30 i v59 v60 v61 v62 v222) (v240 : IVec S16 32) (c16_i32_116 : BitVec 32), BitVec 32 ← k0_part30 i inA harg2 restA harg3 outA harg4 inW harg5 restW harg6 outW harg7 v75_r0 v75_r1 v74_r2 v74_r3 v551_r4 v551_r5 v551_r6 v26 v46 v50 v54 v58 v59 v60 v61 v62 k0_h2 v192 k0_hw29 v207 v208
    let ⟨v252, k0_hw31, v270, v273_ld⟩ : Σ' (v252 : IVec S16 32) (k0_hw31 : k0_chk31 i v59 v60 v61 v62 v252) (v270 : IVec S16 32), Vec F S1x1x16 .i32 ← k0_part31 i inA harg2 restA harg3 outA harg4 inW harg5 restW harg6 outW harg7 v75_r0 v75_r1 v74_r2 v74_r3 v551_r4 v551_r5 v551_r6 v26 v46 v50 v54 v58 v59 v60 v61 v62 k0_h2 v222 k0_hw30 v240 c16_i32_116 c2_i32_117
    let ⟨v304, c1_i32_149⟩ : Σ' (v304 : Vec F S16 .i32), BitVec 32 ← k0_part32 i inA harg2 restA harg3 outA harg4 inW harg5 restW harg6 outW harg7 v75_r0 v75_r1 v74_r2 v74_r3 v551_r4 v551_r5 v551_r6 v26 v46 v50 v54 v58 v59 v60 v61 v62 k0_h2 v252 k0_hw31 v270 v273_ld
    let ⟨v337, c17_i32_166⟩ : Σ' (v337 : IVec S16 32), BitVec 32 ← k0_part33 i inA harg2 restA harg3 outA harg4 inW harg5 restW harg6 outW harg7 v75_r0 v75_r1 v74_r2 v74_r3 v551_r4 v551_r5 v551_r6 v26 v46 v50 v54 v58 v59 v60 v61 v62 k0_h2 v304 c1_i32_149
    let v367 : IVec S16 32 ← k0_part34 i inA harg2 restA harg3 outA harg4 inW harg5 restW harg6 outW harg7 v75_r0 v75_r1 v74_r2 v74_r3 v551_r4 v551_r5 v551_r6 v26 v46 v50 v54 v58 v59 v60 v61 v62 k0_h2 v337 c17_i32_166
    let c22_i32 : BitVec 32 ← k0_part35 i inA harg2 restA harg3 outA harg4 inW harg5 restW harg6 outW harg7 v75_r0 v75_r1 v74_r2 v74_r3 v551_r4 v551_r5 v551_r6 v26 v46 v50 v54 v58 v59 v60 v61 v62 k0_h2 v367
    let ⟨v432, k0_hw37, v433⟩ : Σ' (v432 : IVec S16 32) (k0_hw37 : k0_chk37 i v59 v60 v61 v62 v432), Vec F S16 .i32 ← k0_part36 i inA harg2 restA harg3 outA harg4 inW harg5 restW harg6 outW harg7 v75_r0 v75_r1 v74_r2 v74_r3 v551_r4 v551_r5 v551_r6 v26 v46 v50 v54 v58 v59 v60 v61 v62 k0_h2 c22_i32
    let ⟨v462, k0_hw38, v466⟩ : Σ' (v462 : IVec S16 32) (k0_hw38 : k0_chk38 i v59 v60 v61 v62 v462), IVec S16 32 ← k0_part37 i inA harg2 restA harg3 outA harg4 inW harg5 restW harg6 outW harg7 v75_r0 v75_r1 v74_r2 v74_r3 v551_r4 v551_r5 v551_r6 v26 v46 v50 v54 v58 v59 v60 v61 v62 k0_h2 v432 k0_hw37 v433
    let ⟨v492, k0_hw39, v496⟩ : Σ' (v492 : IVec S16 32) (k0_hw39 : k0_chk39 i v59 v60 v61 v62 v492), IVec S16 32 ← k0_part38 i inA harg2 restA harg3 outA harg4 inW harg5 restW harg6 outW harg7 v75_r0 v75_r1 v74_r2 v74_r3 v551_r4 v551_r5 v551_r6 v26 v46 v50 v54 v58 v59 v60 v61 v62 k0_h2 v462 k0_hw38 v466
    let ⟨v522, k0_hw40⟩ : Σ' (v522 : IVec S16 32), k0_chk40 i v59 v60 v61 v62 v522 ← k0_part39 i inA harg2 restA harg3 outA harg4 inW harg5 restW harg6 outW harg7 v75_r0 v75_r1 v74_r2 v74_r3 v551_r4 v551_r5 v551_r6 v26 v46 v50 v54 v58 v59 v60 v61 v62 k0_h2 v492 k0_hw39 v496
    k0_part40 i inA harg2 restA harg3 outA harg4 inW harg5 restW harg6 outW harg7 v75_r0 v75_r1 v74_r2 v74_r3 v551_r4 v551_r5 v551_r6 v50 v54 v58 v59 v60 v61 v62 k0_h2 v522 k0_hw40
    let c31232_i32_295_r6 : BitVec 32 := 31232#32
    let c0_i32_296_r6 : BitVec 32 := 0#32
    let c0_i32_297_r6 : BitVec 32 := 0#32
    let v557_r6 : Memref sig .scVector .hbm S18x4x128 .i32 := (outA).slice (Rect.unit (s := S31250x4x128) ![31232, 0, 0] S18x4x128.size inb_S31250x4x128_S18x4x128_31232_0_0) (fun _ => rfl)
    let c31232_i32_298_r6 : BitVec 32 := 31232#32
    let c0_i32_299_r6 : BitVec 32 := 0#32
    let c0_i32_300_r6 : BitVec 32 := 0#32
    let v558_r6 : Memref sig .scVector .hbm S18x4x128 .i32 := (outA).slice (Rect.unit (s := S31250x4x128) ![31232, 0, 0] S18x4x128.size inb_S31250x4x128_S18x4x128_31232_0_0) (fun _ => rfl)
    let c0_i32_301_r6 : BitVec 32 := 0#32
    let c0_i32_302_r6 : BitVec 32 := 0#32
    let c0_i32_303_r6 : BitVec 32 := 0#32
    let v559_r6 : Memref sig .scVector .vmem S18x4x128 .i32 := (outW).slice (Rect.unit (s := S64x4x128) ![0, 0, 0] S18x4x128.size inb_S64x4x128_S18x4x128_0_0_0) (fun _ => rfl)
    Prog.lift (.waitDma2 v551_r6.sem v559_r6 v558_r6 (View.wordExact_bits rfl) (View.wordExact_bits rfl))
    pure ⟨⟩)
      (fun (_ : PUnit) => iprop(X ∗ Held (F := F) d (cOf i) (jOf i) 8 xh xt 489 ∗ semVal ((d, Proc.scVector (cOf i) (jOf i)), .dma v551_r4.sem) 0
        ∗ semVal ((d, Proc.scVector (cOf i) (jOf i)), .dma v551_r5.sem) 0 ∗ semVal ((d, Proc.scVector (cOf i) (jOf i)), .dma v551_r6.sem) 0 ∗ Owes (F := F) d (cOf i) (jOf i) O W)) := by
  simp only [k0_part40, k0_part39, k0_part38, k0_part37, k0_part36, k0_part35, k0_part34, k0_part33, k0_part32, k0_part31, k0_part30, k0_part29, k0_part28, k0_part27, k0_part26, k0_part25, Prog.bind_assoc, Prog.bind_lift, Prog.bind_op, Prog.bind_ret, Prog.pure_eq_ret]
  refine BIBase.Entails.trans (Q := iprop(levAts (K (F := F)).L (K (F := F)).lev ∗ (levAts (K (F := F)).L (K (F := F)).lev ∗ X) ∗ Held (F := F) d (cOf i) (jOf i) 8 xh xt n₀ ∗ semVal ((d, Proc.scVector (cOf i) (jOf i)), .dma v551_r4.sem) 0
        ∗ semVal ((d, Proc.scVector (cOf i) (jOf i)), .dma v551_r5.sem) 0 ∗ semVal ((d, Proc.scVector (cOf i) (jOf i)), .dma v551_r6.sem) 0 ∗ Owes (F := F) d (cOf i) (jOf i) O W)) ?_ ?_
  · iintro ⟨#Hlv, HX, HR⟩
    isplitr; · iexact Hlv
    isplitl [HX]
    · isplitr; · iexact Hlv
      iexact HX
    iexact HR
  refine last_in (F := F) d (cOf i) (jOf i) (s₃ := v551_r6.sem) rfl rfl hO (fun fi => ?_) (fun fi hfi => ?_)
  · refine BIBase.Entails.trans ?_ (Scf.wp_for frame _ Set.univ 0#32 (0#32 + 16#32) 1#32 (k0_t4_ok i k0_h2) PUnit.unit _ (fun k _ => Work (F := F) d (cOf i) (jOf i) fi (headTile fi) k 0) fun k _ => ?_)
    · iintro H
      isplitl [H]; · iexact H
      iintro %_ H
      iexact H
    · exact turn_t4 (F := F) d i inA harg2 restA harg3 outA harg4 harg5 harg6 harg7 v75_r0 v75_r1 v74_r2 v74_r3 v551_r4 v551_r5 v551_r6 hv fi k0_h2 k
  refine check_step d _ _ ⟨fun _ => rest_inb (n := 0) hv.half (by decide) 0 _ hv.j0, fun _ => rest_inb (n := 0) hv.half (by decide) 1 _ hv.j1, fun _ => rest_inb (n := 0) hv.half (by decide) 2 _ hv.j2, fun _ => rest_inb (n := 0) hv.half (by decide) 3 _ hv.j3⟩ ?_
  refine row_rest (F := F) d (cOf i) (jOf i) (g := 16) (k := 0) (mv := 2#32) 0 0 (by decide) (by decide) (rest_lanes hv.half 0 (by decide)) hv.j0 hv.o0 rfl rfl rfl fun _ _ => ?_
  refine row_rest (F := F) d (cOf i) (jOf i) (g := 16) (k := 1) (mv := 2#32) 1 0 (by decide) (by decide) (rest_lanes hv.half 0 (by decide)) hv.j1 hv.o1 rfl rfl rfl fun _ _ => ?_
  refine row_rest (F := F) d (cOf i) (jOf i) (g := 16) (k := 2) (mv := 2#32) 2 0 (by decide) (by decide) (rest_lanes hv.half 0 (by decide)) hv.j2 hv.o2 rfl rfl rfl fun _ _ => ?_
  refine row_rest (F := F) d (cOf i) (jOf i) (g := 16) (k := 3) (mv := 1#32) 3 0 (by decide) (by decide) (rest_lanes hv.half 0 (by decide)) hv.j3 hv.o3 rfl rfl rfl fun _ _ => ?_
  refine check_step d _ _ ⟨fun _ => rest_inb (n := 2) hv.half (by decide) 0 _ hv.j0, fun _ => rest_inb (n := 2) hv.half (by decide) 1 _ hv.j1, fun _ => rest_inb (n := 2) hv.half (by decide) 2 _ hv.j2, fun _ => rest_inb (n := 2) hv.half (by decide) 3 _ hv.j3⟩ ?_
  refine row_rest (F := F) d (cOf i) (jOf i) (g := 16) (k := 4) (mv := 2#32) 0 1 (by decide) (by decide) (rest_lanes hv.half 2 (by decide)) hv.j0 hv.o0 rfl rfl rfl fun _ _ => ?_
  refine row_rest (F := F) d (cOf i) (jOf i) (g := 16) (k := 5) (mv := 2#32) 1 1 (by decide) (by decide) (rest_lanes hv.half 2 (by decide)) hv.j1 hv.o1 rfl rfl rfl fun _ _ => ?_
  refine row_rest (F := F) d (cOf i) (jOf i) (g := 16) (k := 6) (mv := 2#32) 2 1 (by decide) (by decide) (rest_lanes hv.half 2 (by decide)) hv.j2 hv.o2 rfl rfl rfl fun _ _ => ?_
  refine row_rest (F := F) d (cOf i) (jOf i) (g := 16) (k := 7) (mv := 1#32) 3 1 (by decide) (by decide) (rest_lanes hv.half 2 (by decide)) hv.j3 hv.o3 rfl rfl rfl fun _ _ => ?_
  refine check_step d _ _ ⟨fun _ => rest_inb (n := 4) hv.half (by decide) 0 _ hv.j0, fun _ => rest_inb (n := 4) hv.half (by decide) 1 _ hv.j1, fun _ => rest_inb (n := 4) hv.half (by decide) 2 _ hv.j2, fun _ => rest_inb (n := 4) hv.half (by decide) 3 _ hv.j3⟩ ?_
  refine row_rest (F := F) d (cOf i) (jOf i) (g := 16) (k := 8) (mv := 2#32) 0 2 (by decide) (by decide) (rest_lanes hv.half 4 (by decide)) hv.j0 hv.o0 rfl rfl rfl fun _ _ => ?_
  refine row_rest (F := F) d (cOf i) (jOf i) (g := 16) (k := 9) (mv := 2#32) 1 2 (by decide) (by decide) (rest_lanes hv.half 4 (by decide)) hv.j1 hv.o1 rfl rfl rfl fun _ _ => ?_
  refine row_rest (F := F) d (cOf i) (jOf i) (g := 16) (k := 10) (mv := 2#32) 2 2 (by decide) (by decide) (rest_lanes hv.half 4 (by decide)) hv.j2 hv.o2 rfl rfl rfl fun _ _ => ?_
  refine row_rest (F := F) d (cOf i) (jOf i) (g := 16) (k := 11) (mv := 1#32) 3 2 (by decide) (by decide) (rest_lanes hv.half 4 (by decide)) hv.j3 hv.o3 rfl rfl rfl fun _ _ => ?_
  refine check_step d _ _ ⟨fun _ => rest_inb (n := 6) hv.half (by decide) 0 _ hv.j0, fun _ => rest_inb (n := 6) hv.half (by decide) 1 _ hv.j1, fun _ => rest_inb (n := 6) hv.half (by decide) 2 _ hv.j2, fun _ => rest_inb (n := 6) hv.half (by decide) 3 _ hv.j3⟩ ?_
  refine row_rest (F := F) d (cOf i) (jOf i) (g := 16) (k := 12) (mv := 2#32) 0 3 (by decide) (by decide) (rest_lanes hv.half 6 (by decide)) hv.j0 hv.o0 rfl rfl rfl fun _ _ => ?_
  refine row_rest (F := F) d (cOf i) (jOf i) (g := 16) (k := 13) (mv := 2#32) 1 3 (by decide) (by decide) (rest_lanes hv.half 6 (by decide)) hv.j1 hv.o1 rfl rfl rfl fun _ _ => ?_
  refine row_rest (F := F) d (cOf i) (jOf i) (g := 16) (k := 14) (mv := 2#32) 2 3 (by decide) (by decide) (rest_lanes hv.half 6 (by decide)) hv.j2 hv.o2 rfl rfl rfl fun _ _ => ?_
  refine row_rest (F := F) d (cOf i) (jOf i) (g := 16) (k := 15) (mv := 1#32) 3 3 (by decide) (by decide) (rest_lanes hv.half 6 (by decide)) hv.j3 hv.o3 rfl rfl rfl fun _ _ => ?_
  refine check_step d _ _ ⟨fun _ => rest_inb (n := 8) hv.half (by decide) 0 _ hv.j0, fun _ => rest_inb (n := 8) hv.half (by decide) 1 _ hv.j1, fun _ => rest_inb (n := 8) hv.half (by decide) 2 _ hv.j2, fun _ => rest_inb (n := 8) hv.half (by decide) 3 _ hv.j3⟩ ?_
  refine row_rest (F := F) d (cOf i) (jOf i) (g := 16) (k := 16) (mv := 2#32) 0 4 (by decide) (by decide) (rest_lanes hv.half 8 (by decide)) hv.j0 hv.o0 rfl rfl rfl fun _ _ => ?_
  refine row_rest (F := F) d (cOf i) (jOf i) (g := 16) (k := 17) (mv := 2#32) 1 4 (by decide) (by decide) (rest_lanes hv.half 8 (by decide)) hv.j1 hv.o1 rfl rfl rfl fun _ _ => ?_
  refine row_rest (F := F) d (cOf i) (jOf i) (g := 16) (k := 18) (mv := 2#32) 2 4 (by decide) (by decide) (rest_lanes hv.half 8 (by decide)) hv.j2 hv.o2 rfl rfl rfl fun _ _ => ?_
  refine row_rest (F := F) d (cOf i) (jOf i) (g := 16) (k := 19) (mv := 1#32) 3 4 (by decide) (by decide) (rest_lanes hv.half 8 (by decide)) hv.j3 hv.o3 rfl rfl rfl fun _ _ => ?_
  refine check_step d _ _ ⟨fun _ => rest_inb (n := 10) hv.half (by decide) 0 _ hv.j0, fun _ => rest_inb (n := 10) hv.half (by decide) 1 _ hv.j1, fun _ => rest_inb (n := 10) hv.half (by decide) 2 _ hv.j2, fun _ => rest_inb (n := 10) hv.half (by decide) 3 _ hv.j3⟩ ?_
  refine row_rest (F := F) d (cOf i) (jOf i) (g := 16) (k := 20) (mv := 2#32) 0 5 (by decide) (by decide) (rest_lanes hv.half 10 (by decide)) hv.j0 hv.o0 rfl rfl rfl fun _ _ => ?_
  refine row_rest (F := F) d (cOf i) (jOf i) (g := 16) (k := 21) (mv := 2#32) 1 5 (by decide) (by decide) (rest_lanes hv.half 10 (by decide)) hv.j1 hv.o1 rfl rfl rfl fun _ _ => ?_
  refine row_rest (F := F) d (cOf i) (jOf i) (g := 16) (k := 22) (mv := 2#32) 2 5 (by decide) (by decide) (rest_lanes hv.half 10 (by decide)) hv.j2 hv.o2 rfl rfl rfl fun _ _ => ?_
  refine row_rest (F := F) d (cOf i) (jOf i) (g := 16) (k := 23) (mv := 1#32) 3 5 (by decide) (by decide) (rest_lanes hv.half 10 (by decide)) hv.j3 hv.o3 rfl rfl rfl fun _ _ => ?_
  refine check_step d _ _ ⟨fun _ => rest_inb (n := 12) hv.half (by decide) 0 _ hv.j0, fun _ => rest_inb (n := 12) hv.half (by decide) 1 _ hv.j1, fun _ => rest_inb (n := 12) hv.half (by decide) 2 _ hv.j2, fun _ => rest_inb (n := 12) hv.half (by decide) 3 _ hv.j3⟩ ?_
  refine row_rest (F := F) d (cOf i) (jOf i) (g := 16) (k := 24) (mv := 2#32) 0 6 (by decide) (by decide) (rest_lanes hv.half 12 (by decide)) hv.j0 hv.o0 rfl rfl rfl fun _ _ => ?_
  refine row_rest (F := F) d (cOf i) (jOf i) (g := 16) (k := 25) (mv := 2#32) 1 6 (by decide) (by decide) (rest_lanes hv.half 12 (by decide)) hv.j1 hv.o1 rfl rfl rfl fun _ _ => ?_
  refine row_rest (F := F) d (cOf i) (jOf i) (g := 16) (k := 26) (mv := 2#32) 2 6 (by decide) (by decide) (rest_lanes hv.half 12 (by decide)) hv.j2 hv.o2 rfl rfl rfl fun _ _ => ?_
  refine row_rest (F := F) d (cOf i) (jOf i) (g := 16) (k := 27) (mv := 1#32) 3 6 (by decide) (by decide) (rest_lanes hv.half 12 (by decide)) hv.j3 hv.o3 rfl rfl rfl fun _ _ => ?_
  refine check_step d _ _ ⟨fun _ => rest_inb (n := 14) hv.half (by decide) 0 _ hv.j0, fun _ => rest_inb (n := 14) hv.half (by decide) 1 _ hv.j1, fun _ => rest_inb (n := 14) hv.half (by decide) 2 _ hv.j2, fun _ => rest_inb (n := 14) hv.half (by decide) 3 _ hv.j3⟩ ?_
  refine row_rest (F := F) d (cOf i) (jOf i) (g := 16) (k := 28) (mv := 2#32) 0 7 (by decide) (by decide) (rest_lanes hv.half 14 (by decide)) hv.j0 hv.o0 rfl rfl rfl fun _ _ => ?_
  refine row_rest (F := F) d (cOf i) (jOf i) (g := 16) (k := 29) (mv := 2#32) 1 7 (by decide) (by decide) (rest_lanes hv.half 14 (by decide)) hv.j1 hv.o1 rfl rfl rfl fun _ _ => ?_
  refine row_rest (F := F) d (cOf i) (jOf i) (g := 16) (k := 30) (mv := 2#32) 2 7 (by decide) (by decide) (rest_lanes hv.half 14 (by decide)) hv.j2 hv.o2 rfl rfl rfl fun _ _ => ?_
  refine row_rest (F := F) d (cOf i) (jOf i) (g := 16) (k := 31) (mv := 1#32) 3 7 (by decide) (by decide) (rest_lanes hv.half 14 (by decide)) hv.j3 hv.o3 rfl rfl rfl fun _ _ => ?_
  refine tile_step d ?_
  refine check_step d _ _ ⟨fun _ => rest_inb (n := 16) hv.half (by decide) 0 _ hv.j0, fun _ => rest_inb (n := 16) hv.half (by decide) 1 _ hv.j1, fun _ => rest_inb (n := 16) hv.half (by decide) 2 _ hv.j2, fun _ => rest_inb (n := 16) hv.half (by decide) 3 _ hv.j3⟩ ?_
  refine row_rest (F := F) d (cOf i) (jOf i) (g := 17) (k := 0) (mv := 2#32) 0 0 (by decide) (by decide) (rest_lanes hv.half 16 (by decide)) hv.j0 hv.o0 rfl rfl rfl fun _ _ => ?_
  refine row_rest (F := F) d (cOf i) (jOf i) (g := 17) (k := 1) (mv := 2#32) 1 0 (by decide) (by decide) (rest_lanes hv.half 16 (by decide)) hv.j1 hv.o1 rfl rfl rfl fun _ _ => ?_
  refine row_rest (F := F) d (cOf i) (jOf i) (g := 17) (k := 2) (mv := 2#32) 2 0 (by decide) (by decide) (rest_lanes hv.half 16 (by decide)) hv.j2 hv.o2 rfl rfl rfl fun _ _ => ?_
  refine row_rest (F := F) d (cOf i) (jOf i) (g := 17) (k := 3) (mv := 1#32) 3 0 (by decide) (by decide) (rest_lanes hv.half 16 (by decide)) hv.j3 hv.o3 rfl rfl rfl fun _ _ => ?_
  refine check_step d _ _ ⟨fun _ => rest_inb (n := 18) hv.half (by decide) 0 _ hv.j0, fun _ => rest_inb (n := 18) hv.half (by decide) 1 _ hv.j1, fun _ => rest_inb (n := 18) hv.half (by decide) 2 _ hv.j2, fun _ => rest_inb (n := 18) hv.half (by decide) 3 _ hv.j3⟩ ?_
  refine row_rest (F := F) d (cOf i) (jOf i) (g := 17) (k := 4) (mv := 2#32) 0 1 (by decide) (by decide) (rest_lanes hv.half 18 (by decide)) hv.j0 hv.o0 rfl rfl rfl fun _ _ => ?_
  refine row_rest (F := F) d (cOf i) (jOf i) (g := 17) (k := 5) (mv := 2#32) 1 1 (by decide) (by decide) (rest_lanes hv.half 18 (by decide)) hv.j1 hv.o1 rfl rfl rfl fun _ _ => ?_
  refine row_rest (F := F) d (cOf i) (jOf i) (g := 17) (k := 6) (mv := 2#32) 2 1 (by decide) (by decide) (rest_lanes hv.half 18 (by decide)) hv.j2 hv.o2 rfl rfl rfl fun _ _ => ?_
  refine row_rest (F := F) d (cOf i) (jOf i) (g := 17) (k := 7) (mv := 1#32) 3 1 (by decide) (by decide) (rest_lanes hv.half 18 (by decide)) hv.j3 hv.o3 rfl rfl rfl fun _ _ => ?_
  refine check_step d _ _ ⟨fun _ => rest_inb (n := 20) hv.half (by decide) 0 _ hv.j0, fun _ => rest_inb (n := 20) hv.half (by decide) 1 _ hv.j1, fun _ => rest_inb (n := 20) hv.half (by decide) 2 _ hv.j2, fun _ => rest_inb (n := 20) hv.half (by decide) 3 _ hv.j3⟩ ?_
  refine row_rest (F := F) d (cOf i) (jOf i) (g := 17) (k := 8) (mv := 2#32) 0 2 (by decide) (by decide) (rest_lanes hv.half 20 (by decide)) hv.j0 hv.o0 rfl rfl rfl fun _ _ => ?_
  refine row_rest (F := F) d (cOf i) (jOf i) (g := 17) (k := 9) (mv := 2#32) 1 2 (by decide) (by decide) (rest_lanes hv.half 20 (by decide)) hv.j1 hv.o1 rfl rfl rfl fun _ _ => ?_
  refine row_rest (F := F) d (cOf i) (jOf i) (g := 17) (k := 10) (mv := 2#32) 2 2 (by decide) (by decide) (rest_lanes hv.half 20 (by decide)) hv.j2 hv.o2 rfl rfl rfl fun _ _ => ?_
  refine row_rest (F := F) d (cOf i) (jOf i) (g := 17) (k := 11) (mv := 1#32) 3 2 (by decide) (by decide) (rest_lanes hv.half 20 (by decide)) hv.j3 hv.o3 rfl rfl rfl fun _ _ => ?_
  refine check_step d _ _ ⟨fun _ => rest_inb (n := 22) hv.half (by decide) 0 _ hv.j0, fun _ => rest_inb (n := 22) hv.half (by decide) 1 _ hv.j1, fun _ => rest_inb (n := 22) hv.half (by decide) 2 _ hv.j2, fun _ => rest_inb (n := 22) hv.half (by decide) 3 _ hv.j3⟩ ?_
  refine row_rest (F := F) d (cOf i) (jOf i) (g := 17) (k := 12) (mv := 2#32) 0 3 (by decide) (by decide) (rest_lanes hv.half 22 (by decide)) hv.j0 hv.o0 rfl rfl rfl fun _ _ => ?_
  refine row_rest (F := F) d (cOf i) (jOf i) (g := 17) (k := 13) (mv := 2#32) 1 3 (by decide) (by decide) (rest_lanes hv.half 22 (by decide)) hv.j1 hv.o1 rfl rfl rfl fun _ _ => ?_
  refine row_rest (F := F) d (cOf i) (jOf i) (g := 17) (k := 14) (mv := 2#32) 2 3 (by decide) (by decide) (rest_lanes hv.half 22 (by decide)) hv.j2 hv.o2 rfl rfl rfl fun _ _ => ?_
  refine row_rest (F := F) d (cOf i) (jOf i) (g := 17) (k := 15) (mv := 1#32) 3 3 (by decide) (by decide) (rest_lanes hv.half 22 (by decide)) hv.j3 hv.o3 rfl rfl rfl fun _ _ => ?_
  refine check_step d _ _ ⟨fun _ => rest_inb (n := 24) hv.half (by decide) 0 _ hv.j0, fun _ => rest_inb (n := 24) hv.half (by decide) 1 _ hv.j1, fun _ => rest_inb (n := 24) hv.half (by decide) 2 _ hv.j2, fun _ => rest_inb (n := 24) hv.half (by decide) 3 _ hv.j3⟩ ?_
  refine row_rest (F := F) d (cOf i) (jOf i) (g := 17) (k := 16) (mv := 2#32) 0 4 (by decide) (by decide) (rest_lanes hv.half 24 (by decide)) hv.j0 hv.o0 rfl rfl rfl fun _ _ => ?_
  refine row_rest (F := F) d (cOf i) (jOf i) (g := 17) (k := 17) (mv := 2#32) 1 4 (by decide) (by decide) (rest_lanes hv.half 24 (by decide)) hv.j1 hv.o1 rfl rfl rfl fun _ _ => ?_
  refine row_rest (F := F) d (cOf i) (jOf i) (g := 17) (k := 18) (mv := 2#32) 2 4 (by decide) (by decide) (rest_lanes hv.half 24 (by decide)) hv.j2 hv.o2 rfl rfl rfl fun _ _ => ?_
  refine row_rest (F := F) d (cOf i) (jOf i) (g := 17) (k := 19) (mv := 1#32) 3 4 (by decide) (by decide) (rest_lanes hv.half 24 (by decide)) hv.j3 hv.o3 rfl rfl rfl fun _ _ => ?_
  refine check_step d _ _ ⟨fun _ => rest_inb (n := 26) hv.half (by decide) 0 _ hv.j0, fun _ => rest_inb (n := 26) hv.half (by decide) 1 _ hv.j1, fun _ => rest_inb (n := 26) hv.half (by decide) 2 _ hv.j2, fun _ => rest_inb (n := 26) hv.half (by decide) 3 _ hv.j3⟩ ?_
  refine row_rest (F := F) d (cOf i) (jOf i) (g := 17) (k := 20) (mv := 2#32) 0 5 (by decide) (by decide) (rest_lanes hv.half 26 (by decide)) hv.j0 hv.o0 rfl rfl rfl fun _ _ => ?_
  refine row_rest (F := F) d (cOf i) (jOf i) (g := 17) (k := 21) (mv := 2#32) 1 5 (by decide) (by decide) (rest_lanes hv.half 26 (by decide)) hv.j1 hv.o1 rfl rfl rfl fun _ _ => ?_
  refine row_rest (F := F) d (cOf i) (jOf i) (g := 17) (k := 22) (mv := 2#32) 2 5 (by decide) (by decide) (rest_lanes hv.half 26 (by decide)) hv.j2 hv.o2 rfl rfl rfl fun _ _ => ?_
  refine row_rest (F := F) d (cOf i) (jOf i) (g := 17) (k := 23) (mv := 1#32) 3 5 (by decide) (by decide) (rest_lanes hv.half 26 (by decide)) hv.j3 hv.o3 rfl rfl rfl fun _ _ => ?_
  refine check_step d _ _ ⟨fun _ => rest_inb (n := 28) hv.half (by decide) 0 _ hv.j0, fun _ => rest_inb (n := 28) hv.half (by decide) 1 _ hv.j1, fun _ => rest_inb (n := 28) hv.half (by decide) 2 _ hv.j2, fun _ => rest_inb (n := 28) hv.half (by decide) 3 _ hv.j3⟩ ?_
  refine row_rest (F := F) d (cOf i) (jOf i) (g := 17) (k := 24) (mv := 2#32) 0 6 (by decide) (by decide) (rest_lanes hv.half 28 (by decide)) hv.j0 hv.o0 rfl rfl rfl fun _ _ => ?_
  refine row_rest (F := F) d (cOf i) (jOf i) (g := 17) (k := 25) (mv := 2#32) 1 6 (by decide) (by decide) (rest_lanes hv.half 28 (by decide)) hv.j1 hv.o1 rfl rfl rfl fun _ _ => ?_
  refine row_rest (F := F) d (cOf i) (jOf i) (g := 17) (k := 26) (mv := 2#32) 2 6 (by decide) (by decide) (rest_lanes hv.half 28 (by decide)) hv.j2 hv.o2 rfl rfl rfl fun _ _ => ?_
  refine row_rest (F := F) d (cOf i) (jOf i) (g := 17) (k := 27) (mv := 1#32) 3 6 (by decide) (by decide) (rest_lanes hv.half 28 (by decide)) hv.j3 hv.o3 rfl rfl rfl fun _ _ => ?_
  refine check_step d _ _ ⟨fun _ => rest_inb (n := 30) hv.half (by decide) 0 _ hv.j0, fun _ => rest_inb (n := 30) hv.half (by decide) 1 _ hv.j1, fun _ => rest_inb (n := 30) hv.half (by decide) 2 _ hv.j2, fun _ => rest_inb (n := 30) hv.half (by decide) 3 _ hv.j3⟩ ?_
  refine row_rest (F := F) d (cOf i) (jOf i) (g := 17) (k := 28) (mv := 2#32) 0 7 (by decide) (by decide) (rest_lanes hv.half 30 (by decide)) hv.j0 hv.o0 rfl rfl rfl fun _ _ => ?_
  refine row_rest (F := F) d (cOf i) (jOf i) (g := 17) (k := 29) (mv := 2#32) 1 7 (by decide) (by decide) (rest_lanes hv.half 30 (by decide)) hv.j1 hv.o1 rfl rfl rfl fun _ _ => ?_
  refine row_rest (F := F) d (cOf i) (jOf i) (g := 17) (k := 30) (mv := 2#32) 2 7 (by decide) (by decide) (rest_lanes hv.half 30 (by decide)) hv.j2 hv.o2 rfl rfl rfl fun _ _ => ?_
  refine row_rest (F := F) d (cOf i) (jOf i) (g := 17) (k := 31) (mv := 1#32) 3 7 (by decide) (by decide) (rest_lanes hv.half 30 (by decide)) hv.j3 hv.o3 rfl rfl rfl fun _ _ => ?_
  refine tile_step d ?_
  refine last_out (F := F) d (cOf i) (jOf i) hfi hskip rfl rfl hO ?_
  refine BIBase.Entails.trans ?_ (le_wp_ret _ _ _ _ _)
  iintro H
  iexact H

end

end Cert.Proof.Vox

end
-- ==== Proof.Body.lean ====
/-
  One worker's run of the kernel: all its chunks, one after the other.
-/
module

public import proofs.«01_k».proof.Proof.Tail

@[expose] public section

noncomputable section

namespace Cert.Proof.Vox

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The kernel's vectors -/

/-- The lanes' half. -/
def halfVec : IVec S16 32 := fun x => BitVec.ofNat 32 ((x 0).val / 8)
/-- The lanes' corner. -/
def cornerVec : IVec S16 32 := fun x => BitVec.ofNat 32 ((x 0).val % 8)

/-- The masks' bits at the lanes' corners are the columns' offsets. -/
theorem offsets (j : Fin 4) : Offsets j (andi (shrsi (broadcast S16 (masks j)) cornerVec) (broadcast S16 1#32)) := by
  intro x
  revert j x
  decide +kernel

theorem vecs : Vecs halfVec (andi (shrsi (broadcast S16 210#32) cornerVec) (broadcast S16 1#32)) (andi (shrsi (broadcast S16 180#32) cornerVec) (broadcast S16 1#32))
    (andi (shrsi (broadcast S16 232#32) cornerVec) (broadcast S16 1#32)) (andi (shrsi (broadcast S16 0#32) cornerVec) (broadcast S16 1#32))
    (broadcast S16 0#32) (broadcast S16 1#32) (broadcast S16 2#32) (broadcast S16 3#32) where
  half := fun _ => rfl
  o0 := offsets 0
  o1 := offsets 1
  o2 := offsets 2
  o3 := offsets 3
  j0 := fun _ => rfl
  j1 := fun _ => rfl
  j2 := fun _ => rfl
  j3 := fun _ => rfl

section

variable [FloatOps F] (d : Dev nD)

local notation "inA" => (Memref.whole Cert.KernelIdeal.main_v2_scv : Memref Cert.KernelIdeal.sig Kind.scVector Space.hbm Cert.KernelIdeal.S3906x4x128 EltTy.i32)
local notation "restA" => (Memref.whole Cert.KernelIdeal.main_v3_scv : Memref Cert.KernelIdeal.sig Kind.scVector Space.hbm Cert.KernelIdeal.S32x4 EltTy.i32)
local notation "outA" => (Memref.whole Cert.KernelIdeal.main_v4_scv : Memref Cert.KernelIdeal.sig Kind.scVector Space.hbm Cert.KernelIdeal.S31250x4x128 EltTy.i32)
local notation "inW" => (Memref.whole Cert.KernelIdeal.cc0_scratch0 : Memref Cert.KernelIdeal.sig Kind.scVector Space.vmem Cert.KernelIdeal.S8x4x128 EltTy.i32)
local notation "restW" => (Memref.whole Cert.KernelIdeal.cc0_scratch1 : Memref Cert.KernelIdeal.sig Kind.scVector Space.vmem Cert.KernelIdeal.S32x4 EltTy.i32)
local notation "outW" => (Memref.whole Cert.KernelIdeal.cc0_scratch2 : Memref Cert.KernelIdeal.sig Kind.scVector Space.vmem Cert.KernelIdeal.S64x4x128 EltTy.i32)

/-- The kernel's first part computes the worker's number and the two vectors. -/
theorem part41 (i : grid0.Coords) (harg2 : (inA).IsWhole) (harg3 : (restA).IsWhole) (harg4 : (outA).IsWhole) (harg5 : (inW).IsWhole) (harg6 : (restW).IsWhole) (harg7 : (outW).IsWhole) (v75_r0 v75_r1 v74_r2 v74_r3 v551_r4 v551_r5 v551_r6 : DmaSems sig S_) :
    k0_part41 (F := F) i inA harg2 restA harg3 outA harg4 inW harg5 restW harg6 outW harg7 v75_r0 v75_r1 v74_r2 v74_r3 v551_r4 v551_r5 v551_r6 = Prog.ret ⟨Scalar.addi (Scalar.muli (BitVec.ofNat 32 (i 1).val) 2#32) (BitVec.ofNat 32 (i 0).val), halfVec, cornerVec, 210#32⟩ := by
  have e : ∀ {f g : IVec S16 32}, (∀ x : Fin 16, f (ix1 x) = g (ix1 x)) → f = g := fun h => funext fun x => by rw [eq_ix1 x]; exact h _
  simp only [k0_part41, Prog.pure_eq_ret]
  congr 3
  · refine e ?_; decide +kernel
  · exact congrArg (fun v : IVec S16 32 => (⟨v, 210#32⟩ : Σ' (_ : IVec S16 32), BitVec 32)) (e (by decide +kernel))

/-- Chunks that are none of the worker's need no work. -/
theorem Held.skip {a : Fin τ.nSC} {b : Fin τ.nSub} {w : ℕ} {xh : S3906x4x128.Idx → BitVec 32} {xt : S32x4.Idx → BitVec 32} {n n' : ℕ} (hn : ∀ c, n ≤ c → c < n' → c < 489 → c % 32 ≠ w) :
    Held (F := F) d a b w xh xt n ⊢ Held (F := F) d a b w xh xt n' := by
  unfold Held Shares
  iintro ⟨⟨Hi, Hr, %g, %hg, Ho⟩, HB⟩
  isplitr [HB]
  · isplitl [Hi]; · iexact Hi
    isplitl [Hr]; · iexact Hr
    iexists g
    isplitr
    · ipureintro; exact hg.skip hn
    iexact Ho
  iexact HB

theorem cond1_iff : ∀ i : grid0.Coords, k0_cond1 i = 1#1 ↔ worker i < 8 := by decide +kernel
theorem cond2_iff : ∀ i : grid0.Coords, k0_cond2 i = 1#1 ↔ worker i = 8 := by decide +kernel

/-- The semaphores of the kernel's copies, all clear. -/
def Sems (a : Fin τ.nSC) (b : Fin τ.nSub) (s₀ s₁ s₂ s₃ s₄ s₅ s₆ : DmaSem sig) : sProp 𝕄 :=
  iprop(semVal ((d, Proc.scVector a b), .dma s₀) 0 ∗ semVal ((d, Proc.scVector a b), .dma s₁) 0 ∗ semVal ((d, Proc.scVector a b), .dma s₂) 0 ∗ semVal ((d, Proc.scVector a b), .dma s₃) 0
    ∗ semVal ((d, Proc.scVector a b), .dma s₄) 0 ∗ semVal ((d, Proc.scVector a b), .dma s₅) 0 ∗ semVal ((d, Proc.scVector a b), .dma s₆) 0)

seal wp in
set_option maxHeartbeats 400000 in
/-- The kernel's body does all of the worker's share. -/
theorem body (i : grid0.Coords) (harg2 : (inA).IsWhole) (harg3 : (restA).IsWhole) (harg4 : (outA).IsWhole) (harg5 : (inW).IsWhole) (harg6 : (restW).IsWhole) (harg7 : (outW).IsWhole) (v75_r0 v75_r1 v74_r2 v74_r3 v551_r4 v551_r5 v551_r6 : DmaSems sig S_) (xh : S3906x4x128.Idx → BitVec 32) (xt : S32x4.Idx → BitVec 32)
    {O : CellTallies nD τ sig (HIx 1)} {W : Waits sig (HIx 1)} (hO : ∀ g, O g none = 0) :
    iprop(levAts (K (F := F)).L (K (F := F)).lev ∗ Held (F := F) d (cOf i) (jOf i) (worker i) xh xt 0
        ∗ Sems (F := F) d (cOf i) (jOf i) v75_r0.sem v75_r1.sem v74_r2.sem v74_r3.sem v551_r4.sem v551_r5.sem v551_r6.sem ∗ Owes (F := F) d (cOf i) (jOf i) O W)
      ⊢ wp frame (wpE defs₀ 𝒱₀ (d, Proc.scVector (cOf i) (jOf i)) none) Set.univ (cc0__tec_body (F := F) i inA harg2 restA harg3 outA harg4 inW harg5 restW harg6 outW harg7 v75_r0 v75_r1 v74_r2 v74_r3 v551_r4 v551_r5 v551_r6)
        (fun _ => iprop(Held (F := F) d (cOf i) (jOf i) (worker i) xh xt 489
          ∗ Sems (F := F) d (cOf i) (jOf i) v75_r0.sem v75_r1.sem v74_r2.sem v74_r3.sem v551_r4.sem v551_r5.sem v551_r6.sem ∗ Owes (F := F) d (cOf i) (jOf i) O W)) := by
  simp only [cc0__tec_body, part41, Prog.bind_assoc, Prog.bind_lift, Prog.bind_op, Prog.bind_ret, Prog.pure_eq_ret]
  have hv := vecs
  generalize andi (shrsi (broadcast S16 210#32) cornerVec) (broadcast S16 1#32) = v46 at hv ⊢
  generalize andi (shrsi (broadcast S16 180#32) cornerVec) (broadcast S16 1#32) = v50 at hv ⊢
  generalize andi (shrsi (broadcast S16 232#32) cornerVec) (broadcast S16 1#32) = v54 at hv ⊢
  generalize andi (shrsi (broadcast S16 0#32) cornerVec) (broadcast S16 1#32) = v58 at hv ⊢
  generalize (broadcast S16 0#32 : IVec S16 32) = v59 at hv ⊢
  generalize (broadcast S16 1#32 : IVec S16 32) = v60 at hv ⊢
  generalize (broadcast S16 2#32 : IVec S16 32) = v61 at hv ⊢
  generalize (broadcast S16 3#32 : IVec S16 32) = v62 at hv ⊢
  generalize halfVec = v26 at hv ⊢
  have hw := worker_lt i
  unfold Sems
  iintro ⟨#Hlv, HH, ⟨S0, S1, S2, S3, S4, S5, S6⟩, HO⟩
  iapply (Scf.wp_for_bind frame _ Set.univ _ _ _ k0_t1_ok PUnit.unit _ (fun k _ => iprop(levAts (K (F := F)).L (K (F := F)).lev ∗ Held (F := F) d (cOf i) (jOf i) (worker i) xh xt (32 * k)
    ∗ semVal ((d, Proc.scVector (cOf i) (jOf i)), .dma v75_r0.sem) 0 ∗ semVal ((d, Proc.scVector (cOf i) (jOf i)), .dma v75_r1.sem) 0 ∗ Owes (F := F) d (cOf i) (jOf i) O W)) ?turn) $$ [HH S0 S1 HO]
  case turn =>
    intro k _
    have hk : k.val < 15 := lt_of_lt_of_le k.isLt (by decide)
    iintro ⟨#Hlv, HH, S0, S1, HO⟩
    iapply (chunk (F := F) d (cOf i) (jOf i) (w := worker i) (n₀ := 32 * k.val) (n := worker i + 32 * k.val) (by omega) (by omega) (by omega) ((k0_off1_eq i k).trans (by unfold worker; congr 1; omega)) ((k0_off34_eq i k).trans (by unfold worker; congr 1; omega)) hO ?prog) $$ [HH S0 S1 HO]
    case prog =>
      intro fi
      refine BIBase.Entails.trans ?_ (Scf.wp_for frame _ Set.univ 0#32 (0#32 + 64#32) 1#32 k0_t2_ok PUnit.unit _ (fun k _ => Work (F := F) d (cOf i) (jOf i) fi (headTile fi) k 0) fun k _ => ?_)
      · iintro H
        isplitl [H]; · iexact H
        iintro %_ H
        iexact H
      · exact turn_t2 (F := F) d i inA harg2 restA harg3 outA harg4 harg5 harg6 harg7 v75_r0 v75_r1 v74_r2 v74_r3 v551_r4 v551_r5 v551_r6 hv fi k
    · isplitr; · iexact Hlv
      isplitl [HH]; · iexact HH
      isplitl [S0]; · iexact S0
      isplitl [S1]; · iexact S1
      iexact HO
    iintro ⟨HH, S0, S1, HO⟩
    iapply (le_wp_ret _ _ _ _ _)
    isplitr; · iexact Hlv
    isplitl [HH]
    · iapply (Held.skip (F := F) d (n := worker i + 32 * k.val + 1) (by omega)); iexact HH
    isplitl [S0]; · iexact S0
    isplitl [S1]; · iexact S1
    iexact HO
  · isplitr; · iexact Hlv
    isplitl [HH]; · iexact HH
    isplitl [S0]; · iexact S0
    isplitl [S1]; · iexact S1
    iexact HO
  iintro %_ ⟨-, HH, S0, S1, HO⟩
  by_cases h1 : k0_cond1 i = 1#1
  · have w8 := (cond1_iff i).mp h1
    have h2 : ¬ k0_cond2 i = 1#1 := fun h => by have := (cond2_iff i).mp h; omega
    simp only [dif_pos h1, dif_neg h2]
    iapply (chunk (F := F) d (cOf i) (jOf i) (w := worker i) (n₀ := 480) (n := worker i + 480) (by omega) (by omega) (by omega) ((k0_off35_eq i).trans (by unfold worker; congr 1; omega)) ((k0_off68_eq i).trans (by unfold worker; congr 1; omega)) hO ?prog) $$ [HH S2 S3 HO]
    case prog =>
      intro fi
      refine BIBase.Entails.trans ?_ (Scf.wp_for frame _ Set.univ 0#32 (0#32 + 64#32) 1#32 (k0_t3_ok i h1) PUnit.unit _ (fun k _ => Work (F := F) d (cOf i) (jOf i) fi (headTile fi) k 0) fun k _ => ?_)
      · iintro H
        isplitl [H]; · iexact H
        iintro %_ H
        iexact H
      · exact turn_t3 (F := F) d i inA harg2 restA harg3 outA harg4 harg5 harg6 harg7 v75_r0 v75_r1 v74_r2 v74_r3 v551_r4 v551_r5 v551_r6 hv fi h1 k
    · isplitr; · iexact Hlv
      isplitl [HH]; · iexact HH
      isplitl [S2]; · iexact S2
      isplitl [S3]; · iexact S3
      iexact HO
    iintro ⟨HH, S2, S3, HO⟩
    iapply (le_wp_ret _ _ _ _ _)
    isplitl [HH]
    · iapply (Held.skip (F := F) d (n := worker i + 480 + 1) (by omega)); iexact HH
    isplitr [HO]
    · isplitl [S0]; · iexact S0
      isplitl [S1]; · iexact S1
      isplitl [S2]; · iexact S2
      isplitl [S3]; · iexact S3
      isplitl [S4]; · iexact S4
      isplitl [S5]; · iexact S5
      iexact S6
    iexact HO
  by_cases h2 : k0_cond2 i = 1#1
  · have w8 := (cond2_iff i).mp h2
    simp only [dif_neg h1, dif_pos h2, w8]
    ihave Hp := (tail (F := F) d i harg2 harg3 harg4 harg5 harg6 harg7 v75_r0 v75_r1 v74_r2 v74_r3 v551_r4 v551_r5 v551_r6 hv h2 (n₀ := 480) (by omega) xh xt hO (iprop(semVal ((d, Proc.scVector (cOf i) (jOf i)), .dma v75_r0.sem) 0 ∗ semVal ((d, Proc.scVector (cOf i) (jOf i)), .dma v75_r1.sem) 0 ∗ semVal ((d, Proc.scVector (cOf i) (jOf i)), .dma v74_r2.sem) 0 ∗ semVal ((d, Proc.scVector (cOf i) (jOf i)), .dma v74_r3.sem) 0))) $$ [HH S0 S1 S2 S3 S4 S5 S6 HO]
    · isplitr; · iexact Hlv
      isplitl [S0 S1 S2 S3]
      · isplitl [S0]; · iexact S0
        isplitl [S1]; · iexact S1
        isplitl [S2]; · iexact S2
        iexact S3
      isplitl [HH]; · iexact HH
      isplitl [S4]; · iexact S4
      isplitl [S5]; · iexact S5
      isplitl [S6]; · iexact S6
      iexact HO
    iapply (wp_wand frame _ _) $$ Hp
    iintro %_ ⟨⟨S0, S1, S2, S3⟩, HH, S4, S5, S6, HO⟩
    isplitl [HH]; · iexact HH
    isplitr [HO]
    · isplitl [S0]; · iexact S0
      isplitl [S1]; · iexact S1
      isplitl [S2]; · iexact S2
      isplitl [S3]; · iexact S3
      isplitl [S4]; · iexact S4
      isplitl [S5]; · iexact S5
      iexact S6
    iexact HO
  have w8 : 8 < worker i := by
    have h3 := mt (cond1_iff i).mpr h1
    have h4 := mt (cond2_iff i).mpr h2
    omega
  simp only [dif_neg h1, dif_neg h2]
  iapply (le_wp_ret _ _ _ _ _)
  isplitl [HH]
  · iapply (Held.skip (F := F) d (n := 480) (by omega)); iexact HH
  isplitr [HO]
  · isplitl [S0]; · iexact S0
    isplitl [S1]; · iexact S1
    isplitl [S2]; · iexact S2
    isplitl [S3]; · iexact S3
    isplitl [S4]; · iexact S4
    isplitl [S5]; · iexact S5
    iexact S6
  iexact HO

end

end Cert.Proof.Vox

end
-- ==== Proof.Launch.lean ====
/-
  The launch of the kernel's tasks: what the call hands each SparseCore and each tile, and that a tile's task does its part.

  The three arrays are split by worker: SparseCore `c` takes the shares of the workers `2 s + c`, tile `s` of it the worker's own. A tile hands
  its share of the output array back at what the kernel is to compute.
-/
module

public import proofs.«01_k».proof.Proof.Body

@[expose] public section

noncomputable section

namespace Cert.Proof.Vox

open Cert.KernelIdeal Cert.KernelIdeal.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's handshakes, the left factor of the resources. -/
abbrev EH : Emb UH (MT nD τ sig (HIx 1) (Elt F) ℕ UU ℕ) := embL

/-! ## The arrays, by worker -/

section Arrays

variable [FloatOps F] (d : Dev nD)

/-- Parts of the three arrays: the inputs' at `xh` and `xt`, the output's at `g`. -/
def Arrays (I : Finset S3906x4x128.Idx) (R : Finset S32x4.Idx) (G : Finset S31250x4x128.Idx) (xh : S3906x4x128.Idx → BitVec 32) (xt : S32x4.Idx → BitVec 32)
    (g : S31250x4x128.Idx → BitVec 32) : sProp 𝕄 :=
  iprop((inLoc d ↦[I]{fullShare} xh) ∗ (restLoc d ↦[R]{fullShare} xt) ∗ (outLoc d ↦[G]{fullShare} g))

instance Arrays_storable (I R G xh xt g) : BI.Storable (upEmb : UEmb _ 𝕄) (Arrays (F := F) d I R G xh xt g) := by unfold Arrays; infer_instance

/-- Worker `w`'s parts. -/
def ofWorker (w : ℕ) (xh : S3906x4x128.Idx → BitVec 32) (xt : S32x4.Idx → BitVec 32) (g : S31250x4x128.Idx → BitVec 32) : sProp 𝕄 :=
  Arrays (F := F) d (inPart w) (restPart w) (outPart w) xh xt g

instance ofWorker_storable (w xh xt g) : BI.Storable (upEmb : UEmb _ 𝕄) (ofWorker (F := F) d w xh xt g) := by unfold ofWorker; infer_instance

/-- SparseCore `c`'s parts: those of its sixteen workers. -/
def ofCore (c : ℕ) (xh : S3906x4x128.Idx → BitVec 32) (xt : S32x4.Idx → BitVec 32) (g : S31250x4x128.Idx → BitVec 32) : sProp 𝕄 :=
  Arrays (F := F) d (Finset.univ.filter fun y => inKey y % 2 = c) (Finset.univ.filter fun y => restKey y % 2 = c) (Finset.univ.filter fun y => outKey y % 2 = c) xh xt g

instance ofCore_storable (c xh xt g) : BI.Storable (upEmb : UEmb _ 𝕄) (ofCore (F := F) d c xh xt g) := by unfold ofCore; infer_instance

/-- A set split over an index: the points-to of it is those of the parts. -/
theorem pts_split {ℓ : Loc nD τ sig} {T : Type} [Fintype T] (I : Finset (Idx ℓ)) (A : T → Finset (Idx ℓ)) (f : Buf (Elt F) ℓ) (hd : ∀ s t, s ≠ t → Disjoint (A s) (A t))
    (hc : ∀ y, y ∈ I ↔ ∃ t, y ∈ A t) : (ℓ ↦[I]{fullShare} f : sProp 𝕄) = bigSep Finset.univ fun t => ℓ ↦[A t]{fullShare} f := by
  rw [← pointsTo_biUnion Finset.univ A fun s _ t _ h => hd s t h]
  congr 1
  ext y
  rw [hc y, Finset.mem_biUnion]
  simp only [Finset.mem_univ, true_and]

/-- Parts by different numbers have nothing in common. -/
theorem parts_disjoint {ι T : Type} [Fintype ι] [DecidableEq ι] (key : ι → ℕ) (f : T → ℕ) (hf : Function.Injective f) (s t : T) (h : s ≠ t) :
    Disjoint (Finset.univ.filter fun y => key y = f s) (Finset.univ.filter fun y => key y = f t) := by
  refine Finset.disjoint_left.mpr fun y h1 h2 => h (hf ?_)
  rw [← (Finset.mem_filter.mp h1).2, ← (Finset.mem_filter.mp h2).2]

/-- The numbers below thirty-two of one parity, by their halves. -/
theorem deal_core {ι : Type} [Fintype ι] [DecidableEq ι] (key : ι → ℕ) (hk : ∀ y, key y < 32) {c : ℕ} (hc : c < 2) (y : ι) :
    y ∈ (Finset.univ.filter fun y => key y % 2 = c) ↔ ∃ s : Fin 16, y ∈ Finset.univ.filter fun y => key y = 2 * s.val + c := by
  simp only [Finset.mem_univ, true_and, Finset.mem_filter]
  constructor
  · intro h
    have := hk y
    exact ⟨⟨key y / 2, by omega⟩, by show key y = 2 * (key y / 2) + c; omega⟩
  · rintro ⟨s, h⟩; omega

/-- Every number is of one of the two parities. -/
theorem deal_all {ι : Type} [Fintype ι] [DecidableEq ι] (key : ι → ℕ) (y : ι) :
    y ∈ (Finset.univ : Finset ι) ↔ ∃ c : Fin 2, y ∈ Finset.univ.filter fun y => key y % 2 = c.val := by
  simp only [Finset.mem_univ, true_and, Finset.mem_filter, true_iff]
  exact ⟨⟨key y % 2, Nat.mod_lt _ (by decide)⟩, rfl⟩

theorem inKey_lt (y : S3906x4x128.Idx) : inKey y < 32 := Nat.mod_lt _ (by decide)
theorem restKey_lt (y : S32x4.Idx) : restKey y < 32 := by show 8 < 32; decide
theorem outKey_lt (y : S31250x4x128.Idx) : outKey y < 32 := Nat.mod_lt _ (by decide)

/-- A SparseCore's parts are its sixteen workers'. -/
theorem ofCore_workers {c : ℕ} (hc : c < 2) (xh xt g) :
    ofCore (F := F) d c xh xt g = bigSep Finset.univ fun s : Fin 16 => ofWorker (F := F) d (2 * s.val + c) xh xt g := by
  have hf : Function.Injective fun s : Fin 16 => 2 * s.val + c := fun s t h => Fin.ext (by have h' : 2 * s.val + c = 2 * t.val + c := h; omega)
  unfold ofCore ofWorker Arrays
  rw [bigSep_sep', bigSep_sep']
  refine congrArg₂ _ (pts_split (ℓ := inLoc d) _ (fun s : Fin 16 => inPart (2 * s.val + c)) _ (parts_disjoint inKey _ hf) (deal_core inKey inKey_lt hc)) (congrArg₂ _ ?_ ?_)
  · exact pts_split (ℓ := restLoc d) _ (fun s : Fin 16 => restPart (2 * s.val + c)) _ (parts_disjoint restKey _ hf) (deal_core restKey restKey_lt hc)
  · exact pts_split (ℓ := outLoc d) _ (fun s : Fin 16 => outPart (2 * s.val + c)) _ (parts_disjoint outKey _ hf) (deal_core outKey outKey_lt hc)

/-- The whole arrays are the two SparseCores' parts. -/
theorem whole_cores (xh xt g) :
    Arrays (F := F) d Finset.univ Finset.univ Finset.univ xh xt g = bigSep Finset.univ fun c : Fin 2 => ofCore (F := F) d c.val xh xt g := by
  have hf : Function.Injective fun c : Fin 2 => c.val := Fin.val_injective
  unfold ofCore Arrays
  rw [bigSep_sep', bigSep_sep']
  refine congrArg₂ _ (pts_split (ℓ := inLoc d) _ (fun c : Fin 2 => Finset.univ.filter fun y => inKey y % 2 = c.val) _ (parts_disjoint (fun y => inKey y % 2) _ hf) (deal_all inKey)) (congrArg₂ _ ?_ ?_)
  · exact pts_split (ℓ := restLoc d) _ (fun c : Fin 2 => Finset.univ.filter fun y => restKey y % 2 = c.val) _ (parts_disjoint (fun y => restKey y % 2) _ hf) (deal_all restKey)
  · exact pts_split (ℓ := outLoc d) _ (fun c : Fin 2 => Finset.univ.filter fun y => outKey y % 2 = c.val) _ (parts_disjoint (fun y => outKey y % 2) _ hf) (deal_all outKey)

end Arrays

variable [FloatOps F]

/-! ## The handovers -/

section Pay

variable (xh : Dev nD → S3906x4x128.Idx → BitVec 32) (xt : Dev nD → S32x4.Idx → BitVec 32) (g₀ : Dev nD → S31250x4x128.Idx → BitVec 32)

/-- What the call hands over, and takes back: the parts of the arrays, the output's before at `g₀` and after at what the kernel computes. -/
def P : (K (F := F)).Pay (nD := nD) (Val := Elt F) (Name := ℕ) (U := UU) where
  st := fun q d c => match q with | 0 => ofCore (F := F) d c.val (xh d) (xt d) (g₀ d)
  dn := fun q d c => match q with | 0 => ofCore (F := F) d c.val (xh d) (xt d) (outSpec (xh d) (xt d))
  go := fun q d c i => match q with | 0 => ofWorker (F := F) d (2 * i.val + c.val) (xh d) (xt d) (g₀ d)
  td := fun q d c i => match q with | 0 => ofWorker (F := F) d (2 * i.val + c.val) (xh d) (xt d) (outSpec (xh d) (xt d))
  x := fun _ _ => iprop(emp)

instance P_storable : (P (F := F) xh xt g₀).IsStorable where
  st q d c := match q with | 0 => (inferInstance : BI.Storable (upEmb : UEmb _ 𝕄) (ofCore (F := F) d c.val (xh d) (xt d) (g₀ d)))
  dn q d c := match q with | 0 => (inferInstance : BI.Storable (upEmb : UEmb _ 𝕄) (ofCore (F := F) d c.val (xh d) (xt d) (outSpec (xh d) (xt d))))
  go q d c i := match q with | 0 => (inferInstance : BI.Storable (upEmb : UEmb _ 𝕄) (ofWorker (F := F) d (2 * i.val + c.val) (xh d) (xt d) (g₀ d)))
  td q d c i := match q with | 0 => (inferInstance : BI.Storable (upEmb : UEmb _ 𝕄) (ofWorker (F := F) d (2 * i.val + c.val) (xh d) (xt d) (outSpec (xh d) (xt d))))

/-- A SparseCore deals its parts to its tiles and collects them. -/
theorem vecSplit : (K (F := F)).VecSplit' (P (F := F) xh xt g₀) 0 := by
  intro d c
  have hc : c.val < 2 := c.isLt
  show ofCore (F := F) d c.val (xh d) (xt d) (g₀ d) ⊢ |={Set.univ}=> iprop(
      (bigSep (Finset.univ : Finset (Fin 16)) fun i => ofWorker (F := F) d (2 * i.val + c.val) (xh d) (xt d) (g₀ d))
      ∗ ((bigSep (Finset.univ : Finset (Fin 16)) fun i => ofWorker (F := F) d (2 * i.val + c.val) (xh d) (xt d) (outSpec (xh d) (xt d)))
          -∗ ofCore (F := F) d c.val (xh d) (xt d) (outSpec (xh d) (xt d))))
  rw [ofCore_workers d hc, ofCore_workers d hc]
  iintro H; imodintro
  isplitl [H]; · iexact H
  iintro H; iexact H

end Pay

/-! ## The task -/

section Tile

variable (d : Dev nD)

omit [FloatOps F] in
/-- The seven semaphores of the kernel are among the tile's own: they are them and the rest. -/
theorem ownSems0_V (c : Fin τ.nSC) (j : Fin τ.nSub) :
    (ownSems0 (V d c j) : sProp 𝕄)
      = iprop(semVal ((V d c j, SemLoc.dma cc0_scoped0.sem) : GSem nD τ sig) 0 ∗ semVal ((V d c j, SemLoc.dma cc0_scoped1.sem) : GSem nD τ sig) 0 ∗ semVal ((V d c j, SemLoc.dma cc0_scoped2.sem) : GSem nD τ sig) 0 ∗ semVal ((V d c j, SemLoc.dma cc0_scoped3.sem) : GSem nD τ sig) 0 ∗ semVal ((V d c j, SemLoc.dma cc0_scoped4.sem) : GSem nD τ sig) 0 ∗ semVal ((V d c j, SemLoc.dma cc0_scoped5.sem) : GSem nD τ sig) 0 ∗ semVal ((V d c j, SemLoc.dma cc0_scoped6.sem) : GSem nD τ sig) 0
          ∗ bigSep ((((((((ownCells (V d c j)).erase ((V d c j, SemLoc.dma cc0_scoped0.sem) : GSem nD τ sig)).erase ((V d c j, SemLoc.dma cc0_scoped1.sem) : GSem nD τ sig)).erase ((V d c j, SemLoc.dma cc0_scoped2.sem) : GSem nD τ sig)).erase ((V d c j, SemLoc.dma cc0_scoped3.sem) : GSem nD τ sig)).erase ((V d c j, SemLoc.dma cc0_scoped4.sem) : GSem nD τ sig)).erase ((V d c j, SemLoc.dma cc0_scoped5.sem) : GSem nD τ sig)).erase ((V d c j, SemLoc.dma cc0_scoped6.sem) : GSem nD τ sig)) fun g => semVal g 0) := by
  have own : ∀ s : DmaSem sig, (SemLoc.dma s : SemLoc sig).isScoped .scVector = true → ((V d c j, SemLoc.dma s) : GSem nD τ sig) ∈ ownCells (V d c j) :=
    fun s hs => (mem_ownCells (g := ((V d c j, SemLoc.dma s) : GSem nD τ sig))).mpr ⟨rfl, hs⟩
  have ne : ∀ s t : DmaSem sig, s ≠ t → ((V d c j, SemLoc.dma s) : GSem nD τ sig) ≠ (V d c j, SemLoc.dma t) :=
    fun s t h e => h (SemLoc.dma.inj (Prod.mk.inj e).2)
  unfold SparseCore.Cfg.ownSems0
  rw [SparseCore.bigSep_erase' (own cc0_scoped0.sem (by decide)),
    SparseCore.bigSep_erase' (Finset.mem_erase.mpr ⟨ne cc0_scoped1.sem cc0_scoped0.sem (by decide), (own cc0_scoped1.sem (by decide))⟩),
    SparseCore.bigSep_erase' (Finset.mem_erase.mpr ⟨ne cc0_scoped2.sem cc0_scoped1.sem (by decide), (Finset.mem_erase.mpr ⟨ne cc0_scoped2.sem cc0_scoped0.sem (by decide), (own cc0_scoped2.sem (by decide))⟩)⟩),
    SparseCore.bigSep_erase' (Finset.mem_erase.mpr ⟨ne cc0_scoped3.sem cc0_scoped2.sem (by decide), (Finset.mem_erase.mpr ⟨ne cc0_scoped3.sem cc0_scoped1.sem (by decide), (Finset.mem_erase.mpr ⟨ne cc0_scoped3.sem cc0_scoped0.sem (by decide), (own cc0_scoped3.sem (by decide))⟩)⟩)⟩),
    SparseCore.bigSep_erase' (Finset.mem_erase.mpr ⟨ne cc0_scoped4.sem cc0_scoped3.sem (by decide), (Finset.mem_erase.mpr ⟨ne cc0_scoped4.sem cc0_scoped2.sem (by decide), (Finset.mem_erase.mpr ⟨ne cc0_scoped4.sem cc0_scoped1.sem (by decide), (Finset.mem_erase.mpr ⟨ne cc0_scoped4.sem cc0_scoped0.sem (by decide), (own cc0_scoped4.sem (by decide))⟩)⟩)⟩)⟩),
    SparseCore.bigSep_erase' (Finset.mem_erase.mpr ⟨ne cc0_scoped5.sem cc0_scoped4.sem (by decide), (Finset.mem_erase.mpr ⟨ne cc0_scoped5.sem cc0_scoped3.sem (by decide), (Finset.mem_erase.mpr ⟨ne cc0_scoped5.sem cc0_scoped2.sem (by decide), (Finset.mem_erase.mpr ⟨ne cc0_scoped5.sem cc0_scoped1.sem (by decide), (Finset.mem_erase.mpr ⟨ne cc0_scoped5.sem cc0_scoped0.sem (by decide), (own cc0_scoped5.sem (by decide))⟩)⟩)⟩)⟩)⟩),
    SparseCore.bigSep_erase' (Finset.mem_erase.mpr ⟨ne cc0_scoped6.sem cc0_scoped5.sem (by decide), (Finset.mem_erase.mpr ⟨ne cc0_scoped6.sem cc0_scoped4.sem (by decide), (Finset.mem_erase.mpr ⟨ne cc0_scoped6.sem cc0_scoped3.sem (by decide), (Finset.mem_erase.mpr ⟨ne cc0_scoped6.sem cc0_scoped2.sem (by decide), (Finset.mem_erase.mpr ⟨ne cc0_scoped6.sem cc0_scoped1.sem (by decide), (Finset.mem_erase.mpr ⟨ne cc0_scoped6.sem cc0_scoped0.sem (by decide), (own cc0_scoped6.sem (by decide))⟩)⟩)⟩)⟩)⟩)⟩)]

omit [FloatOps F] in
/-- The three buffers of the kernel are among the tile's own: they are them, at some contents, and the rest. -/
theorem ownBufs_V (c : Fin τ.nSC) (j : Fin τ.nSub) :
    (ownBufs (V d c j) : sProp 𝕄)
      = iprop((∃ f, (V d c j).loc cc0_scratch0 ↦{fullShare} f) ∗ (∃ f, (V d c j).loc cc0_scratch1 ↦{fullShare} f)
          ∗ (∃ f, (V d c j).loc cc0_scratch2 ↦{fullShare} f)
          ∗ bigSep ((((ownRefs (τ := τ) (.scVector c j)).erase ((Proc.scVector c j).devRef cc0_scratch0)).erase ((Proc.scVector c j).devRef cc0_scratch1)).erase ((Proc.scVector c j).devRef cc0_scratch2))
              fun b => iprop(∃ f, ((d, b) : Loc nD τ sig) ↦{fullShare} f)) := by
  have ne : ∀ r r' : Ref sig .scVector, r ≠ r' → (Proc.scVector c j).devRef r ≠ (Proc.scVector c j).devRef r' := fun r r' h e => h (Proc.devRef_injective _ e)
  have o0 := SparseCore.Cfg.mem_ownRefs_of_owner (p := Proc.scVector c j) (b := ((Proc.scVector c j).devRef cc0_scratch0)) rfl
  have o1 := SparseCore.Cfg.mem_ownRefs_of_owner (p := Proc.scVector c j) (b := ((Proc.scVector c j).devRef cc0_scratch1)) rfl
  have o2 := SparseCore.Cfg.mem_ownRefs_of_owner (p := Proc.scVector c j) (b := ((Proc.scVector c j).devRef cc0_scratch2)) rfl
  unfold SparseCore.Cfg.ownBufs
  refine (SparseCore.bigSep_erase' o0).trans ?_
  rw [SparseCore.bigSep_erase' (Finset.mem_erase.mpr ⟨ne cc0_scratch1 cc0_scratch0 (by decide), o1⟩),
    SparseCore.bigSep_erase' (Finset.mem_erase.mpr ⟨ne cc0_scratch2 cc0_scratch1 (by decide), Finset.mem_erase.mpr ⟨ne cc0_scratch2 cc0_scratch0 (by decide), o2⟩⟩)]

local notation "inA" => (Memref.whole Cert.KernelIdeal.main_v2_scv : Memref Cert.KernelIdeal.sig Kind.scVector Space.hbm Cert.KernelIdeal.S3906x4x128 EltTy.i32)
local notation "restA" => (Memref.whole Cert.KernelIdeal.main_v3_scv : Memref Cert.KernelIdeal.sig Kind.scVector Space.hbm Cert.KernelIdeal.S32x4 EltTy.i32)
local notation "outA" => (Memref.whole Cert.KernelIdeal.main_v4_scv : Memref Cert.KernelIdeal.sig Kind.scVector Space.hbm Cert.KernelIdeal.S31250x4x128 EltTy.i32)
local notation "inW" => (Memref.whole Cert.KernelIdeal.cc0_scratch0 : Memref Cert.KernelIdeal.sig Kind.scVector Space.vmem Cert.KernelIdeal.S8x4x128 EltTy.i32)
local notation "restW" => (Memref.whole Cert.KernelIdeal.cc0_scratch1 : Memref Cert.KernelIdeal.sig Kind.scVector Space.vmem Cert.KernelIdeal.S32x4 EltTy.i32)
local notation "outW" => (Memref.whole Cert.KernelIdeal.cc0_scratch2 : Memref Cert.KernelIdeal.sig Kind.scVector Space.vmem Cert.KernelIdeal.S64x4x128 EltTy.i32)

seal wp in
/-- The task on a tile takes the worker's parts with the output's at anything to the parts with the output's at what the kernel computes. -/
theorem tile_body (i : grid0.Coords) (xh : S3906x4x128.Idx → BitVec 32) (xt : S32x4.Idx → BitVec 32) (g₀ : S31250x4x128.Idx → BitVec 32)
    (O : CellTallies nD τ sig (HIx 1)) (W : Waits sig (HIx 1)) (hO : ∀ g, O g none = 0) :
    iprop(levAts (K (F := F)).L (K (F := F)).lev ∗ emp ∗ ofWorker (F := F) d (worker i) xh xt g₀
        ∗ scopedBufs (V d (cOf i) (jOf i)) ∗ scopedSems0 (V d (cOf i) (jOf i)) ∗ owes (V d (cOf i) (jOf i)) O W)
      ⊢ wp frame (wpE (defs₀ (F := F)) 𝒱₀ (V d (cOf i) (jOf i)) none) Set.univ (cc0__tec_body (F := F) i inA (Memref.isWhole_whole _) restA (Memref.isWhole_whole _) outA (Memref.isWhole_whole _) inW (Memref.isWhole_whole _) restW (Memref.isWhole_whole _) outW (Memref.isWhole_whole _) cc0_scoped0 cc0_scoped1 cc0_scoped2 cc0_scoped3 cc0_scoped4 cc0_scoped5 cc0_scoped6)
          fun _ => iprop(ofWorker (F := F) d (worker i) xh xt (outSpec xh xt) ∗ scopedBufs (V d (cOf i) (jOf i)) ∗ scopedSems0 (V d (cOf i) (jOf i))
            ∗ ∃ W', ⌜∀ p ∈ W', p ∈ W ∨ p.2 = none⌝ ∗ owes (V d (cOf i) (jOf i)) O W') := by
  have hb := body (F := F) d i (Memref.isWhole_whole _) (Memref.isWhole_whole _) (Memref.isWhole_whole _) (Memref.isWhole_whole _) (Memref.isWhole_whole _) (Memref.isWhole_whole _) cc0_scoped0 cc0_scoped1 cc0_scoped2 cc0_scoped3 cc0_scoped4 cc0_scoped5 cc0_scoped6 xh xt (O := O) (W := W) hO
  rw [(K (F := F)).scopedBufs_V facts d (cOf i) (jOf i), SparseCore.Cfg.scopedSems0_V (Val := Elt F) d (cOf i) (jOf i), ownSems0_V, ownBufs_V]
  unfold ofWorker Arrays
  unfold Held Shares Bufs Sems Owes at hb
  iintro ⟨#Hlv, -, ⟨Hi, Hr, Ho⟩, ⟨B0, B1, B2, Hbufs⟩, ⟨S0, S1, S2, S3, S4, S5, S6, Hsems⟩, HO⟩
  ihave Hp := hb $$ [Hi Hr Ho B0 B1 B2 S0 S1 S2 S3 S4 S5 S6 HO]
  · isplitr; · iexact Hlv
    isplitl [Hi Hr Ho B0 B1 B2]
    · isplitl [Hi Hr Ho]
      · isplitl [Hi]; · iexact Hi
        isplitl [Hr]; · iexact Hr
        iexists g₀; isplitr
        · ipureintro; exact Done.zero
        iexact Ho
      isplitl [B0]; · iexact B0
      isplitl [B1]; · iexact B1
      iexact B2
    isplitr [HO]
    · isplitl [S0]; · iexact S0
      isplitl [S1]; · iexact S1
      isplitl [S2]; · iexact S2
      isplitl [S3]; · iexact S3
      isplitl [S4]; · iexact S4
      isplitl [S5]; · iexact S5
      iexact S6
    iexists W; isplitr
    · ipureintro; exact fun p hp => .inl hp
    iexact HO
  iapply (wp_wand frame _ _) $$ Hp
  iintro %_ ⟨⟨⟨Hi, Hr, %g, %hg, Ho⟩, B0, B1, B2⟩, ⟨S0, S1, S2, S3, S4, S5, S6⟩, HO⟩
  have e : (outLoc d ↦[outPart (worker i)]{fullShare} g : sProp 𝕄) = outLoc d ↦[outPart (worker i)]{fullShare} outSpec xh xt :=
    pointsTo_congr fun y hy => hg y (Finset.mem_filter.mp hy).2 (by have h := (y 0).isLt; change (y 0).val < 31250 at h; omega)
  ihave Ho := (Entails.of_eq e) $$ Ho
  isplitl [Hi Hr Ho]
  · isplitl [Hi]; · iexact Hi
    isplitl [Hr]; · iexact Hr
    iexact Ho
  isplitl [B0 B1 B2 Hbufs]
  · isplitl [B0]; · iexact B0
    isplitl [B1]; · iexact B1
    isplitl [B2]; · iexact B2
    iexact Hbufs
  isplitr [HO]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact Hsems
  iexact HO

/-- The coordinate pair of a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__tec_body (coordsV c s) inA (Memref.isWhole_whole _) restA (Memref.isWhole_whole _) outA (Memref.isWhole_whole _) inW (Memref.isWhole_whole _) restW (Memref.isWhole_whole _) outW (Memref.isWhole_whole _) cc0_scoped0 cc0_scoped1 cc0_scoped2 cc0_scoped3 cc0_scoped4 cc0_scoped5 cc0_scoped6) ⟨⟩ c s := rfl

omit [FloatOps F] in
/-- What the task leaves of its waits, as the launch asks it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call does its task. -/
theorem tileObl (xh : Dev nD → S3906x4x128.Idx → BitVec 32) (xt : Dev nD → S32x4.Idx → BitVec 32) (g₀ : Dev nD → S31250x4x128.Idx → BitVec 32) :
    (K (F := F)).TileObl (D (F := F)) 𝒱 (P (F := F) xh xt g₀) v₀ 0 := by
  intro d c i O W hO _ _
  simp only [show (P (F := F) xh xt g₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (xh d) (xt d) (g₀ d) O W hO).trans (wp_mono frame _ _ fun _ => obl_post)

end Tile

end Cert.Proof.Vox

end
-- ==== Proof.Main.lean ====
/-
  The program around the call: the host's six operations, the launch, and what the program leaves in its result.

  `VA` are the arrays' contents when the call starts, `VB` when it returns, `VC` at the end. `run_main` says that every run ends
  with the argument as it was, the result at `VC`'s, and no semaphore above zero.
-/
module

public import proofs.«01_k».proof.Proof.Launch

@[expose] public section

noncomputable section

namespace Cert.Proof.Vox

open Cert.KernelIdeal Cert.KernelIdeal.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The host's operations -/

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

abbrev op0 : HloOp τ sig (Elt F) := StableHlo.unary main_arg0 main_v0 ((extractStridedSlice S499968x4 ![0, 0] · slices_S500000x4_S499968x4_0_0) : (⟨S500000x4, .i32⟩ : BufTy).Contents (Elt F) → (⟨S499968x4, .i32⟩ : BufTy).Contents (Elt F))
abbrev op1 : HloOp τ sig (Elt F) := StableHlo.reshape main_v0 main_v1 (rfl : (.i32 : EltTy) = .i32) shapeCasts_S499968x4_S3906x128x4
abbrev op2 : HloOp τ sig (Elt F) := StableHlo.unary main_v1 main_v2 ((transpose S3906x4x128 [0, 2, 1] · transposes_S3906x128x4_S3906x4x128_0_2_1) : (⟨S3906x128x4, .i32⟩ : BufTy).Contents (Elt F) → (⟨S3906x4x128, .i32⟩ : BufTy).Contents (Elt F))
abbrev op3 : HloOp τ sig (Elt F) := StableHlo.unary main_arg0 main_v3 ((extractStridedSlice S32x4 ![499968, 0] · slices_S500000x4_S32x4_499968_0) : (⟨S500000x4, .i32⟩ : BufTy).Contents (Elt F) → (⟨S32x4, .i32⟩ : BufTy).Contents (Elt F))
abbrev op5 : HloOp τ sig (Elt F) := StableHlo.unary main_v4 main_v5 ((transpose S31250x128x4 [0, 2, 1] · transposes_S31250x4x128_S31250x128x4_0_2_1) : (⟨S31250x4x128, .i32⟩ : BufTy).Contents (Elt F) → (⟨S31250x128x4, .i32⟩ : BufTy).Contents (Elt F))
abbrev op6 : HloOp τ sig (Elt F) := StableHlo.reshape main_v5 main_v6 (rfl : (.i32 : EltTy) = .i32) shapeCasts_S31250x128x4_S4000000x4

/-- The program's arrays. -/
abbrev S8 : Finset (DevRef τ sig) := {a0', v0', v1', v2', v3', v4', v5', v6'}

omit [FloatOps F] in
/-- To hold the arrays is to hold each. -/
theorem held_S8 (d : Dev nD) (W : Valuation τ sig (Elt F)) :
    (held (T d) S8 W : sProp 𝕄) = iprop(((SparseCore.T d).loc main_arg0 ↦{fullShare} W a0') ∗ ((SparseCore.T d).loc main_v0 ↦{fullShare} W v0') ∗ ((SparseCore.T d).loc main_v1 ↦{fullShare} W v1') ∗ ((SparseCore.T d).loc main_v2 ↦{fullShare} W v2') ∗ ((SparseCore.T d).loc main_v3 ↦{fullShare} W v3') ∗ ((SparseCore.T d).loc main_v4 ↦{fullShare} W v4') ∗ ((SparseCore.T d).loc main_v5 ↦{fullShare} W v5') ∗ ((SparseCore.T d).loc main_v6 ↦{fullShare} W v6')) := by
  unfold held S8
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6)) := by
  unfold unscopedBufs
  rw [show (Finset.univ.filter fun b : Ref sig .tc => ¬ b.isScoped) = {main_arg0, main_v0, main_v1, main_v2, main_v3, main_v4, main_v5, main_v6} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

variable (m : (ℓ : Loc nD τ sig) → Buf (Elt F) ℓ) (ρ : Dev nD → PrngReg)

/-- The arrays' contents at the start. -/
def V0 (d : Dev nD) : Valuation τ sig (Elt F) := fun b => m (d, b)

omit [FloatOps F] in
theorem unscoped_held (d : Dev nD) : (unscopedBufs d (fun b => m ((SparseCore.T d).loc b)) : sProp 𝕄) = held (T d) S8 (V0 m d) := by
  rw [unscopedBufs_eq, held_S8]; rfl

/-- The arrays' contents when the call starts. -/
def VA (d : Dev nD) : Valuation τ sig (Elt F) := (op3 (F := F)).result ((op2 (F := F)).result ((op1 (F := F)).result ((op0 (F := F)).result (V0 m d))))
/-- The whole input tiles, the last voxels and the output array when the call starts. -/
def XH (d : Dev nD) : S3906x4x128.Idx → BitVec 32 := VA m d v2'
@[inherit_doc XH] def XT (d : Dev nD) : S32x4.Idx → BitVec 32 := VA m d v3'
@[inherit_doc XH] def G0 (d : Dev nD) : S31250x4x128.Idx → BitVec 32 := VA m d v4'
/-- The arrays' contents when the call returns. -/
def VB (d : Dev nD) : Valuation τ sig (Elt F) := Function.update (VA m d) v4' (outSpec (XH m d) (XT m d))
/-- The arrays' contents at the end. -/
def VC (d : Dev nD) : Valuation τ sig (Elt F) := (op6 (F := F)).result ((op5 (F := F)).result (VB m d))

theorem sub0 : (op0 (F := F)).bufs ⊆ S8 := show ({a0', v0'} : Finset (DevRef τ sig)) ⊆ S8 by decide
theorem sub1 : (op1 (F := F)).bufs ⊆ S8 := show ({v0', v1'} : Finset (DevRef τ sig)) ⊆ S8 by decide
theorem sub2 : (op2 (F := F)).bufs ⊆ S8 := show ({v1', v2'} : Finset (DevRef τ sig)) ⊆ S8 by decide
theorem sub3 : (op3 (F := F)).bufs ⊆ S8 := show ({a0', v3'} : Finset (DevRef τ sig)) ⊆ S8 by decide
theorem sub5 : (op5 (F := F)).bufs ⊆ S8 := show ({v4', v5'} : Finset (DevRef τ sig)) ⊆ S8 by decide
theorem sub6 : (op6 (F := F)).bufs ⊆ S8 := show ({v5', v6'} : Finset (DevRef τ sig)) ⊆ S8 by decide

theorem VB_v4 (d : Dev nD) : VB m d v4' = outSpec (XH m d) (XT m d) := Function.update_self _ _ _
theorem VB_a0 (d : Dev nD) : VB m d a0' = VA m d a0' := Function.update_of_ne (show a0' ≠ v4' by decide) _ _
theorem VB_v0 (d : Dev nD) : VB m d v0' = VA m d v0' := Function.update_of_ne (show v0' ≠ v4' by decide) _ _
theorem VB_v1 (d : Dev nD) : VB m d v1' = VA m d v1' := Function.update_of_ne (show v1' ≠ v4' by decide) _ _
theorem VB_v2 (d : Dev nD) : VB m d v2' = VA m d v2' := Function.update_of_ne (show v2' ≠ v4' by decide) _ _
theorem VB_v3 (d : Dev nD) : VB m d v3' = VA m d v3' := Function.update_of_ne (show v3' ≠ v4' by decide) _ _
theorem VB_v5 (d : Dev nD) : VB m d v5' = VA m d v5' := Function.update_of_ne (show v5' ≠ v4' by decide) _ _
theorem VB_v6 (d : Dev nD) : VB m d v6' = VA m d v6' := Function.update_of_ne (show v6' ≠ v4' by decide) _ _

/-- The argument is never written. -/
theorem VC_a0 (d : Dev nD) : VC m d a0' = m ((SparseCore.T d).loc main_arg0) := by
  unfold VC
  rw [(op6 (F := F)).result_of_not_mem _ (b := a0') (show a0' ∉ ({v6'} : Finset (DevRef τ sig)) by decide), (op5 (F := F)).result_of_not_mem _ (b := a0') (show a0' ∉ ({v5'} : Finset (DevRef τ sig)) by decide), VB_a0]
  unfold VA
  rw [(op3 (F := F)).result_of_not_mem _ (b := a0') (show a0' ∉ ({v3'} : Finset (DevRef τ sig)) by decide), (op2 (F := F)).result_of_not_mem _ (b := a0') (show a0' ∉ ({v2'} : Finset (DevRef τ sig)) by decide), (op1 (F := F)).result_of_not_mem _ (b := a0') (show a0' ∉ ({v1'} : Finset (DevRef τ sig)) by decide), (op0 (F := F)).result_of_not_mem _ (b := a0') (show a0' ∉ ({v0'} : Finset (DevRef τ sig)) by decide)]
  rfl

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The handshakes' part of the launch's resources; the kernel asks for nothing of its own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (F := F) (XH m) (XT m) (G0 m)).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program on the host -/

/-- What the call takes for the two SparseCores is the three arrays, and what it hands back is the three arrays. -/
theorem st0_eq (d : Dev nD) : (bigSep Finset.univ fun c : Fin ((K (F := F)).nCore 0) => (P (F := F) (XH m) (XT m) (G0 m)).st 0 d c)
    = Arrays (F := F) d Finset.univ Finset.univ Finset.univ (XH m d) (XT m d) (G0 m d) := (whole_cores d _ _ _).symm
@[inherit_doc st0_eq] theorem dn0_eq (d : Dev nD) : (bigSep Finset.univ fun c : Fin ((K (F := F)).nCore 0) => (P (F := F) (XH m) (XT m) (G0 m)).dn 0 d c)
    = Arrays (F := F) d Finset.univ Finset.univ Finset.univ (XH m d) (XT m d) (outSpec (XH m d) (XT m d)) := (whole_cores d _ _ _).symm

/-- What the program leaves the claim: the argument as it was, the result at `VC`'s. -/
abbrev FIN (d : Dev nD) : sProp 𝕄 :=
  iprop(((SparseCore.T d).loc main_arg0 ↦{fullShare} m ((SparseCore.T d).loc main_arg0)) ∗ ((SparseCore.T d).loc main_v6 ↦{fullShare} VC m d v6'))

/-- The program on a device's host: four operations, the call, two operations. -/
theorem hmain (κ : GSem nD τ sig → ℕ) (d : Dev nD) :
    iprop((K (F := F)).ctx EH (P (F := F) (XH m) (XT m) (G0 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S8) sub0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S8) sub1 (V := (op0 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op2) (S := S8) sub2 (V := (op1 (F := F)).result ((op0 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S8) sub3 (V := (op2 (F := F)).result ((op1 (F := F)).result ((op0 (F := F)).result (V0 m d))))) $$ [Hb Hheld]
  · isplitl [Hb]; · iexact Hb
    iexact Hheld
  iintro ⟨Hb, Hheld⟩
  rw [wp_ret]; imodintro
  rw [show (op3 (F := F)).result ((op2 (F := F)).result ((op1 (F := F)).result ((op0 (F := F)).result (V0 m d)))) = VA m d from rfl]
  ihave Hh := (Entails.of_eq (held_S8 (F := F) d (VA m d))) $$ Hheld
  icases Hh with ⟨Ha0, H0, H1, H2, H3, H4, H5, H6⟩
  iapply ((K (F := F)).wp_run (D (F := F)) 𝒱 (EH := EH) (P := P (F := F) (XH m) (XT m) (G0 m)) κ d 0) $$ [Hst Ha0 H0 H1 H2 H3 H4 H5 H6 Hb Hts]
  isplitr; · iexact Hctx
  isplitl [Hst]; · iexact Hst
  isplitl [H2 H3 H4]
  · rw [st0_eq]
    unfold Arrays
    isplitl [H2]; · iexact H2
    isplitl [H3]; · iexact H3
    iexact H4
  iintro ⟨Hst, Hdn⟩
  ihave Hdn' := (Entails.of_eq (dn0_eq m d)) $$ Hdn
  unfold Arrays
  icases Hdn' with ⟨H2, H3, H4⟩
  ihave Hheld := (Entails.of_eq (held_S8 (F := F) d (VB m d)).symm) $$ [Ha0 H0 H1 H2 H3 H4 H5 H6]
  · rw [VB_a0, VB_v0, VB_v1, VB_v2, VB_v3, VB_v4, VB_v5, VB_v6]
    isplitl [Ha0]; · iexact Ha0
    isplitl [H0]; · iexact H0
    isplitl [H1]; · iexact H1
    isplitl [H2]; · iexact H2
    isplitl [H3]; · iexact H3
    isplitl [H4]; · iexact H4
    isplitl [H5]; · iexact H5
    iexact H6
  iapply (wp_hlo_within 𝒱 (SparseCore.T d) none Set.univ (op := op5) (S := S8) sub5 (V := VB m d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := S8) sub6 (V := (op5 (F := F)).result (VB m d))) $$ [Hb Hheld]
  · isplitl [Hb]; · iexact Hb
    iexact Hheld
  iintro ⟨Hb, Hheld⟩
  rw [wp_ret]; imodintro
  rw [show (op6 (F := F)).result ((op5 (F := F)).result (VB m d)) = VC m d from rfl]
  ihave Hh := (Entails.of_eq (held_S8 (F := F) d (VC m d))) $$ Hheld
  icases Hh with ⟨Ha0, -, -, -, -, -, -, H6⟩
  imodintro
  rw [VC_a0]
  isplitl [Hst]; · iexact Hst
  isplitl [Ha0 H6]
  · isplitl [Ha0]; · iexact Ha0
    iexact H6
  isplitl [Hb] <;> iassumption

/-- What a final state says of device `d`. -/
def fq (d : Dev nD) (s' : Phys nD τ sig (Elt F)) : Prop :=
  s'.mem.mem ((SparseCore.T d).loc main_arg0) = m ((SparseCore.T d).loc main_arg0) ∧ s'.mem.mem ((SparseCore.T d).loc main_v6) = VC m d v6'

/-- A state of a held array is at what it is held at. -/
theorem held_at (s' : Phys nD τ sig (Elt F)) (ℓ : Loc nD τ sig) (f : Buf (Elt F) ℓ) :
    iprop(SI s' ∗ (ℓ ↦{fullShare} f)) ⊢ (⌜s'.mem.mem ℓ = f⌝ : sProp 𝕄) := by
  refine (SI_pointsTo_agree (st := s') (ℓ := ℓ) (I := Finset.univ) (q := fullShare) (f := f)).trans ?_
  iintro %h
  ipureintro; exact funext fun i => h i (Finset.mem_univ i)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (held_at (F := F) s' ((SparseCore.T d).loc main_arg0) _)) $$ [HSI Ha]
  · isplitl [HSI] <;> iassumption
  icases H with ⟨%ha, HSI, -⟩
  ihave H := (held_at (F := F) s' ((SparseCore.T d).loc main_v6) _) $$ [HSI Hr]
  · isplitl [HSI] <;> iassumption
  icases H with %hr
  ipureintro; exact ⟨ha, hr⟩

/-- What a run ends with. -/
def QC : PUnit × MemSt nD τ sig (Elt F) → Prop := fun r =>
  (∀ c : Dev nD, r.2.mem ((SparseCore.T c).loc main_arg0) = m ((SparseCore.T c).loc main_arg0) ∧ r.2.mem ((SparseCore.T c).loc main_v6) = VC m c v6') ∧ r.2.sem = fun _ => 0

/-- Every run of the program ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (F := F) (XH m) (XT m) (G0 m)) (A := ∅) facts v₀
    (fun q hq => match q with | 0 => nomatch hq)
    (fun q _ => match q with | 0 => tileObl (XH m) (XT m) (G0 m))
    (fun q _ => match q with | 0 => SparseCore.Cfg.VecSplit.of_plain (vecSplit (XH m) (XT m) (G0 m)))
    m ρ main (fun _ => iprop(emp)) (FIN m) (u₀ (F := F)) (sep_elim_left.trans (hu₀ m)) (hmain m ρ) (fq m) (hfin m) (QC m) (fun _ h hz => ⟨h, hz⟩)

end Cert.Proof.Vox

end
-- ==== Proof.Value.lean ====
/-
  The values of the two programs, entry by entry.

  `voxelSpec a` is the result as a function of the argument `a`: row `8 n + s` is voxel `n`, its coordinates doubled and offset to corner `s`.
  `kernel_value` says that the kernel's program leaves it, `reference_value` that the reference does.
-/
module

public import proofs.«01_k».proof.Proof.Main
public import proofs.«01_k».proof.Proof.Gen.ReferenceIdeal

@[expose] public section

noncomputable section

namespace Cert.Proof.Vox

open Cert.KernelIdeal Cert.KernelIdeal.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The result of the argument `a`: row `8 n + s` is voxel `n` at corner `s`. -/
def voxelSpec (a : S500000x4.Idx → BitVec 32) : S4000000x4.Idx → BitVec 32 := fun y =>
  a (ix2 ⟨(y 0).val / 8, by have := (y 0).isLt; change (y 0).val < 4000000 at this; show _ < 500000; omega⟩ (y 1)) * mulOf (y 1) + bitOf (y 1) ((y 0).val % 8)

/-- The whole input tiles, entry by entry: tile `z₀` has voxels `128 z₀` to `128 z₀ + 127`, one to a column. -/
theorem tiles_apply (a : S500000x4.Idx → BitVec 32) (z : S3906x4x128.Idx) (k : S500000x4.Idx) (h0 : (k 0).val = 128 * (z 0).val + (z 2).val) (h1 : (k 1).val = (z 1).val) :
    transpose S3906x4x128 [0, 2, 1] (shapeCast S3906x128x4 (extractStridedSlice S499968x4 ![0, 0] a slices_S500000x4_S499968x4_0_0) shapeCasts_S499968x4_S3906x128x4)
      transposes_S3906x128x4_S3906x4x128_0_2_1 z = a k := by
  have hz0 : (z 0).val < 3906 := (z 0).isLt
  have hz2 : (z 2).val < 128 := (z 2).isLt
  have hz1 : (z 1).val < 4 := (z 1).isLt
  refine (transpose_apply _ _ _ z (ix3 (z 0) (z 2) (z 1)) (by intro b; match b with | 0 => rfl | 1 => rfl | 2 => rfl)).trans ?_
  refine (shapeCast_apply _ _ _ (ix2 (⟨128 * (z 0).val + (z 2).val, by omega⟩ : Fin 499968) (z 1)) (by
      refine (Shape.rowMajor_val_two _).trans (Eq.trans ?_ (Shape.rowMajor_val_three _).symm)
      show (128 * (z 0).val + (z 2).val) * 4 + (z 1).val = ((z 0).val * 128 + (z 2).val) * 4 + (z 1).val
      omega)).trans ?_
  refine extractStridedSlice_apply _ _ _ _ k fun b => ?_
  match b with
  | 0 => show (k 0).val = 0 + (128 * (z 0).val + (z 2).val); omega
  | 1 => show (k 1).val = 0 + (z 1).val; omega

/-- The last voxels, entry by entry. -/
theorem last_apply (a : S500000x4.Idx → BitVec 32) (z : S32x4.Idx) (k : S500000x4.Idx) (h0 : (k 0).val = 499968 + (z 0).val) (h1 : (k 1).val = (z 1).val) :
    extractStridedSlice S32x4 ![499968, 0] a slices_S500000x4_S32x4_499968_0 z = a k := by
  refine extractStridedSlice_apply _ _ _ _ k fun b => ?_
  match b with
  | 0 => exact h0
  | 1 => show (k 1).val = 0 + (z 1).val; omega

/-- The result of an output array, entry by entry: its tiles are 128 rows each. -/
theorem result_apply (g : S31250x4x128.Idx → BitVec 32) (y : S4000000x4.Idx) (k : S31250x4x128.Idx) (h0 : (k 0).val = (y 0).val / 128) (h1 : (k 1).val = (y 1).val)
    (h2 : (k 2).val = (y 0).val % 128) :
    shapeCast S4000000x4 (transpose S31250x128x4 [0, 2, 1] g transposes_S31250x4x128_S31250x128x4_0_2_1) shapeCasts_S31250x128x4_S4000000x4 y = g k := by
  refine (shapeCast_apply _ _ _ (ix3 (k 0) (k 2) (k 1)) (by
      rw [Shape.rowMajor_val_two, Shape.rowMajor_val_three]
      show ((k 0).val * 128 + (k 2).val) * 4 + (k 1).val = (y 0).val * 4 + (y 1).val
      omega)).trans ?_
  exact transpose_apply _ _ _ _ k (by intro b; match b with | 0 => rfl | 1 => rfl | 2 => rfl)

/-- The kernel's output array, read as the result, is what the argument asks for. -/
theorem outSpec_result (a : S500000x4.Idx → BitVec 32) :
    shapeCast S4000000x4 (transpose S31250x128x4 [0, 2, 1]
      (outSpec (transpose S3906x4x128 [0, 2, 1] (shapeCast S3906x128x4 (extractStridedSlice S499968x4 ![0, 0] a slices_S500000x4_S499968x4_0_0) shapeCasts_S499968x4_S3906x128x4)
        transposes_S3906x128x4_S3906x4x128_0_2_1) (extractStridedSlice S32x4 ![499968, 0] a slices_S500000x4_S32x4_499968_0))
      transposes_S31250x4x128_S31250x128x4_0_2_1) shapeCasts_S31250x128x4_S4000000x4 = voxelSpec a := by
  funext y
  have hy : (y 0).val < 4000000 := (y 0).isLt
  rw [result_apply _ y (ix3 (⟨(y 0).val / 128, by omega⟩ : Fin 31250) (y 1) (⟨(y 0).val % 128, Nat.mod_lt _ (by decide)⟩ : Fin 128)) rfl rfl rfl]
  unfold outSpec voxelSpec
  have hb : (y 0).val % 128 % 8 = (y 0).val % 8 := by omega
  show (if h : (y 0).val / 128 < 31248 then _ else _) * mulOf (y 1) + bitOf (y 1) ((y 0).val % 128 % 8) = _
  rw [hb]
  congr 2
  split
  · rename_i h
    refine tiles_apply a _ _ ?_ rfl
    show (y 0).val / 8 = 128 * ((y 0).val / 128 / 8) + (16 * ((y 0).val / 128 % 8) + (y 0).val % 128 / 8)
    omega
  · rename_i h
    refine last_apply a _ _ ?_ rfl
    show (y 0).val / 8 = 499968 + (16 * ((y 0).val / 128 - 31248) + (y 0).val % 128 / 8) % 32
    omega

section Kernel

variable [FloatOps F] (m : (ℓ : Loc nD τ sig) → Buf (Elt F) ℓ)

/-- The whole input tiles and the last voxels when the call starts, of the argument. -/
theorem XH_eq (d : Dev nD) : XH m d = transpose S3906x4x128 [0, 2, 1] (shapeCast S3906x128x4 (extractStridedSlice S499968x4 ![0, 0]
    (m ((SparseCore.T d).loc main_arg0) : S500000x4.Idx → BitVec 32) slices_S500000x4_S499968x4_0_0) shapeCasts_S499968x4_S3906x128x4) transposes_S3906x128x4_S3906x4x128_0_2_1 := by
  unfold XH VA
  rw [StableHlo.unary_result_ne (h := show main_v2 ≠ main_v3 by decide), StableHlo.unary_result, StableHlo.reshape_result, StableHlo.unary_result]
  rfl
@[inherit_doc XH_eq] theorem XT_eq (d : Dev nD) : XT m d = extractStridedSlice S32x4 ![499968, 0] (m ((SparseCore.T d).loc main_arg0) : S500000x4.Idx → BitVec 32) slices_S500000x4_S32x4_499968_0 := by
  unfold XT VA
  rw [StableHlo.unary_result, StableHlo.unary_result_ne (h := show main_arg0 ≠ main_v2 by decide), StableHlo.reshape_result_ne (h := show main_arg0 ≠ main_v1 by decide),
    StableHlo.unary_result_ne (h := show main_arg0 ≠ main_v0 by decide)]
  rfl

/-- The kernel's program leaves what the argument asks for. -/
theorem kernel_value (d : Dev nD) : VC m d v6' = voxelSpec (m ((SparseCore.T d).loc main_arg0)) := by
  rw [← outSpec_result, ← XH_eq, ← XT_eq]
  unfold VC
  rw [StableHlo.reshape_result, StableHlo.unary_result, VB_v4]
  rfl

end Kernel

/-! ## The reference -/

section Reference

open Cert.ReferenceIdeal.Gen in
/-- The reference's value is what the argument asks for. -/
theorem reference_value (a : Cert.ReferenceIdeal.S500000x4.Idx → BitVec 32) :
    shapeCast Cert.ReferenceIdeal.S4000000x4 (addi (broadcastInDim Cert.ReferenceIdeal.S500000x8x4 ![0, 1, 2] Cert.ReferenceIdeal.Gen.bcast_S500000x1x4_S500000x8x4_0_1_2
      (muli (broadcastInDim Cert.ReferenceIdeal.S500000x1x4 ![0, 2] Cert.ReferenceIdeal.Gen.bcast_S500000x4_S500000x1x4_0_2 a)
        (broadcastInDim Cert.ReferenceIdeal.S500000x1x4 ![0, 1, 2] Cert.ReferenceIdeal.Gen.bcast_S1x1x4_S500000x1x4_0_1_2 (fun i => Cert.ReferenceIdeal.lit1 (Cert.ReferenceIdeal.S1x1x4.rowMajor i)))))
      (broadcastInDim Cert.ReferenceIdeal.S500000x8x4 ![0, 1, 2] Cert.ReferenceIdeal.Gen.bcast_S1x8x4_S500000x8x4_0_1_2 (fun i => Cert.ReferenceIdeal.lit0 (Cert.ReferenceIdeal.S1x8x4.rowMajor i))))
      Cert.ReferenceIdeal.Gen.shapeCasts_S500000x8x4_S4000000x4 = voxelSpec a := by
  funext y
  have hy : (y 0).val < 4000000 := (y 0).isLt
  have hy1 : (y 1).val < 4 := (y 1).isLt
  have m1 : ∀ j : Fin 4, Cert.ReferenceIdeal.lit1 (Cert.ReferenceIdeal.S1x1x4.rowMajor (ix3 (0 : Fin 1) (0 : Fin 1) j)) = mulOf j := by decide
  have m0 : ∀ (c : Fin 8) (j : Fin 4), Cert.ReferenceIdeal.lit0 (Cert.ReferenceIdeal.S1x8x4.rowMajor (ix3 (0 : Fin 1) c j)) = bitOf j c.val := by decide
  refine (shapeCast_apply _ _ _ (ix3 (⟨(y 0).val / 8, by omega⟩ : Fin 500000) (⟨(y 0).val % 8, Nat.mod_lt _ (by decide)⟩ : Fin 8) (y 1)) (by
      rw [Shape.rowMajor_val_two, Shape.rowMajor_val_three]
      show ((y 0).val / 8 * 8 + (y 0).val % 8) * 4 + (y 1).val = (y 0).val * 4 + (y 1).val
      omega)).trans ?_
  refine congrArg₂ (· + ·) ((broadcastInDim_apply _ _ _ _ (ix3 (⟨(y 0).val / 8, by omega⟩ : Fin 500000) (0 : Fin 1) (y 1)) (by intro b; match b with | 0 => rfl | 1 => rfl | 2 => rfl)).trans
      (congrArg₂ (· * ·) ?_ ?_))
    ((broadcastInDim_apply _ _ _ _ (ix3 (0 : Fin 1) (⟨(y 0).val % 8, Nat.mod_lt _ (by decide)⟩ : Fin 8) (y 1)) (by intro b; match b with | 0 => rfl | 1 => rfl | 2 => rfl)).trans (m0 _ (y 1)))
  · exact broadcastInDim_apply _ _ _ _ (ix2 (⟨(y 0).val / 8, by omega⟩ : Fin 500000) (y 1)) (by intro b; match b with | 0 => rfl | 1 => rfl)
  · exact (broadcastInDim_apply _ _ _ _ (ix3 (0 : Fin 1) (0 : Fin 1) (y 1)) (by intro b; match b with | 0 => rfl | 1 => rfl | 2 => rfl)).trans (m1 (y 1))

end Reference

end Cert.Proof.Vox

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The kernel as printed runs, keeps its argument and leaves every semaphore at zero. -/
theorem frame_kernel : Cert.quiescent_Kernel := fun m ρ _ =>
  (θ_run Cert.KernelIdeal.defs _ _).mono (fun _ h => ⟨fun c => (h.1 c).1, h.2⟩) (Vox.run_main (F := Bits) m ρ)

/-- So does its idealization. -/
theorem frame_kernelIdeal : Cert.quiescent_KernelIdeal := fun m ρ _ =>
  (θ_run Cert.KernelIdeal.defs _ _).mono (fun _ h => ⟨fun c => (h.1 c).1, h.2⟩) (Vox.run_main (F := Ideal) m ρ)

/-- So does the reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The idealization and the reference end with the same result. -/
theorem algebraic : Cert.algebraic_KernelIdeal_ReferenceIdeal := by
  intro m ρ m' ρ' _ hagree
  refine ⟨fun c => Vox.voxelSpec (m ((c.tc : Thread Cert.KernelIdeal.nD Cert.KernelIdeal.τ).loc Cert.KernelIdeal.main_arg0)),
    (θ_run Cert.KernelIdeal.defs _ _).mono (fun _ h c => ⟨(h.1 c).2.trans (Vox.kernel_value m c), (h.1 c).1⟩) (Vox.run_main (F := Ideal) m ρ), ?_⟩
  refine (θ_run Cert.ReferenceIdeal.defs _ _).mono (fun _ h c => ⟨(h c).1.trans ((Vox.reference_value _).trans ?_), (h c).2⟩) (Cert.ReferenceIdeal.Value.run (F := Ideal) m' ρ')
  exact congrArg Vox.voxelSpec (hagree c)

theorem claim : Cert.Claim :=
  ⟨Cert.Kernel.Gen.facts, Cert.KernelIdeal.Gen.facts, Cert.ReferenceIdeal.Gen.facts, frame_kernel, frame_kernelIdeal, frame_referenceIdeal, trivial, algebraic⟩

end Cert.Proof

end
